-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v83) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_v85) = v4 c
          ∧ r.2.mem ((c.tc : Thread Cert.Reference2Ideal.nD Cert.Reference2Ideal.τ).loc Cert.Reference2Ideal.main_v86) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v49) = v0 c
          ∧ r.2.mem ((c.tc : Thread Cert.Reference14Ideal.nD Cert.Reference14Ideal.τ).loc Cert.Reference14Ideal.main_v48) = v1 c
          ∧ r.2.mem ((c.tc : Thread Cert.Reference14Ideal.nD Cert.Reference14Ideal.τ).loc Cert.Reference14Ideal.main_v32) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S1024x6144 : Shape := ⟨2, ![1024, 6144]⟩
abbrev S96x1024 : Shape := ⟨2, ![96, 1024]⟩
abbrev S_ : Shape := ⟨0, ![]⟩

class Facts : Prop where
  bitsLt_bf16_f32 : FTy.bits .bf16 < FTy.bits .f32
  bcast_S_S1024x6144 : S_.BroadcastsInDim S1024x6144 (![] : Fin 0 → Fin S1024x6144.rank)
  bcast_S_S96x1024 : S_.BroadcastsInDim S96x1024 (![] : Fin 0 → Fin S96x1024.rank)

variable [Facts]

def fn {F : FTy → Type} [FloatOps F] (main_arg0 : FVec F S1024x6144 .bf16) (main_arg1 : FVec F S1024x6144 .bf16) (main_arg2 : FVec F S1024x6144 .bf16) (main_arg3 : FVec F S1024x6144 .bf16) (main_arg4 : FVec F S96x1024 .f32) : IVec S1024x6144 1 × IVec S1024x6144 1 × IVec S1024x6144 1 × IVec S1024x6144 1 × IVec S96x1024 1 :=
  let main_v0 : FVec F S1024x6144 .f32 := (extf .f32 · bitsLt_bf16_f32) main_arg0
  let main_v1 : FVec F S1024x6144 .f32 := Host.absf main_v0
  let main_cst : FVec F S_ .f32 := constant S_ .f32 0x7F800000#32
  let main_v2 : FVec F S1024x6144 .f32 := broadcastInDim S1024x6144 ![] bcast_S_S1024x6144 main_cst
  let main_v3 : IVec S1024x6144 1 := cmpf .olt main_v1 main_v2
  let main_v4 : FVec F S1024x6144 .f32 := (extf .f32 · bitsLt_bf16_f32) main_arg1
  let main_v5 : FVec F S1024x6144 .f32 := Host.absf main_v4
  let main_cst_0 : FVec F S_ .f32 := constant S_ .f32 0x7F800000#32
  let main_v6 : FVec F S1024x6144 .f32 := broadcastInDim S1024x6144 ![] bcast_S_S1024x6144 main_cst_0
  let main_v7 : IVec S1024x6144 1 := cmpf .olt main_v5 main_v6
  let main_v8 : FVec F S1024x6144 .f32 := (extf .f32 · bitsLt_bf16_f32) main_arg2
  let main_v9 : FVec F S1024x6144 .f32 := Host.absf main_v8
  let main_cst_1 : FVec F S_ .f32 := constant S_ .f32 0x7F800000#32
  let main_v10 : FVec F S1024x6144 .f32 := broadcastInDim S1024x6144 ![] bcast_S_S1024x6144 main_cst_1
  let main_v11 : IVec S1024x6144 1 := cmpf .olt main_v9 main_v10
  let main_v12 : FVec F S1024x6144 .f32 := (extf .f32 · bitsLt_bf16_f32) main_arg3
  let main_v13 : FVec F S1024x6144 .f32 := Host.absf main_v12
  let main_cst_2 : FVec F S_ .f32 := constant S_ .f32 0x7F800000#32
  let main_v14 : FVec F S1024x6144 .f32 := broadcastInDim S1024x6144 ![] bcast_S_S1024x6144 main_cst_2
  let main_v15 : IVec S1024x6144 1 := cmpf .olt main_v13 main_v14
  let main_v16 : FVec F S96x1024 .f32 := Host.absf main_arg4
  let main_cst_3 : FVec F S_ .f32 := constant S_ .f32 0x7F800000#32
  let main_v17 : FVec F S96x1024 .f32 := broadcastInDim S96x1024 ![] bcast_S_S96x1024 main_cst_3
  let main_v18 : IVec S96x1024 1 := cmpf .olt main_v16 main_v17
  (main_v3, main_v7, main_v11, main_v15, main_v18)
-- ==== Pre_finite2.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bitsLt_bf16_f32 : FTy.bits .bf16 < FTy.bits .f32
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_v2 : IVec S16384x1024 1) (main_v5 : IVec S1x1024 1) (main_v8 : IVec S16384x1024 1) (main_v12 : IVec S1024x2816 1) (main_v16 : IVec S1024x2816 1) (main_v18 : FVec F S2816x1024 .f32) : IVec S16384x1024 1 × IVec S1x1024 1 × IVec S16384x1024 1 × IVec S1024x2816 1 × IVec S1024x2816 1 × IVec S2816x1024 1 :=
  let main_cst_4 : FVec F S_ .f32 := constant S_ .f32 0x7F800000#32
  let main_v19 : FVec F S2816x1024 .f32 := broadcastInDim S2816x1024 ![] bcast_S_S2816x1024 main_cst_4
  let main_v20 : IVec S2816x1024 1 := cmpf .olt main_v18 main_v19
  (main_v2, main_v5, main_v8, main_v12, main_v16, main_v20)

def fn {F : FTy → Type} [FloatOps F] (main_arg0 : FVec F S16384x1024 .f32) (main_arg1 : FVec F S1x1024 .f32) (main_arg2 : FVec F S16384x1024 .f32) (main_arg3 : FVec F S1024x2816 .bf16) (main_arg4 : FVec F S1024x2816 .bf16) (main_arg5 : FVec F S2816x1024 .bf16) : IVec S16384x1024 1 × IVec S1x1024 1 × IVec S16384x1024 1 × IVec S1024x2816 1 × IVec S1024x2816 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S1024x2816 .f32 := (extf .f32 · bitsLt_bf16_f32) main_arg3
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_v13 : FVec F S1024x2816 .f32 := (extf .f32 · bitsLt_bf16_f32) main_arg4
  let main_v14 : FVec F S1024x2816 .f32 := Host.absf main_v13
  let main_cst_3 : FVec F S_ .f32 := constant S_ .f32 0x7F800000#32
  let main_v15 : FVec F S1024x2816 .f32 := broadcastInDim S1024x2816 ![] bcast_S_S1024x2816 main_cst_3
  let main_v16 : IVec S1024x2816 1 := cmpf .olt main_v14 main_v15
  let main_v17 : FVec F S2816x1024 .f32 := (extf .f32 · bitsLt_bf16_f32) main_arg5
  let main_v18 : FVec F S2816x1024 .f32 := Host.absf main_v17
  fn_part1 (F := F) main_v2 main_v5 main_v8 main_v12 main_v16 main_v18
-- ==== Kernel.lean ====
abbrev S1024x6144 : Shape := ⟨2, ![1024, 6144]⟩
abbrev S96x1024 : Shape := ⟨2, ![96, 1024]⟩
abbrev S1024x96x64 : Shape := ⟨3, ![1024, 96, 64]⟩
abbrev S96x1024x64 : Shape := ⟨3, ![96, 1024, 64]⟩
abbrev S96x1024x1024 : Shape := ⟨3, ![96, 1024, 1024]⟩
abbrev S_ : Shape := ⟨0, ![]⟩
abbrev S96x1024x1 : Shape := ⟨3, ![96, 1024, 1]⟩
abbrev S1024x96 : Shape := ⟨2, ![1024, 96]⟩
abbrev S1024x96x1 : Shape := ⟨3, ![1024, 96, 1]⟩
abbrev S1024x128 : Shape := ⟨2, ![1024, 128]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩
abbrev S256x1 : Shape := ⟨2, ![256, 1]⟩
abbrev S256x256 : Shape := ⟨2, ![256, 256]⟩
abbrev S512x128 : Shape := ⟨2, ![512, 128]⟩
abbrev S128x512 : Shape := ⟨2, ![128, 512]⟩

abbrev nBuf : Space → Nat
  | .hbm => 61
  | .vmem => 30
  | .smem => 0
  | _ => 0

abbrev bufTy : (tb : Table) → Fin (tcTables nBuf tb) → BufTy
  | .hbm, ⟨0, _⟩ => ⟨S1024x6144, .bf16⟩
  | .hbm, ⟨1, _⟩ => ⟨S1024x6144, .bf16⟩
  | .hbm, ⟨2, _⟩ => ⟨S1024x6144, .bf16⟩
  | .hbm, ⟨3, _⟩ => ⟨S1024x6144, .bf16⟩
  | .hbm, ⟨4, _⟩ => ⟨S96x1024, .f32⟩
  | .hbm, ⟨5, _⟩ => ⟨S1024x6144, .f32⟩
  | .hbm, ⟨6, _⟩ => ⟨S1024x96x64, .f32⟩
  | .hbm, ⟨7, _⟩ => ⟨S96x1024x64, .f32⟩
  | .hbm, ⟨8, _⟩ => ⟨S1024x6144, .f32⟩
  | .hbm, ⟨9, _⟩ => ⟨S1024x96x64, .f32⟩
  | .hbm, ⟨10, _⟩ => ⟨S96x1024x64, .f32⟩
  | .hbm, ⟨11, _⟩ => ⟨S1024x6144, .f32⟩
  | .hbm, ⟨12, _⟩ => ⟨S1024x96x64, .f32⟩
  | .hbm, ⟨13, _⟩ => ⟨S96x1024x64, .f32⟩
  | .hbm, ⟨14, _⟩ => ⟨S96x1024x1024, .f32⟩
  | .hbm, ⟨15, _⟩ => ⟨S96x1024x1024, .i32⟩
  | .hbm, ⟨16, _⟩ => ⟨S96x1024x1024, .i32⟩
  | .hbm, ⟨17, _⟩ => ⟨S96x1024x1024, .i32⟩
  | .hbm, ⟨18, _⟩ => ⟨S_, .i32⟩
  | .hbm, ⟨19, _⟩ => ⟨S96x1024x1024, .i32⟩
  | .hbm, ⟨20, _⟩ => ⟨S96x1024x1024, .i1⟩
  | .hbm, ⟨21, _⟩ => ⟨S_, .i32⟩
  | .hbm, ⟨22, _⟩ => ⟨S96x1024x1024, .i32⟩
  | .hbm, ⟨23, _⟩ => ⟨S96x1024x1024, .i1⟩
  | .hbm, ⟨24, _⟩ => ⟨S96x1024x1024, .i1⟩
  | .hbm, ⟨25, _⟩ => ⟨S_, .f32⟩
  | .hbm, ⟨26, _⟩ => ⟨S96x1024x1024, .f32⟩
  | .hbm, ⟨27, _⟩ => ⟨S96x1024x1024, .f32⟩
  | .hbm, ⟨28, _⟩ => ⟨S_, .f32⟩
  | .hbm, ⟨29, _⟩ => ⟨S96x1024, .f32⟩
  | .hbm, ⟨30, _⟩ => ⟨S96x1024x1, .f32⟩
  | .hbm, ⟨31, _⟩ => ⟨S96x1024x1024, .f32⟩
  | .hbm, ⟨32, _⟩ => ⟨S96x1024x1024, .f32⟩
  | .hbm, ⟨33, _⟩ => ⟨S96x1024x1024, .f32⟩
  | .hbm, ⟨34, _⟩ => ⟨S_, .f32⟩
  | .hbm, ⟨35, _⟩ => ⟨S96x1024, .f32⟩
  | .hbm, ⟨36, _⟩ => ⟨S96x1024x1, .f32⟩
  | .hbm, ⟨37, _⟩ => ⟨S96x1024x64, .f32⟩
  | .hbm, ⟨38, _⟩ => ⟨S96x1024x64, .f32⟩
  | .hbm, ⟨39, _⟩ => ⟨S96x1024x64, .f32⟩
  | .hbm, ⟨40, _⟩ => ⟨S96x1024x1, .f32⟩
  | .hbm, ⟨41, _⟩ => ⟨S96x1024x1, .f32⟩
  | .hbm, ⟨42, _⟩ => ⟨S96x1024, .f32⟩
  | .hbm, ⟨43, _⟩ => ⟨S1024x6144, .f32⟩
  | .hbm, ⟨44, _⟩ => ⟨S1024x96x64, .f32⟩
  | .hbm, ⟨45, _⟩ => ⟨S96x1024x64, .f32⟩
  | .hbm, ⟨46, _⟩ => ⟨S96x1024x64, .f32⟩
  | .hbm, ⟨47, _⟩ => ⟨S_, .f32⟩
  | .hbm, ⟨48, _⟩ => ⟨S96x1024, .f32⟩
  | .hbm, ⟨49, _⟩ => ⟨S96x1024, .f32⟩
  | .hbm, ⟨50, _⟩ => ⟨S1024x96, .f32⟩
  | .hbm, ⟨51, _⟩ => ⟨S1024x96x1, .f32⟩
  | .hbm, ⟨52, _⟩ => ⟨S1024x96x64, .f32⟩
  | .hbm, ⟨53, _⟩ => ⟨S1024x6144, .f32⟩
  | .hbm, ⟨54, _⟩ => ⟨S1024x96, .f32⟩
  | .hbm, ⟨55, _⟩ => ⟨S1024x96x1, .f32⟩
  | .hbm, ⟨56, _⟩ => ⟨S1024x96x64, .f32⟩
  | .hbm, ⟨57, _⟩ => ⟨S1024x6144, .f32⟩
  | .hbm, ⟨58, _⟩ => ⟨S1024x6144, .f32⟩
  | .hbm, ⟨59, _⟩ => ⟨S1024x6144, .f32⟩
  | .hbm, ⟨60, _⟩ => ⟨S1024x6144, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![48, 1], ![false, false]⟩

def k0_mult1 : BitVec 32 :=
  let c1_i32 : BitVec 32 := 1#32
  let c128_i32_62 : BitVec 32 := 128#32
  let v122 : BitVec 32 := Scalar.muli c1_i32 c128_i32_62
  v122
def k0_mult2 : BitVec 32 :=
  let c1_i32 : BitVec 32 := 1#32
  let c1_i32_63 : BitVec 32 := 1#32
  let v124 : BitVec 32 := Scalar.subi c1_i32 c1_i32_63
  let c128_i32_64 : BitVec 32 := 128#32
  let v125 : BitVec 32 := Scalar.muli v124 c128_i32_64
  v125
def k0_off1 (c1_i32 : BitVec 32) : Fin 2 → Nat :=
  let c128_i32_62 : BitVec 32 := 128#32
  let v122 : BitVec 32 := Scalar.muli c1_i32 c128_i32_62
  let v123 : BitVec 32 := v122
  let v127 : Index := Scalar.indexCast v123
  let c0_65 : Index := 0#32
  ![v127.toNat, 0]
def k0_off2 (c1_i32 : BitVec 32) : Fin 2 → Nat :=
  let c1_i32_63 : BitVec 32 := 1#32
  let v124 : BitVec 32 := Scalar.subi c1_i32 c1_i32_63
  let c128_i32_64 : BitVec 32 := 128#32
  let v125 : BitVec 32 := Scalar.muli v124 c128_i32_64
  let v126 : BitVec 32 := v125
  let v137 : Index := Scalar.indexCast v126
  let c0_69 : Index := 0#32
  ![v137.toNat, 0]
def k0_mult3 : BitVec 32 :=
  let c2_i32 : BitVec 32 := 2#32
  let c128_i32_104 : BitVec 32 := 128#32
  let v229 : BitVec 32 := Scalar.muli c2_i32 c128_i32_104
  v229
def k0_mult4 : BitVec 32 :=
  let c2_i32 : BitVec 32 := 2#32
  let c1_i32_105 : BitVec 32 := 1#32
  let v231 : BitVec 32 := Scalar.subi c2_i32 c1_i32_105
  let c128_i32_106 : BitVec 32 := 128#32
  let v232 : BitVec 32 := Scalar.muli v231 c128_i32_106
  v232
def k0_mult5 : BitVec 32 :=
  let c3_i32 : BitVec 32 := 3#32
  let c128_i32_146 : BitVec 32 := 128#32
  let v336 : BitVec 32 := Scalar.muli c3_i32 c128_i32_146
  v336
def k0_mult6 : BitVec 32 :=
  let c3_i32 : BitVec 32 := 3#32
  let c1_i32_147 : BitVec 32 := 1#32
  let v338 : BitVec 32 := Scalar.subi c3_i32 c1_i32_147
  let c128_i32_148 : BitVec 32 := 128#32
  let v339 : BitVec 32 := Scalar.muli v338 c128_i32_148
  v339
def k0_mult7 : BitVec 32 :=
  let c4_i32 : BitVec 32 := 4#32
  let c128_i32_188 : BitVec 32 := 128#32
  let v443 : BitVec 32 := Scalar.muli c4_i32 c128_i32_188
  v443
def k0_mult8 : BitVec 32 :=
  let c4_i32 : BitVec 32 := 4#32
  let c1_i32_189 : BitVec 32 := 1#32
  let v445 : BitVec 32 := Scalar.subi c4_i32 c1_i32_189
  let c128_i32_190 : BitVec 32 := 128#32
  let v446 : BitVec 32 := Scalar.muli v445 c128_i32_190
  v446
def k0_mult9 : BitVec 32 :=
  let c5_i32 : BitVec 32 := 5#32
  let c128_i32_230 : BitVec 32 := 128#32
  let v550 : BitVec 32 := Scalar.muli c5_i32 c128_i32_230
  v550
def k0_mult10 : BitVec 32 :=
  let c5_i32 : BitVec 32 := 5#32
  let c1_i32_231 : BitVec 32 := 1#32
  let v552 : BitVec 32 := Scalar.subi c5_i32 c1_i32_231
  let c128_i32_232 : BitVec 32 := 128#32
  let v553 : BitVec 32 := Scalar.muli v552 c128_i32_232
  v553
def k0_mult11 : BitVec 32 :=
  let c6_i32 : BitVec 32 := 6#32
  let c128_i32_272 : BitVec 32 := 128#32
  let v657 : BitVec 32 := Scalar.muli c6_i32 c128_i32_272
  v657
def k0_mult12 : BitVec 32 :=
  let c6_i32 : BitVec 32 := 6#32
  let c1_i32_273 : BitVec 32 := 1#32
  let v659 : BitVec 32 := Scalar.subi c6_i32 c1_i32_273
  let c128_i32_274 : BitVec 32 := 128#32
  let v660 : BitVec 32 := Scalar.muli v659 c128_i32_274
  v660
def k0_mult13 : BitVec 32 :=
  let c7_i32 : BitVec 32 := 7#32
  let c128_i32_314 : BitVec 32 := 128#32
  let v764 : BitVec 32 := Scalar.muli c7_i32 c128_i32_314
  v764
def k0_mult14 : BitVec 32 :=
  let c7_i32 : BitVec 32 := 7#32
  let c1_i32_315 : BitVec 32 := 1#32
  let v766 : BitVec 32 := Scalar.subi c7_i32 c1_i32_315
  let c128_i32_316 : BitVec 32 := 128#32
  let v767 : BitVec 32 := Scalar.muli v766 c128_i32_316
  v767
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S1024x6144 : Shape := ⟨2, ![1024, 6144]⟩
abbrev S96x1024 : Shape := ⟨2, ![96, 1024]⟩
abbrev S1024x96x64 : Shape := ⟨3, ![1024, 96, 64]⟩
abbrev S96x1024x64 : Shape := ⟨3, ![96, 1024, 64]⟩
abbrev S96x1024x1024 : Shape := ⟨3, ![96, 1024, 1024]⟩
abbrev S_ : Shape := ⟨0, ![]⟩
abbrev S96x1024x1 : Shape := ⟨3, ![96, 1024, 1]⟩
abbrev S96x64x1024 : Shape := ⟨3, ![96, 64, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1024x6144, .bf16⟩
  | .hbm, ⟨1, _⟩ => ⟨S1024x6144, .bf16⟩
  | .hbm, ⟨2, _⟩ => ⟨S1024x6144, .bf16⟩
  | .hbm, ⟨3, _⟩ => ⟨S1024x6144, .bf16⟩
  | .hbm, ⟨4, _⟩ => ⟨S96x1024, .f32⟩
  | .hbm, ⟨5, _⟩ => ⟨S1024x6144, .f32⟩
  | .hbm, ⟨6, _⟩ => ⟨S1024x96x64, .f32⟩
  | .hbm, ⟨7, _⟩ => ⟨S96x1024x64, .f32⟩
  | .hbm, ⟨8, _⟩ => ⟨S1024x6144, .f32⟩
  | .hbm, ⟨9, _⟩ => ⟨S1024x96x64, .f32⟩
  | .hbm, ⟨10, _⟩ => ⟨S96x1024x64, .f32⟩
  | .hbm, ⟨11, _⟩ => ⟨S1024x6144, .f32⟩
  | .hbm, ⟨12, _⟩ => ⟨S1024x96x64, .f32⟩
  | .hbm, ⟨13, _⟩ => ⟨S96x1024x64, .f32⟩
  | .hbm, ⟨14, _⟩ => ⟨S96x1024x1024, .f32⟩
  | .hbm, ⟨15, _⟩ => ⟨S96x1024x1024, .i32⟩
  | .hbm, ⟨16, _⟩ => ⟨S96x1024x1024, .i32⟩
  | .hbm, ⟨17, _⟩ => ⟨S96x1024x1024, .i32⟩
  | .hbm, ⟨18, _⟩ => ⟨S_, .i32⟩
  | .hbm, ⟨19, _⟩ => ⟨S96x1024x1024, .i32⟩
  | .hbm, ⟨20, _⟩ => ⟨S96x1024x1024, .i1⟩
  | .hbm, ⟨21, _⟩ => ⟨S_, .i32⟩
  | .hbm, ⟨22, _⟩ => ⟨S96x1024x1024, .i32⟩
  | .hbm, ⟨23, _⟩ => ⟨S96x1024x1024, .i1⟩
  | .hbm, ⟨24, _⟩ => ⟨S96x1024x1024, .i1⟩
  | .hbm, ⟨25, _⟩ => ⟨S_, .f32⟩
  | .hbm, ⟨26, _⟩ => ⟨S96x1024x1024, .f32⟩
  | .hbm, ⟨27, _⟩ => ⟨S96x1024x1024, .f32⟩
  | .hbm, ⟨28, _⟩ => ⟨S_, .f32⟩
  | .hbm, ⟨29, _⟩ => ⟨S96x1024x1024, .f32⟩
  | .hbm, ⟨30, _⟩ => ⟨S_, .f32⟩
  | .hbm, ⟨31, _⟩ => ⟨S96x1024, .f32⟩
  | .hbm, ⟨32, _⟩ => ⟨S96x1024x1, .f32⟩
  | .hbm, ⟨33, _⟩ => ⟨S96x1024x1024, .f32⟩
  | .hbm, ⟨34, _⟩ => ⟨S96x1024x1024, .i1⟩
  | .hbm, ⟨35, _⟩ => ⟨S96x1024x1024, .f32⟩
  | .hbm, ⟨36, _⟩ => ⟨S_, .f32⟩
  | .hbm, ⟨37, _⟩ => ⟨S96x1024, .f32⟩
  | .hbm, ⟨38, _⟩ => ⟨S96x1024x1, .f32⟩
  | .hbm, ⟨39, _⟩ => ⟨S96x1024x1024, .f32⟩
  | .hbm, ⟨40, _⟩ => ⟨S96x1024x1024, .f32⟩
  | .hbm, ⟨41, _⟩ => ⟨S96x1024x1024, .f32⟩
  | .hbm, ⟨42, _⟩ => ⟨S_, .f32⟩
  | .hbm, ⟨43, _⟩ => ⟨S96x1024, .f32⟩
  | .hbm, ⟨44, _⟩ => ⟨S96x1024x1, .f32⟩
  | .hbm, ⟨45, _⟩ => ⟨S96x1024x64, .f32⟩
  | .hbm, ⟨46, _⟩ => ⟨S96x1024x64, .f32⟩
  | .hbm, ⟨47, _⟩ => ⟨S96x1024x64, .f32⟩
  | .hbm, ⟨48, _⟩ => ⟨S96x1024x1, .f32⟩
  | .hbm, ⟨49, _⟩ => ⟨S_, .f32⟩
  | .hbm, ⟨50, _⟩ => ⟨S96x1024x1, .f32⟩
  | .hbm, ⟨51, _⟩ => ⟨S96x1024x1, .f32⟩
  | .hbm, ⟨52, _⟩ => ⟨S96x1024x1, .f32⟩
  | .hbm, ⟨53, _⟩ => ⟨S96x1024x1, .f32⟩
  | .hbm, ⟨54, _⟩ => ⟨S96x1024, .f32⟩
  | .hbm, ⟨55, _⟩ => ⟨S1024x6144, .f32⟩
  | .hbm, ⟨56, _⟩ => ⟨S1024x96x64, .f32⟩
  | .hbm, ⟨57, _⟩ => ⟨S96x1024x64, .f32⟩
  | .hbm, ⟨58, _⟩ => ⟨S96x1024x1, .f32⟩
  | .hbm, ⟨59, _⟩ => ⟨S96x1024x1, .f32⟩
  | .hbm, ⟨60, _⟩ => ⟨S96x1024x64, .f32⟩
  | .hbm, ⟨61, _⟩ => ⟨S96x1024x64, .f32⟩
  | .hbm, ⟨62, _⟩ => ⟨S96x1024x64, .f32⟩
  | .hbm, ⟨63, _⟩ => ⟨S_, .f32⟩
  | .hbm, ⟨64, _⟩ => ⟨S96x1024, .f32⟩
  | .hbm, ⟨65, _⟩ => ⟨S96x1024x1, .f32⟩
  | .hbm, ⟨66, _⟩ => ⟨S96x1024x1, .f32⟩
  | .hbm, ⟨67, _⟩ => ⟨S96x1024x1, .f32⟩
  | .hbm, ⟨68, _⟩ => ⟨S96x1024x64, .f32⟩
  | .hbm, ⟨69, _⟩ => ⟨S96x1024x64, .f32⟩
  | .hbm, ⟨70, _⟩ => ⟨S96x64x1024, .f32⟩
  | .hbm, ⟨71, _⟩ => ⟨S96x1024x64, .f32⟩
  | .hbm, ⟨72, _⟩ => ⟨S96x1024x1024, .f32⟩
  | .hbm, ⟨73, _⟩ => ⟨S_, .f32⟩
  | .hbm, ⟨74, _⟩ => ⟨S96x1024, .f32⟩
  | .hbm, ⟨75, _⟩ => ⟨S96x1024x1024, .f32⟩
  | .hbm, ⟨76, _⟩ => ⟨S96x1024x1024, .f32⟩
  | .hbm, ⟨77, _⟩ => ⟨S96x1024x1024, .f32⟩
  | .hbm, ⟨78, _⟩ => ⟨S96x1024x1024, .f32⟩
  | .hbm, ⟨79, _⟩ => ⟨S_, .f32⟩
  | .hbm, ⟨80, _⟩ => ⟨S96x1024, .f32⟩
  | .hbm, ⟨81, _⟩ => ⟨S96x1024x1, .f32⟩
  | .hbm, ⟨82, _⟩ => ⟨S96x1024x1, .f32⟩
  | .hbm, ⟨83, _⟩ => ⟨S_, .f32⟩
  | .hbm, ⟨84, _⟩ => ⟨S96x1024, .f32⟩
  | .hbm, ⟨85, _⟩ => ⟨S96x1024, .f32⟩
  | .hbm, ⟨86, _⟩ => ⟨S96x1024x1024, .f32⟩
  | .hbm, ⟨87, _⟩ => ⟨S96x1024x1024, .f32⟩
  | .hbm, ⟨88, _⟩ => ⟨S96x1024x1024, .f32⟩
  | .hbm, ⟨89, _⟩ => ⟨S_, .f32⟩
  | .hbm, ⟨90, _⟩ => ⟨S96x1024x1024, .f32⟩
  | .hbm, ⟨91, _⟩ => ⟨S96x1024x1024, .f32⟩
  | .hbm, ⟨92, _⟩ => ⟨S96x1024x64, .f32⟩
  | .hbm, ⟨93, _⟩ => ⟨S96x1024x64, .f32⟩
  | .hbm, ⟨94, _⟩ => ⟨S1024x96x64, .f32⟩
  | .hbm, ⟨95, _⟩ => ⟨S1024x6144, .f32⟩
  | .hbm, ⟨96, _⟩ => ⟨S1024x96x64, .f32⟩
  | .hbm, ⟨97, _⟩ => ⟨S1024x6144, .f32⟩
  | .hbm, ⟨98, _⟩ => ⟨S1024x96x64, .f32⟩
  | .hbm, ⟨99, _⟩ => ⟨S1024x6144, .f32⟩
  | _, _ => ⟨S1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024x1408 : Shape := ⟨2, ![1024, 1408]⟩
abbrev S1024 : Shape := ⟨1, ![1024]⟩

abbrev nBuf : Space → Nat
  | .hbm => 33
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x2816, .f32⟩
  | .hbm, ⟨22, _⟩ => ⟨S16384x2816, .f32⟩
  | .hbm, ⟨23, _⟩ => ⟨S1024x2816, .f32⟩
  | .hbm, ⟨24, _⟩ => ⟨S16384x2816, .f32⟩
  | .hbm, ⟨25, _⟩ => ⟨S16384x2816, .bf16⟩
  | .hbm, ⟨26, _⟩ => ⟨S16384x2816, .bf16⟩
  | .hbm, ⟨27, _⟩ => ⟨S16384x1024, .f32⟩
  | .hbm, ⟨28, _⟩ => ⟨S1x1024, .f32⟩
  | .hbm, ⟨29, _⟩ => ⟨S16384x1024, .bf16⟩
  | .hbm, ⟨30, _⟩ => ⟨S16384x2816, .bf16⟩
  | .hbm, ⟨31, _⟩ => ⟨S16384x2816, .bf16⟩
  | .hbm, ⟨32, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩

abbrev nBuf : Space → Nat
  | .hbm => 146
  | .vmem => 0
  | .smem => 0
  | _ => 0

abbrev hbmTy0_0 (i : Nat) : BufTy := match i % 128 with
  | 0 => ⟨S16384x1024, .f32⟩
  | 1 => ⟨S1x1024, .f32⟩
  | 2 => ⟨S16384x1024, .f32⟩
  | 3 => ⟨S1024x2816, .bf16⟩
  | 4 => ⟨S1024x2816, .bf16⟩
  | 5 => ⟨S2816x1024, .bf16⟩
  | 6 => ⟨S1024x2816, .f32⟩
  | 7 => ⟨S1024x2816, .f32⟩
  | 8 => ⟨S2816x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S16384x2816, .f32⟩
  | 29 => ⟨S16384x2816, .f32⟩
  | 30 => ⟨S16384x2816, .f32⟩
  | 31 => ⟨S16384x2816, .f32⟩
  | 32 => ⟨S_, .f32⟩
  | 33 => ⟨S16384x2816, .f32⟩
  | 34 => ⟨S16384x2816, .f32⟩
  | 35 => ⟨S_, .f32⟩
  | 36 => ⟨S16384x2816, .f32⟩
  | 37 => ⟨S16384x2816, .f32⟩
  | 38 => ⟨S_, .f32⟩
  | 39 => ⟨S16384x2816, .f32⟩
  | 40 => ⟨S16384x2816, .f32⟩
  | 41 => ⟨S16384x2816, .f32⟩
  | 42 => ⟨S16384x2816, .f32⟩
  | 43 => ⟨S16384x2816, .f32⟩
  | 44 => ⟨S16384x1024, .f32⟩
  | 45 => ⟨S_, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S16384x2816, .f32⟩
  | 54 => ⟨S16384x2816, .f32⟩
  | 55 => ⟨S16384x2816, .f32⟩
  | 56 => ⟨S16384x2816, .f32⟩
  | 57 => ⟨S16384x2816, .f32⟩
  | 58 => ⟨S16384x2816, .f32⟩
  | 59 => ⟨S16384x2816, .f32⟩
  | 60 => ⟨S16384x1024, .f32⟩
  | 61 => ⟨S16384x1024, .f32⟩
  | 62 => ⟨S16384x1024, .f32⟩
  | 63 => ⟨S16384x1024, .f32⟩
  | 64 => ⟨S_, .f32⟩
  | 65 => ⟨S1024, .f32⟩
  | 66 => ⟨S1x1024, .f32⟩
  | 67 => ⟨S16384x1024, .f32⟩
  | 68 => ⟨S16384x1024, .f32⟩
  | 69 => ⟨S16384x1024, .f32⟩
  | 70 => ⟨S_, .f32⟩
  | 71 => ⟨S16384, .f32⟩
  | 72 => ⟨S16384x1, .f32⟩
  | 73 => ⟨S16384x1024, .f32⟩
  | 74 => ⟨S16384x1024, .f32⟩
  | 75 => ⟨S16384x1024, .f32⟩
  | 76 => ⟨S16384x1, .f32⟩
  | 77 => ⟨S_, .f32⟩
  | 78 => ⟨S16384x1, .f32⟩
  | 79 => ⟨S16384x1, .f32⟩
  | 80 => ⟨S_, .f32⟩
  | 81 => ⟨S16384, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S_, .f32⟩
  | 89 => ⟨S16384, .f32⟩
  | 90 => ⟨S16384x1, .f32⟩
  | 91 => ⟨S_, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S16384x1, .f32⟩
  | 98 => ⟨S16384x1024, .f32⟩
  | 99 => ⟨S16384x1024, .f32⟩
  | 100 => ⟨S16384x1024, .f32⟩
  | 101 => ⟨S16384x1024, .f32⟩
  | 102 => ⟨S16384x2816, .f32⟩
  | 103 => ⟨S16384x2816, .f32⟩
  | 104 => ⟨S16384x2816, .f32⟩
  | 105 => ⟨S16384x2816, .f32⟩
  | 106 => ⟨S_, .f32⟩
  | 107 => ⟨S16384x2816, .f32⟩
  | 108 => ⟨S16384x2816, .f32⟩
  | 109 => ⟨S_, .f32⟩
  | 110 => ⟨S16384x2816, .f32⟩
  | 111 => ⟨S16384x2816, .f32⟩
  | 112 => ⟨S_, .f32⟩
  | 113 => ⟨S16384x2816, .f32⟩
  | 114 => ⟨S16384x2816, .f32⟩
  | 115 => ⟨S16384x2816, .f32⟩
  | 116 => ⟨S16384x2816, .f32⟩
  | 117 => ⟨S16384x2816, .f32⟩
  | 118 => ⟨S16384x1024, .f32⟩
  | 119 => ⟨S_, .f32⟩
  | 120 => ⟨S16384x1024, .f32⟩
  | 121 => ⟨S16384x1024, .f32⟩
  | 122 => ⟨S_, .f32⟩
  | 123 => ⟨S16384x1024, .f32⟩
  | 124 => ⟨S16384x1024, .f32⟩
  | 125 => ⟨S16384x2816, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x2816, .f32⟩
  | 5 => ⟨S16384x2816, .f32⟩
  | 6 => ⟨S_, .f32⟩
  | 7 => ⟨S16384x2816, .f32⟩
  | 8 => ⟨S16384x2816, .f32⟩
  | 9 => ⟨S_, .f32⟩
  | 10 => ⟨S16384x2816, .f32⟩
  | 11 => ⟨S16384x2816, .f32⟩
  | 12 => ⟨S16384x2816, .f32⟩
  | 13 => ⟨S16384x2816, .f32⟩
  | 14 => ⟨S16384x1024, .bf16⟩
  | 15 => ⟨S16384x2816, .bf16⟩
  | 16 => ⟨S16384x2816, .bf16⟩
  | 17 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_v70_2 : Ref sig .tc := ⟨.hbm, 111, rfl⟩
abbrev main_call2_cst_1 : Ref sig .tc := ⟨.hbm, 112, rfl⟩
abbrev main_call2_v6 : Ref sig .tc := ⟨.hbm, 113, rfl⟩
abbrev main_call2_v7 : Ref sig .tc := ⟨.hbm, 114, rfl⟩
abbrev main_v70_1 : Ref sig .tc := ⟨.hbm, 115, rfl⟩
abbrev main_v70_0 : Ref sig .tc := ⟨.hbm, 116, rfl⟩
abbrev main_v71 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_cst_13 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v80 : Ref sig .tc := ⟨.hbm, 131, rfl⟩
abbrev main_call4_v0 : Ref sig .tc := ⟨.hbm, 132, rfl⟩
abbrev main_call4_v1 : Ref sig .tc := ⟨.hbm, 133, rfl⟩
abbrev main_call4_cst : Ref sig .tc := ⟨.hbm, 134, rfl⟩
abbrev main_call4_v2 : Ref sig .tc := ⟨.hbm, 135, rfl⟩
abbrev main_call4_v3 : Ref sig .tc := ⟨.hbm, 136, rfl⟩
abbrev main_call4_cst_0 : Ref sig .tc := ⟨.hbm, 137, rfl⟩
abbrev main_call4_v4 : Ref sig .tc := ⟨.hbm, 138, rfl⟩
abbrev main_call4_v5 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S16384x2816, .bf16⟩
  | .hbm, ⟨7, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x2816, .f32⟩
  | .hbm, ⟨56, _⟩ => ⟨S16384x2816, .bf16⟩
  | .hbm, ⟨57, _⟩ => ⟨S16384x2816, .f32⟩
  | .hbm, ⟨58, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S1024x2816 : Shape := ⟨2, ![1024, 2816]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x2816, .f32⟩
  | .hbm, ⟨13, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel7.lean ====
abbrev S16384x2432 : Shape := ⟨2, ![16384, 2432]⟩
abbrev S1024x2432 : Shape := ⟨2, ![1024, 2432]⟩
abbrev S16384x1024 : Shape := ⟨2, ![16384, 1024]⟩
abbrev S512x2432 : Shape := ⟨2, ![512, 2432]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2432, .bf16⟩
  | .hbm, ⟨1, _⟩ => ⟨S1024x2432, .bf16⟩
  | .hbm, ⟨2, _⟩ => ⟨S16384x1024, .f32⟩
  | .local _ .vmem, ⟨0, _⟩ => ⟨S512x2432, .bf16⟩
  | .local _ .vmem, ⟨1, _⟩ => ⟨S512x2432, .bf16⟩
  | .local _ .vmem, ⟨2, _⟩ => ⟨S1024x2432, .bf16⟩
  | .local _ .vmem, ⟨3, _⟩ => ⟨S512x1024, .f32⟩
  | .local _ .vmem, ⟨4, _⟩ => ⟨S512x1024, .f32⟩
  | _, _ => ⟨S16384x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2432 : Shape := ⟨2, ![16384, 2432]⟩
abbrev S1024x2432 : Shape := ⟨2, ![1024, 2432]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2432, .bf16⟩
  | .hbm, ⟨1, _⟩ => ⟨S1024x2432, .bf16⟩
  | .hbm, ⟨2, _⟩ => ⟨S_, .f32⟩
  | .hbm, ⟨3, _⟩ => ⟨S16384x1024, .f32⟩
  | .hbm, ⟨4, _⟩ => ⟨S1024x2432, .f32⟩
  | .hbm, ⟨5, _⟩ => ⟨S16384x2432, .f32⟩
  | .hbm, ⟨6, _⟩ => ⟨S16384x2432, .f32⟩
  | .hbm, ⟨7, _⟩ => ⟨S16384x1024, .f32⟩
  | _, _ => ⟨S16384x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S16384x2432 : Shape := ⟨2, ![16384, 2432]⟩
abbrev S1024x2432 : Shape := ⟨2, ![1024, 2432]⟩
abbrev S2048x512 : Shape := ⟨2, ![2048, 512]⟩
abbrev S2048x2432 : Shape := ⟨2, ![2048, 2432]⟩
abbrev S512x2432 : Shape := ⟨2, ![512, 2432]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2432, .bf16⟩
  | .hbm, ⟨2, _⟩ => ⟨S1024x2432, .f32⟩
  | .local _ .vmem, ⟨0, _⟩ => ⟨S2048x512, .bf16⟩
  | .local _ .vmem, ⟨1, _⟩ => ⟨S2048x512, .bf16⟩
  | .local _ .vmem, ⟨2, _⟩ => ⟨S2048x2432, .bf16⟩
  | .local _ .vmem, ⟨3, _⟩ => ⟨S2048x2432, .bf16⟩
  | .local _ .vmem, ⟨4, _⟩ => ⟨S512x2432, .f32⟩
  | .local _ .vmem, ⟨5, _⟩ => ⟨S512x2432, .f32⟩
  | .local _ .vmem, ⟨6, _⟩ => ⟨S512x2432, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S16384x2432 : Shape := ⟨2, ![16384, 2432]⟩
abbrev S_ : Shape := ⟨0, ![]⟩
abbrev S1024x2432 : Shape := ⟨2, ![1024, 2432]⟩
abbrev S2432x1024 : Shape := ⟨2, ![2432, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2432, .bf16⟩
  | .hbm, ⟨2, _⟩ => ⟨S_, .f32⟩
  | .hbm, ⟨3, _⟩ => ⟨S1024x2432, .f32⟩
  | .hbm, ⟨4, _⟩ => ⟨S16384x1024, .f32⟩
  | .hbm, ⟨5, _⟩ => ⟨S16384x2432, .f32⟩
  | .hbm, ⟨6, _⟩ => ⟨S16384x2432, .f32⟩
  | .hbm, ⟨7, _⟩ => ⟨S2432x1024, .f32⟩
  | .hbm, ⟨8, _⟩ => ⟨S1024x2432, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S16384x1024 : Shape := ⟨2, ![16384, 1024]⟩
abbrev S1024x2432 : Shape := ⟨2, ![1024, 2432]⟩
abbrev S16384x2432 : Shape := ⟨2, ![16384, 2432]⟩
abbrev S512x1024 : Shape := ⟨2, ![512, 1024]⟩
abbrev S512x2432 : Shape := ⟨2, ![512, 2432]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2432, .bf16⟩
  | .hbm, ⟨2, _⟩ => ⟨S16384x2432, .f32⟩
  | .local _ .vmem, ⟨0, _⟩ => ⟨S512x1024, .bf16⟩
  | .local _ .vmem, ⟨1, _⟩ => ⟨S512x1024, .bf16⟩
  | .local _ .vmem, ⟨2, _⟩ => ⟨S1024x2432, .bf16⟩
  | .local _ .vmem, ⟨3, _⟩ => ⟨S512x2432, .f32⟩
  | .local _ .vmem, ⟨4, _⟩ => ⟨S512x2432, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x2432 : Shape := ⟨2, ![1024, 2432]⟩
abbrev S16384x2432 : Shape := ⟨2, ![16384, 2432]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2432, .bf16⟩
  | .hbm, ⟨2, _⟩ => ⟨S16384x1024, .f32⟩
  | .hbm, ⟨3, _⟩ => ⟨S1024x2432, .f32⟩
  | .hbm, ⟨4, _⟩ => ⟨S16384x2432, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x1024 : Shape := ⟨2, ![16384, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1x128, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel15.lean ====
abbrev S8x1792x128 : Shape := ⟨3, ![8, 1792, 128]⟩
abbrev S1792x128 : Shape := ⟨2, ![1792, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1792x128, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S1792x128, .f32⟩
  | .hbm, ⟨5, _⟩ => ⟨S1792x128, .f32⟩
  | .hbm, ⟨6, _⟩ => ⟨S1792x128, .f32⟩
  | .hbm, ⟨7, _⟩ => ⟨S1792x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x1792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x1792x128 : Shape := ⟨3, ![8, 1792, 128]⟩
abbrev S1792x128 : Shape := ⟨2, ![1792, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1792x128, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S_, .f32⟩
  | .hbm, ⟨5, _⟩ => ⟨S1792x128, .f32⟩
  | .hbm, ⟨6, _⟩ => ⟨S_, .f32⟩
  | .hbm, ⟨7, _⟩ => ⟨S1792x128, .f32⟩
  | .hbm, ⟨8, _⟩ => ⟨S1792x128, .f32⟩
  | .hbm, ⟨9, _⟩ => ⟨S_, .f32⟩
  | .hbm, ⟨10, _⟩ => ⟨S1792x128, .f32⟩
  | .hbm, ⟨11, _⟩ => ⟨S1792x128, .f32⟩
  | .hbm, ⟨12, _⟩ => ⟨S1792x128, .f32⟩
  | .hbm, ⟨13, _⟩ => ⟨S_, .f32⟩
  | .hbm, ⟨14, _⟩ => ⟨S1792x128, .f32⟩
  | .hbm, ⟨15, _⟩ => ⟨S1792x128, .f32⟩
  | .hbm, ⟨16, _⟩ => ⟨S1792x128, .f32⟩
  | .hbm, ⟨17, _⟩ => ⟨S_, .f32⟩
  | .hbm, ⟨18, _⟩ => ⟨S1792x128, .f32⟩
  | .hbm, ⟨19, _⟩ => ⟨S1792x128, .f32⟩
  | .hbm, ⟨20, _⟩ => ⟨S1792x128, .f32⟩
  | .hbm, ⟨21, _⟩ => ⟨S_, .f32⟩
  | .hbm, ⟨22, _⟩ => ⟨S1792x128, .f32⟩
  | .hbm, ⟨23, _⟩ => ⟨S1792x128, .f32⟩
  | .hbm, ⟨24, _⟩ => ⟨S_, .f32⟩
  | .hbm, ⟨25, _⟩ => ⟨S1792x128, .f32⟩
  | .hbm, ⟨26, _⟩ => ⟨S1792x128, .f32⟩
  | .hbm, ⟨27, _⟩ => ⟨S1792x128, .f32⟩
  | .hbm, ⟨28, _⟩ => ⟨S_, .f32⟩
  | .hbm, ⟨29, _⟩ => ⟨S1792x128, .f32⟩
  | .hbm, ⟨30, _⟩ => ⟨S1792x128, .f32⟩
  | .hbm, ⟨31, _⟩ => ⟨S1792x128, .f32⟩
  | .hbm, ⟨32, _⟩ => ⟨S_, .f32⟩
  | .hbm, ⟨33, _⟩ => ⟨S1792x128, .f32⟩
  | .hbm, ⟨34, _⟩ => ⟨S1792x128, .f32⟩
  | .hbm, ⟨35, _⟩ => ⟨S1792x128, .f32⟩
  | .hbm, ⟨36, _⟩ => ⟨S_, .f32⟩
  | .hbm, ⟨37, _⟩ => ⟨S1792x128, .f32⟩
  | .hbm, ⟨38, _⟩ => ⟨S1792x128, .f32⟩
  | _, _ => ⟨S8x1792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Math.lean ====
/-
  The mathematics of banded softmax attention and of its gradient, over the real numbers, for one head: real tables
  `Q`, `K`, `V` and the output's cotangent `D` indexed by row and lane, the log-sum-exp's cotangent `e` indexed by row.
  Row `i` sees the keys `j` with `i - 128 ≤ j ≤ i`. Nothing here speaks of a program.
-/
module

public import Mathlib.Analysis.SpecialFunctions.Log.Basic
public import Mathlib.Data.EReal.Operations
public import Mathlib.Algebra.BigOperators.Intervals
public import Mathlib.Algebra.BigOperators.Field

@[expose] public section

noncomputable section

namespace Attn

open Finset

/-- Key `j` is visible to row `i`. -/
def band (i j : ℕ) : Prop := j ≤ i ∧ i ≤ j + 128

instance (i j : ℕ) : Decidable (band i j) := by unfold band; infer_instance

variable (Q K V D : ℕ → ℕ → ℝ) (e : ℕ → ℝ)

/-- The score of row `i` against key `j`. -/
def score (i j : ℕ) : ℝ := ∑ d ∈ range 64, Q i d * K j d

/-- The score where the band admits it, `-∞` elsewhere. -/
def masked (i j : ℕ) : EReal := if band i j then ((score Q K i j : ℝ) : EReal) else ⊥

/-- The largest visible score of row `i`. -/
def top (i : ℕ) : ℝ := ((range 1024).sup (masked Q K i)).toReal

/-- The unnormalised weight of key `j` in row `i`. -/
def weight (i j : ℕ) : ℝ := if band i j then Real.exp (score Q K i j - top Q K i) else 0

/-- The sum of row `i`'s unnormalised weights. -/
def total (i : ℕ) : ℝ := ∑ j ∈ range 1024, weight Q K i j

/-- The log-sum-exp of row `i`'s scores. -/
def lse (i : ℕ) : ℝ := top Q K i + Real.log (total Q K i)

/-- The unnormalised output of row `i`. -/
def numer (i d : ℕ) : ℝ := ∑ j ∈ range 1024, weight Q K i j * V j d

/-- What the gradient of row `i`'s scores subtracts: `Σ D·o - e`. -/
def delta (i : ℕ) : ℝ := ∑ d ∈ range 64, D i d * (numer Q K V i d / total Q K i) - e i

/-- The attention weight of key `j` in row `i`, from the log-sum-exp. -/
def prob (i j : ℕ) : ℝ := if band i j then Real.exp (score Q K i j - lse Q K i) else 0

/-- The cotangent of the attention weight. -/
def dprob (i j : ℕ) : ℝ := ∑ d ∈ range 64, D i d * V j d

/-- The gradient with respect to the score. -/
def dscore (i j : ℕ) : ℝ := prob Q K i j * (dprob V D i j - delta Q K V D e i)

/-- The gradient with respect to `Q`. -/
def gradQ (i d : ℕ) : ℝ := ∑ j ∈ range 1024, dscore Q K V D e i j * K j d

/-- The gradient with respect to `K`. -/
def gradK (j d : ℕ) : ℝ := ∑ i ∈ range 1024, dscore Q K V D e i j * Q i d

/-- The gradient with respect to `V`. -/
def gradV (j d : ℕ) : ℝ := ∑ i ∈ range 1024, prob Q K i j * D i d

theorem band_self (i : ℕ) : band i i := ⟨le_rfl, by omega⟩

/-- The largest masked score is the real `top`, and some key attains it. -/
theorem sup_masked {i : ℕ} (hi : i < 1024) : (range 1024).sup (masked Q K i) = ((top Q K i : ℝ) : EReal) := by
  have hlt : (range 1024).sup (masked Q K i) < ⊤ := by
    rw [Finset.sup_lt_iff (by exact bot_lt_top)]
    intro j _
    unfold masked
    split
    · exact EReal.coe_lt_top _
    · exact bot_lt_top
  have hge : ((score Q K i i : ℝ) : EReal) ≤ (range 1024).sup (masked Q K i) := by
    have h := Finset.le_sup (f := masked Q K i) (mem_range.2 hi)
    rwa [masked, if_pos (band_self i)] at h
  have hbot : (range 1024).sup (masked Q K i) ≠ ⊥ := fun h => by
    rw [h] at hge
    exact absurd hge (not_le.2 (EReal.bot_lt_coe _))
  exact (EReal.coe_toReal hlt.ne hbot).symm

theorem exists_top {i : ℕ} (hi : i < 1024) : ∃ j, j < 1024 ∧ masked Q K i j = ((top Q K i : ℝ) : EReal) := by
  obtain ⟨j, hj, h⟩ := Finset.exists_mem_eq_sup (range 1024) ⟨i, mem_range.2 hi⟩ (masked Q K i)
  exact ⟨j, mem_range.1 hj, h ▸ sup_masked Q K hi⟩

theorem weight_nonneg (i j : ℕ) : 0 ≤ weight Q K i j := by
  unfold weight
  split
  · exact (Real.exp_pos _).le
  · exact le_rfl

/-- A row's weights have a positive sum: the row sees its own key. -/
theorem total_pos {i : ℕ} (hi : i < 1024) : 0 < total Q K i := by
  refine Finset.sum_pos' (fun j _ => weight_nonneg Q K i j) ⟨i, mem_range.2 hi, ?_⟩
  rw [weight, if_pos (band_self i)]
  exact Real.exp_pos _

/-- The weight from the log-sum-exp is the normalised weight. -/
theorem prob_eq {i : ℕ} (hi : i < 1024) (j : ℕ) : prob Q K i j = weight Q K i j / total Q K i := by
  unfold prob weight
  split
  · rw [lse, ← sub_sub, Real.exp_sub (_ - _), Real.exp_log (total_pos Q K hi)]
  · rw [zero_div]

/-- Row `i`'s weights sum to one. -/
theorem sum_prob {i : ℕ} (hi : i < 1024) : ∑ j ∈ range 1024, prob Q K i j = 1 := by
  simp only [prob_eq Q K hi]
  rw [← Finset.sum_div, ← total, div_self (total_pos Q K hi).ne']

/-- The weighted cotangents sum to `Σ D·o`. -/
theorem sum_prob_dprob {i : ℕ} (hi : i < 1024) :
    ∑ j ∈ range 1024, prob Q K i j * dprob V D i j = delta Q K V D e i + e i := by
  unfold delta dprob numer
  rw [sub_add_cancel]
  simp only [Finset.mul_sum, Finset.sum_div, prob_eq Q K hi]
  rw [Finset.sum_comm]
  refine Finset.sum_congr rfl fun d _ => Finset.sum_congr rfl fun j _ => ?_
  ring

/-- A row's score gradients sum to the log-sum-exp's cotangent. -/
theorem sum_dscore {i : ℕ} (hi : i < 1024) : ∑ j ∈ range 1024, dscore Q K V D e i j = e i := by
  unfold dscore
  simp only [mul_sub]
  rw [Finset.sum_sub_distrib, sum_prob_dprob Q K V D e hi, ← Finset.sum_mul, sum_prob Q K hi]
  ring

/-- The score gradient as the chain rule through the unnormalised weights has it. -/
theorem dscore_eq {i : ℕ} (hi : i < 1024) (j : ℕ) :
    (∑ d ∈ range 64, D i d / total Q K i * V j d
      + (e i / total Q K i + -∑ d ∈ range 64, D i d * (1 / (total Q K i * total Q K i)) * numer Q K V i d)) * weight Q K i j
      = dscore Q K V D e i j := by
  have h0 := (total_pos Q K hi).ne'
  have h1 : ∑ d ∈ range 64, D i d / total Q K i * V j d = dprob V D i j / total Q K i := by
    rw [dprob, Finset.sum_div]
    exact Finset.sum_congr rfl fun d _ => by ring
  have h2 : ∑ d ∈ range 64, D i d * (1 / (total Q K i * total Q K i)) * numer Q K V i d
      = (∑ d ∈ range 64, D i d * (numer Q K V i d / total Q K i)) / total Q K i := by
    rw [Finset.sum_div]
    exact Finset.sum_congr rfl fun d _ => by field_simp
  rw [h1, h2, dscore, prob_eq Q K hi, delta]
  field_simp
  ring

/-! ### Sums cut at the blocks of 128 rows -/

theorem prob_of_not {i j : ℕ} (h : ¬ band i j) : prob Q K i j = 0 := if_neg h

theorem dscore_of_not {i j : ℕ} (h : ¬ band i j) : dscore Q K V D e i j = 0 := by
  rw [dscore, prob_of_not Q K h, zero_mul]

/-- A sum over the keys that only sees row `128 b + r`'s band is the sum over the block's own keys and, after the first
    block, the block before. -/
theorem sum_keys (f : ℕ → ℝ) {b r : ℕ} (hb : b < 8) (hr : r < 128) (h : ∀ j, ¬ band (128 * b + r) j → f j = 0) :
    ∑ j ∈ range 1024, f j = ∑ κ ∈ range 256, if 128 ≤ 128 * b + κ then f (128 * b + κ - 128) else 0 := by
  have hs : ∀ j ∈ range 1024, f j ≠ 0 → 128 * b ≤ j + 128 ∧ j < 128 * b + 128 := by
    intro j _ hj
    have hh : band (128 * b + r) j := by
      by_contra hn
      exact hj (h j hn)
    obtain ⟨h1, h2⟩ := hh
    omega
  rw [← Finset.sum_filter, ← Finset.sum_filter_ne_zero (s := range 1024)]
  refine Finset.sum_bij_ne_zero (fun j _ _ => j + 128 - 128 * b) ?_ ?_ ?_ ?_
  · intro j hj hf
    rw [mem_filter, mem_range] at hj
    have := hs j (mem_range.2 hj.1) hf
    rw [mem_filter, mem_range]
    omega
  · intro j hj hf j' hj' hf' e
    rw [mem_filter, mem_range] at hj hj'
    have := hs j (mem_range.2 hj.1) hf
    have := hs j' (mem_range.2 hj'.1) hf'
    omega
  · intro κ hκ hf
    rw [mem_filter, mem_range] at hκ
    refine ⟨128 * b + κ - 128, ?_, hf, by omega⟩
    rw [mem_filter, mem_range]
    exact ⟨by omega, hf⟩
  · intro j hj hf
    rw [mem_filter, mem_range] at hj
    have := hs j (mem_range.2 hj.1) hf
    congr 1
    omega

/-! ### Two heads side by side in 128 lanes -/

/-- Head `h`'s 64 lanes of a table. -/
def lanes (h : ℕ) (X : ℕ → ℕ → ℝ) (i d : ℕ) : ℝ := X i (64 * h + d)

/-- A sum over 128 lanes that keeps head `h`'s lanes. -/
theorem sum_lanes (f : ℕ → ℝ) {h : ℕ} (hh : h < 2) :
    ∑ x : Fin 128, (if h = x.val / 64 then f x else 0) = ∑ d ∈ range 64, f (64 * h + d) := by
  rw [← Finset.sum_range (fun x => if h = x / 64 then f x else 0), Finset.sum_range_add _ 64 64]
  obtain rfl | rfl : h = 0 ∨ h = 1 := by omega
  · rw [Finset.sum_congr rfl fun x hx => if_pos (by have := mem_range.1 hx; omega),
      Finset.sum_eq_zero (s := range 64) (f := fun x => ite (0 = (64 + x) / 64) _ _) fun x hx =>
        if_neg (by have := mem_range.1 hx; omega), add_zero]
    simp
  · rw [Finset.sum_eq_zero (s := range 64) (f := fun x => ite (1 = x / 64) _ _) fun x hx =>
        if_neg (by have := mem_range.1 hx; omega),
      Finset.sum_congr rfl fun x hx => if_pos (by have := mem_range.1 hx; omega), zero_add]

/-- A sum over 256 stacked rows that keeps head `h`'s half. -/
theorem sum_halves (f : ℕ → ℝ) {h : ℕ} (hh : h < 2) :
    ∑ x : Fin 256, (if x.val / 128 = h then f x else 0) = ∑ r ∈ range 128, f (128 * h + r) := by
  rw [← Finset.sum_range (fun x => if x / 128 = h then f x else 0), Finset.sum_range_add _ 128 128]
  obtain rfl | rfl : h = 0 ∨ h = 1 := by omega
  · rw [Finset.sum_congr rfl fun x hx => if_pos (by have := mem_range.1 hx; omega),
      Finset.sum_eq_zero (s := range 128) (f := fun x => ite ((128 + x) / 128 = 0) _ _) fun x hx =>
        if_neg (by have := mem_range.1 hx; omega), add_zero]
    simp
  · rw [Finset.sum_eq_zero (s := range 128) (f := fun x => ite (x / 128 = 1) _ _) fun x hx =>
        if_neg (by have := mem_range.1 hx; omega),
      Finset.sum_congr rfl fun x hx => if_pos (by have := mem_range.1 hx; omega), zero_add]

/-- A finite sum of reals, among the extended reals. -/
theorem coe_sum {ι : Type*} (s : Finset ι) (f : ι → ℝ) : ((∑ x ∈ s, f x : ℝ) : EReal) = ∑ x ∈ s, (f x : EReal) := by
  classical
  induction s using Finset.induction_on with
  | empty => rfl
  | insert a s ha ih => rw [Finset.sum_insert ha, Finset.sum_insert ha, EReal.coe_add, ih]

end Attn

end
-- ==== Proof.Block.lean ====
/-
  What the body of the attention gradient computes for one block of 128 rows against 256 keys, as functions of the block
  and of the keys: two heads lie side by side in the 128 lanes, and the block is stacked twice, once with each head's
  lanes kept.
-/
module

public import proofs.«01_k».proof.Proof.Gen.KernelIdeal.Skeleton
public import proofs.«01_k».proof.Proof.Math
public import Idealize.ShloMosaic.Lib.Pointwise
public import Idealize.ShloMosaic.Lib.ValueIdx

@[expose] public section

noncomputable section

namespace Attn

open Idealize.ShloMosaic Cert.KernelIdeal Cert.KernelIdeal.Gen

section Defs
variable {F : FTy → Type} [FloatOps F]

/-- The block stacked twice: the upper half keeps the first head's lanes, the lower half the second's. -/
def stacked (x : Vec F S128x128 .bf16) : FVec F S256x128 .bf16 := k0_pay14 k0_pay5 k0_pay6 x

/-- A value constant along each head's lanes, as a column stacked in the same way. -/
def column (x : Vec F S128x128 .f32) : FVec F S256x1 .f32 :=
  k0_pay16 k0_pay5 k0_pay6 (shapeCast S128x128 x shapeCasts_S128x128_S128x128)

/-- The attention weights of the stacked rows. -/
def weights (mask : IVec S128x256 1) (q : Vec F S128x128 .bf16) (l : Vec F S128x128 .f32) (kk : Vec F S256x128 .bf16) :
    FVec F S256x256 .f32 := k0_pay18 kk mask (stacked q) (column l)

/-- The gradient of the scores of the stacked rows. -/
def slopes (mask : IVec S128x256 1) (q d : Vec F S128x128 .bf16) (l dl : Vec F S128x128 .f32)
    (kk vv : Vec F S256x128 .bf16) : FVec F S256x256 .bf16 :=
  truncf .bf16 (mulf (weights mask q l kk)
    (subf (matmul dot_S256x128_S256x128_S256x256_1_1_0_0_n_n none (stacked d) vv (constant S256x256 .f32 0x00000000#32))
      (broadcastTo S256x256 (column dl) broadcasts_S256x1_S256x256))) bitsLt_bf16_f32

/-- The gradient of the block's rows. -/
def rowGrad (mask : IVec S128x256 1) (q d : Vec F S128x128 .bf16) (l dl : Vec F S128x128 .f32)
    (kk vv : Vec F S256x128 .bf16) : FVec F S128x128 .f32 :=
  k0_pay20 k0_pay6 (shapeCast S128x128 dl shapeCasts_S128x128_S128x128) kk vv mask (stacked q) (stacked d) (column l)
    (k0_pay17 k0_pay5 (shapeCast S128x128 dl shapeCasts_S128x128_S128x128)) (Scalar.ofBits .f32 0xFF800000#32)

/-- What the block adds to the gradient of the keys. -/
def keyGrad (mask : IVec S128x256 1) (q d : Vec F S128x128 .bf16) (l dl : Vec F S128x128 .f32)
    (kk vv : Vec F S256x128 .bf16) : FVec F S256x128 .f32 :=
  matmul dot_S256x256_S256x128_S256x128_0_0_1_1_n_n none (slopes mask q d l dl kk vv) (stacked q)
    (constant S256x128 .f32 0x00000000#32)

/-- What the block adds to the gradient of the values. -/
def valueGrad (mask : IVec S128x256 1) (q d : Vec F S128x128 .bf16) (l : Vec F S128x128 .f32)
    (kk : Vec F S256x128 .bf16) : FVec F S256x128 .f32 :=
  matmul dot_S256x256_S256x128_S256x128_0_0_1_1_n_n none (truncf .bf16 (weights mask q l kk) bitsLt_bf16_f32) (stacked d)
    (constant S256x128 .f32 0x00000000#32)

end Defs

/-! ### The masks -/

theorem low_apply (a : Fin 128) (l : Fin 128) : k0_pay5 (ix2 a l) = if l.val < 64 then 1#1 else 0#1 := by
  unfold k0_pay5
  pointwise
  revert l
  decide +kernel

theorem high_apply (a : Fin 128) (l : Fin 128) : k0_pay6 (ix2 a l) = if l.val < 64 then 0#1 else 1#1 := by
  unfold k0_pay6
  pointwise
  rw [low_apply]
  split <;> decide

theorem wide_apply (r : Fin 128) (κ : Fin 256) :
    k0_pay2 (ix2 r κ) = if κ.val ≤ r.val + 128 ∧ r.val ≤ κ.val then 1#1 else 0#1 := by
  unfold k0_pay2
  pointwise
  revert r κ
  decide +kernel

theorem first_apply (r : Fin 128) (κ : Fin 256) :
    k0_pay13 0#32 k0_pay2 k0_pay4 (ix2 r κ) = if 128 ≤ κ.val ∧ κ.val ≤ r.val + 128 ∧ r.val ≤ κ.val then 1#1 else 0#1 := by
  have h4 : ∀ κ : Fin 256, IntOp.cmpi CmpIPredicate.sge (BitVec.ofNat 32 ↑κ) 128#32 = if 128 ≤ κ.val then 1#1 else 0#1 := by
    decide +kernel
  unfold k0_pay13 k0_pay4
  pointwise [wide_apply, h4]
  split <;> split <;> split <;> first | omega | decide

/-! ### The parts of a block over the ideal values -/

theorem neg_inf : Ideal.ofBits FTy.f32 4286578688#32 = (⊥ : EReal) := by
  simp [Ideal.ofBits, Ideal.ieee]

/-- The maximum over a head's lanes of a value that is the same on each of them. -/
theorem fold_max_eq (f : Fin 128 → EReal) (v : EReal) (p : Fin 128 → Prop) [DecidablePred p] (h : ∀ l, p l → f l = v)
    (h' : ∀ l, ¬ p l → f l = ⊥) (hp : ∃ l, p l) : Finset.fold max ⊥ f Finset.univ = v := by
  show Finset.univ.sup f = v
  obtain ⟨l, hl⟩ := hp
  apply le_antisymm
  · refine Finset.sup_le fun l _ => ?_
    by_cases hl : p l
    · exact (h l hl).le
    · rw [h' l hl]; exact bot_le
  · rw [← h l hl]; exact Finset.le_sup (Finset.mem_univ l)

theorem stacked_apply (x : Vec Ideal S128x128 .bf16) (r : Fin 256) (l : Fin 128) :
    stacked x (ix2 r l) = if r.val / 128 = l.val / 64 then x (ix2 ⟨r.val % 128, Nat.mod_lt _ (by decide)⟩ l) else 0 := by
  unfold stacked k0_pay14
  pointwise [low_apply, high_apply]
  show (if h : r.val < 128 then Scalar.select (if l.val < 64 then 1#1 else 0#1) (x (ix2 ⟨r.val, h⟩ l)) (0 : EReal)
    else Scalar.select (if l.val < 64 then 0#1 else 1#1) (x (ix2 ⟨r.val - 128, by omega⟩ l)) (0 : EReal)) = _
  by_cases hr : r.val < 128
  · have e : (⟨r.val % 128, Nat.mod_lt _ (by decide)⟩ : Fin 128) = ⟨r.val, hr⟩ := Fin.ext (Nat.mod_eq_of_lt hr)
    rw [e, dif_pos hr]
    by_cases hl : l.val < 64
    · rw [if_pos hl, if_pos (by omega)]; rfl
    · rw [if_neg hl, if_neg (by omega)]; rfl
  · have e : (⟨r.val % 128, Nat.mod_lt _ (by decide)⟩ : Fin 128) = ⟨r.val - 128, by omega⟩ :=
      Fin.ext (by show r.val % 128 = r.val - 128; omega)
    rw [e, dif_neg hr]
    by_cases hl : l.val < 64
    · rw [if_pos hl, if_neg (by omega)]; rfl
    · rw [if_neg hl, if_pos (by omega)]; rfl

theorem column_apply (x : Vec Ideal S128x128 .f32) (r : Fin 256) (v : EReal)
    (h : ∀ l : Fin 128, l.val / 64 = r.val / 128 → x (ix2 ⟨r.val % 128, Nat.mod_lt _ (by decide)⟩ l) = v) :
    column x (ix2 r 0) = v := by
  unfold column k0_pay16
  pointwise [low_apply, high_apply, neg_inf]
  show (if h : r.val < 128 then Finset.fold max ⊥ (fun l : Fin 128 =>
      Scalar.select (if l.val < 64 then 1#1 else 0#1) (x (ix2 ⟨r.val, h⟩ l)) (⊥ : EReal)) Finset.univ
    else Finset.fold max ⊥ (fun l : Fin 128 =>
      Scalar.select (if l.val < 64 then 0#1 else 1#1) (x (ix2 ⟨r.val - 128, by omega⟩ l)) (⊥ : EReal)) Finset.univ) = v
  by_cases hr : r.val < 128
  · have e : (⟨r.val % 128, Nat.mod_lt _ (by decide)⟩ : Fin 128) = ⟨r.val, hr⟩ := Fin.ext (Nat.mod_eq_of_lt hr)
    rw [e] at h
    rw [dif_pos hr]
    refine fold_max_eq _ v (fun l => l.val < 64) (fun l hl => ?_) (fun l hl => ?_) ⟨0, by decide⟩
    · rw [if_pos hl]; exact h l (by omega)
    · rw [if_neg hl]; rfl
  · have e : (⟨r.val % 128, Nat.mod_lt _ (by decide)⟩ : Fin 128) = ⟨r.val - 128, by omega⟩ :=
      Fin.ext (by show r.val % 128 = r.val - 128; omega)
    rw [e] at h
    rw [dif_neg hr]
    refine fold_max_eq _ v (fun l => ¬ l.val < 64) (fun l hl => ?_) (fun l hl => ?_) ⟨64, by decide⟩
    · rw [if_neg hl]; exact h l (by omega)
    · rw [if_pos (not_not.1 hl)]; rfl

theorem weights_apply (mask : IVec S128x256 1) (q : Vec Ideal S128x128 .bf16) (l : Vec Ideal S128x128 .f32)
    (kk : Vec Ideal S256x128 .bf16) (r : Fin 256) (κ : Fin 256) :
    weights mask q l kk (ix2 r κ) = Scalar.select (mask (ix2 ⟨r.val % 128, Nat.mod_lt _ (by decide)⟩ κ))
      (Ideal.exp (∑ x, stacked q (ix2 r x) * kk (ix2 κ x) - column l (ix2 r 0))) 0 := by
  unfold weights k0_pay18
  pointwise
  show Scalar.select (if h : r.val < 128 then mask (ix2 ⟨r.val, h⟩ κ) else mask (ix2 ⟨r.val - 128, by omega⟩ κ)) _ _ = _
  by_cases hr : r.val < 128
  · have e : (⟨r.val % 128, Nat.mod_lt _ (by decide)⟩ : Fin 128) = ⟨r.val, hr⟩ := Fin.ext (Nat.mod_eq_of_lt hr)
    rw [e, dif_pos hr]
  · have e : (⟨r.val % 128, Nat.mod_lt _ (by decide)⟩ : Fin 128) = ⟨r.val - 128, by omega⟩ :=
      Fin.ext (by show r.val % 128 = r.val - 128; omega)
    rw [e, dif_neg hr]

theorem slopes_apply (mask : IVec S128x256 1) (q d : Vec Ideal S128x128 .bf16) (l dl : Vec Ideal S128x128 .f32)
    (kk vv : Vec Ideal S256x128 .bf16) (r : Fin 256) (κ : Fin 256) :
    slopes mask q d l dl kk vv (ix2 r κ)
      = weights mask q l kk (ix2 r κ) * (∑ x, stacked d (ix2 r x) * vv (ix2 κ x) - column dl (ix2 r 0)) := by
  unfold slopes
  pointwise

theorem rowGrad_apply (mask : IVec S128x256 1) (q d : Vec Ideal S128x128 .bf16) (l dl : Vec Ideal S128x128 .f32)
    (kk vv : Vec Ideal S256x128 .bf16) (r : Fin 128) (c : Fin 128) :
    rowGrad mask q d l dl kk vv (ix2 r c)
      = ∑ x, slopes mask q d l dl kk vv (ix2 ⟨128 * (c.val / 64) + r.val, by omega⟩ x) * kk (ix2 x c) := by
  have low : ∀ c : Fin 128, IntOp.cmpi CmpIPredicate.slt (BitVec.ofNat 32 ↑c) 64#32 = if c.val < 64 then 1#1 else 0#1 := by
    decide +kernel
  unfold rowGrad
  change (k0_pay20 _ _ _ _ _ _ _ _ _ _ : FVec Ideal _ _) _ = _
  unfold k0_pay20
  change matmul _ _ (concatenate _ _ [⟨_, extractStridedSlice _ _ (slopes mask q d l dl kk vv) _⟩,
    ⟨_, extractStridedSlice _ _ (slopes mask q d l dl kk vv) _⟩] _) _ _ _ = _
  pointwise [low]
  by_cases hc : c.val < 64
  · have e : (⟨128 * (c.val / 64) + r.val, by omega⟩ : Fin 256) = ⟨r.val, by omega⟩ :=
      Fin.ext (by show 128 * (c.val / 64) + r.val = r.val; omega)
    rw [e, if_pos hc]
    exact (congrArg₂ (· + ·) rfl (Finset.sum_eq_zero fun _ _ => rfl)).trans (add_zero _)
  · have e : (⟨128 * (c.val / 64) + r.val, by omega⟩ : Fin 256) = ⟨128 + r.val, by omega⟩ :=
      Fin.ext (by show 128 * (c.val / 64) + r.val = 128 + r.val; omega)
    rw [e, if_neg hc]
    exact (congrArg₂ (· + ·) (Finset.sum_eq_zero fun _ _ => rfl) rfl).trans (zero_add _)

theorem keyGrad_apply (mask : IVec S128x256 1) (q d : Vec Ideal S128x128 .bf16) (l dl : Vec Ideal S128x128 .f32)
    (kk vv : Vec Ideal S256x128 .bf16) (r : Fin 256) (c : Fin 128) :
    keyGrad mask q d l dl kk vv (ix2 r c) = ∑ x, slopes mask q d l dl kk vv (ix2 x r) * stacked q (ix2 x c) := by
  unfold keyGrad
  pointwise

theorem valueGrad_apply (mask : IVec S128x256 1) (q d : Vec Ideal S128x128 .bf16) (l : Vec Ideal S128x128 .f32)
    (kk : Vec Ideal S256x128 .bf16) (r : Fin 256) (c : Fin 128) :
    valueGrad mask q d l kk (ix2 r c) = ∑ x, weights mask q l kk (ix2 x r) * stacked d (ix2 x c) := by
  unfold valueGrad
  pointwise

/-! ### A block whose inputs are real tables -/

/-- Block `b`'s inputs are the rows `128 b …` of real tables, its keys the rows `128 b - 128 …` where there are any. -/
structure IsBlock (b : ℕ) (Q K V D : ℕ → ℕ → ℝ) (e : ℕ → ℕ → ℝ) (mask : IVec S128x256 1)
    (q d : Vec Ideal S128x128 .bf16) (l dl : Vec Ideal S128x128 .f32) (kk vv : Vec Ideal S256x128 .bf16) : Prop where
  lt : b < 8
  mask : ∀ (r : Fin 128) (κ : Fin 256), mask (ix2 r κ)
    = if 128 ≤ 128 * b + κ.val ∧ band (128 * b + r) (128 * b + κ - 128) then 1#1 else 0#1
  q : ∀ r c : Fin 128, q (ix2 r c) = (Q (128 * b + r) c : EReal)
  d : ∀ r c : Fin 128, d (ix2 r c) = (D (128 * b + r) c : EReal)
  l : ∀ r c : Fin 128, l (ix2 r c) = (lse (lanes (c / 64) Q) (lanes (c / 64) K) (128 * b + r) : EReal)
  dl : ∀ r c : Fin 128, dl (ix2 r c) = (delta (lanes (c / 64) Q) (lanes (c / 64) K) (lanes (c / 64) V) (lanes (c / 64) D)
    (e (c / 64)) (128 * b + r) : EReal)
  kk : ∀ (κ : Fin 256) (c : Fin 128), 128 ≤ 128 * b + κ.val → kk (ix2 κ c) = (K (128 * b + κ - 128) c : EReal)
  vv : ∀ (κ : Fin 256) (c : Fin 128), 128 ≤ 128 * b + κ.val → vv (ix2 κ c) = (V (128 * b + κ - 128) c : EReal)

section Real
variable {b : ℕ} {Q K V D : ℕ → ℕ → ℝ} {e : ℕ → ℕ → ℝ} {mask : IVec S128x256 1}
    {q d : Vec Ideal S128x128 .bf16} {l dl : Vec Ideal S128x128 .f32} {kk vv : Vec Ideal S256x128 .bf16}

/-- A stacked row's product with a row of real entries: the sum over the row's own head. -/
theorem stacked_dot {X Y : ℕ → ℕ → ℝ} {x : Vec Ideal S128x128 .bf16} {y : Vec Ideal S256x128 .bf16} {j : ℕ}
    (hx : ∀ r c : Fin 128, x (ix2 r c) = (X (128 * b + r) c : EReal)) (ρ κ : Fin 256)
    (hy : ∀ c : Fin 128, y (ix2 κ c) = (Y j c : EReal)) :
    ∑ c, stacked x (ix2 ρ c) * y (ix2 κ c)
      = ((∑ t ∈ Finset.range 64, lanes (ρ / 128) X (128 * b + ρ % 128) t * lanes (ρ / 128) Y j t : ℝ) : EReal) := by
  rw [show (∑ t ∈ Finset.range 64, lanes (ρ / 128) X (128 * b + ρ % 128) t * lanes (ρ / 128) Y j t)
      = ∑ c : Fin 128, if ρ.val / 128 = c.val / 64 then X (128 * b + ρ % 128) c * Y j c else 0 from
    (sum_lanes (fun c => X (128 * b + ρ % 128) c * Y j c) (by omega)).symm, coe_sum]
  refine Finset.sum_congr rfl fun c _ => ?_
  rw [stacked_apply, hx, hy]
  split
  · rw [EReal.coe_mul]
  · rw [zero_mul, EReal.coe_zero]

theorem IsBlock.weights (h : IsBlock b Q K V D e mask q d l dl kk vv) (ρ κ : Fin 256) :
    weights mask q l kk (ix2 ρ κ) = ((if 128 ≤ 128 * b + κ.val then
      prob (lanes (ρ / 128) Q) (lanes (ρ / 128) K) (128 * b + ρ % 128) (128 * b + κ - 128) else 0 : ℝ) : EReal) := by
  rw [weights_apply, h.mask]
  by_cases hk : 128 ≤ 128 * b + κ.val
  · rw [if_pos hk]
    by_cases hb : band (128 * b + ρ % 128) (128 * b + κ - 128)
    · rw [if_pos ⟨hk, hb⟩, prob, if_pos hb, stacked_dot h.q ρ κ (fun c => h.kk κ c hk),
        column_apply l ρ (lse (lanes (ρ / 128) Q) (lanes (ρ / 128) K) (128 * b + ρ % 128) : EReal)
          (fun c hc => by rw [h.l]; simp only [hc]), ← EReal.coe_sub]
      rfl
    · rw [if_neg (fun hh => hb hh.2), prob, if_neg hb]
      rfl
  · rw [if_neg hk, if_neg (fun hh => hk hh.1)]
    rfl

theorem IsBlock.slopes (h : IsBlock b Q K V D e mask q d l dl kk vv) (ρ κ : Fin 256) :
    slopes mask q d l dl kk vv (ix2 ρ κ) = ((if 128 ≤ 128 * b + κ.val then
      dscore (lanes (ρ / 128) Q) (lanes (ρ / 128) K) (lanes (ρ / 128) V) (lanes (ρ / 128) D) (e (ρ / 128))
        (128 * b + ρ % 128) (128 * b + κ - 128) else 0 : ℝ) : EReal) := by
  rw [slopes_apply, h.weights]
  by_cases hk : 128 ≤ 128 * b + κ.val
  · rw [if_pos hk, if_pos hk, stacked_dot h.d ρ κ (fun c => h.vv κ c hk),
      column_apply dl ρ (delta (lanes (ρ / 128) Q) (lanes (ρ / 128) K) (lanes (ρ / 128) V) (lanes (ρ / 128) D) (e (ρ / 128))
        (128 * b + ρ % 128) : EReal) (fun c hc => by rw [h.dl]; simp only [hc]), ← EReal.coe_sub, ← EReal.coe_mul]
    rfl
  · rw [if_neg hk, if_neg hk, EReal.coe_zero, zero_mul]

/-- The block's rows of `gradQ`. -/
theorem IsBlock.rowGrad (h : IsBlock b Q K V D e mask q d l dl kk vv) (r c : Fin 128) :
    rowGrad mask q d l dl kk vv (ix2 r c) = (gradQ (lanes (c / 64) Q) (lanes (c / 64) K) (lanes (c / 64) V)
      (lanes (c / 64) D) (e (c / 64)) (128 * b + r) (c % 64) : EReal) := by
  rw [rowGrad_apply, gradQ, sum_keys _ h.lt r.isLt (fun j hj => by rw [dscore_of_not _ _ _ _ _ hj, zero_mul]),
    Finset.sum_range, coe_sum]
  refine Finset.sum_congr rfl fun κ _ => ?_
  rw [h.slopes]
  have e1 : (128 * (c.val / 64) + r.val) / 128 = c.val / 64 := by omega
  have e2 : (128 * (c.val / 64) + r.val) % 128 = r.val := by omega
  simp only [e1, e2]
  by_cases hk : 128 ≤ 128 * b + κ.val
  · rw [if_pos hk, if_pos hk, h.kk κ c hk, EReal.coe_mul, lanes, show 64 * (c.val / 64) + c.val % 64 = c.val by omega]
  · rw [if_neg hk, if_neg hk, EReal.coe_zero, zero_mul]

/-- What the block adds to a key's row of `gradK`: the block's own rows' terms. -/
theorem IsBlock.keyGrad (h : IsBlock b Q K V D e mask q d l dl kk vv) (κ : Fin 256) (c : Fin 128)
    (hk : 128 ≤ 128 * b + κ.val) :
    keyGrad mask q d l dl kk vv (ix2 κ c) = ((∑ r ∈ Finset.range 128,
      dscore (lanes (c / 64) Q) (lanes (c / 64) K) (lanes (c / 64) V) (lanes (c / 64) D) (e (c / 64))
        (128 * b + r) (128 * b + κ - 128) * lanes (c / 64) Q (128 * b + r) (c % 64) : ℝ) : EReal) := by
  have hs := sum_halves (fun x => dscore (lanes (x / 128) Q) (lanes (x / 128) K) (lanes (x / 128) V) (lanes (x / 128) D)
    (e (x / 128)) (128 * b + x % 128) (128 * b + κ - 128) * Q (128 * b + x % 128) c) (h := c / 64) (by omega)
  rw [keyGrad_apply]
  have : (∑ r ∈ Finset.range 128,
      dscore (lanes (c / 64) Q) (lanes (c / 64) K) (lanes (c / 64) V) (lanes (c / 64) D) (e (c / 64))
        (128 * b + r) (128 * b + κ - 128) * lanes (c / 64) Q (128 * b + r) (c % 64)) = _ :=
    (Finset.sum_congr rfl fun r hr => by
      have hr := Finset.mem_range.1 hr
      have e1 : (128 * (c.val / 64) + r) / 128 = c.val / 64 := by omega
      have e2 : (128 * (c.val / 64) + r) % 128 = r := by omega
      simp only [e1, e2]
      rw [lanes, show 64 * (c.val / 64) + c.val % 64 = c.val by omega]).trans hs.symm
  rw [this, coe_sum]
  refine Finset.sum_congr rfl fun ρ _ => ?_
  rw [h.slopes, stacked_apply, h.q, if_pos hk]
  by_cases hc : ρ.val / 128 = c.val / 64
  · rw [if_pos hc, if_pos hc, EReal.coe_mul]
  · rw [if_neg hc, if_neg hc, mul_zero, EReal.coe_zero]

/-- What the block adds to a key's row of `gradV`. -/
theorem IsBlock.valueGrad (h : IsBlock b Q K V D e mask q d l dl kk vv) (κ : Fin 256) (c : Fin 128)
    (hk : 128 ≤ 128 * b + κ.val) :
    valueGrad mask q d l kk (ix2 κ c) = ((∑ r ∈ Finset.range 128,
      prob (lanes (c / 64) Q) (lanes (c / 64) K)
        (128 * b + r) (128 * b + κ - 128) * lanes (c / 64) D (128 * b + r) (c % 64) : ℝ) : EReal) := by
  have hs := sum_halves (fun x => prob (lanes (x / 128) Q) (lanes (x / 128) K)
    (128 * b + x % 128) (128 * b + κ - 128) * D (128 * b + x % 128) c) (h := c / 64) (by omega)
  rw [valueGrad_apply]
  have : (∑ r ∈ Finset.range 128, prob (lanes (c / 64) Q) (lanes (c / 64) K)
        (128 * b + r) (128 * b + κ - 128) * lanes (c / 64) D (128 * b + r) (c % 64)) = _ :=
    (Finset.sum_congr rfl fun r hr => by
      have hr := Finset.mem_range.1 hr
      have e1 : (128 * (c.val / 64) + r) / 128 = c.val / 64 := by omega
      have e2 : (128 * (c.val / 64) + r) % 128 = r := by omega
      simp only [e1, e2]
      rw [lanes, show 64 * (c.val / 64) + c.val % 64 = c.val by omega]).trans hs.symm
  rw [this, coe_sum]
  refine Finset.sum_congr rfl fun ρ _ => ?_
  rw [h.weights, stacked_apply, h.d, if_pos hk]
  by_cases hc : ρ.val / 128 = c.val / 64
  · rw [if_pos hc, if_pos hc, EReal.coe_mul]
  · rw [if_neg hc, if_neg hc, mul_zero, EReal.coe_zero]

end Real

end Attn

end
-- ==== Proof.Pieces.lean ====
/-
  What one grid point of the attention gradient leaves in its three output blocks, in terms of the block functions of
  Block.lean: the row gradient is stored block by block, the key and value gradients are zeroed and added to.
-/
module

public import proofs.«01_k».proof.Proof.Gen.KernelIdeal.Value
public import proofs.«01_k».proof.Proof.Block

@[expose] public section

set_option maxRecDepth 16384

noncomputable section

namespace Attn

open Idealize.ShloMosaic Idealize.ShloMosaic.TcCoe Idealize.SL.Sem Cert.KernelIdeal Cert.KernelIdeal.Gen

section Defs
variable {F : FTy → Type} [FloatOps F]

/-- The rectangle of 128 rows, and of 256. -/
abbrev rowRect (o : ℕ) (h : ∀ a, ![o, 0] a + ![128, 128] a ≤ S1024x128.size a) : Rect S1024x128 := Rect.unit ![o, 0] ![128, 128] h
abbrev pairRect (o : ℕ) (h : ∀ a, ![o, 0] a + ![256, 128] a ≤ S1024x128.size a) : Rect S1024x128 := Rect.unit ![o, 0] ![256, 128] h

/-- 128 rows of a panel. -/
def rows {e : EltTy} (x : Vec F S1024x128 e) (o : ℕ) (h : ∀ a, ![o, 0] a + ![128, 128] a ≤ S1024x128.size a) : Vec F S128x128 e :=
  View.ld x (rowRect o h)

/-- 256 rows of a panel. -/
def pair {e : EltTy} (x : Vec F S1024x128 e) (o : ℕ) (h : ∀ a, ![o, 0] a + ![256, 128] a ≤ S1024x128.size a) : Vec F S256x128 e :=
  View.ld x (pairRect o h)

/-- What a grid point reads: its panels of q, k, v, the output's cotangent, the log-sum-exp and delta, the block of keys
    and of values before the panel, and the rows after it. -/
structure Reads (F : FTy → Type) where
  q : Vec F S1024x128 .bf16
  k : Vec F S1024x128 .bf16
  v : Vec F S1024x128 .bf16
  d : Vec F S1024x128 .bf16
  l : Vec F S1024x128 .f32
  dl : Vec F S1024x128 .f32
  kp : Vec F S128x128 .bf16
  vp : Vec F S128x128 .bf16
  qn : Vec F S128x128 .bf16
  dn : Vec F S128x128 .bf16
  ln : Vec F S128x128 .f32
  dln : Vec F S128x128 .f32

theorem in_rows {b : ℕ} (hb : b < 8) : ∀ a, ![128 * b, 0] a + ![128, 128] a ≤ S1024x128.size a := by
  intro a; fin_cases a
  · show 128 * b + 128 ≤ 1024; omega
  · exact (by decide : 0 + 128 ≤ 128)

theorem in_pair {b : ℕ} (hb : b < 7) : ∀ a, ![128 * b, 0] a + ![256, 128] a ≤ S1024x128.size a := by
  intro a; fin_cases a
  · show 128 * b + 256 ≤ 1024; omega
  · exact (by decide : 0 + 128 ≤ 128)

variable (x : Reads F) (c : BitVec 32)

/-- The first block's mask: the band, without the keys before the panel at the first chunk. -/
def firstMask : IVec S128x256 1 := k0_pay13 c k0_pay2 k0_pay4

/-- The first block's keys and values: the block before the panel, then the panel's first rows. -/
def firstKeys : Vec F S256x128 .bf16 := k0_pay11 x.kp (rows x.k 0 (in_rows (b := 0) (by decide)))
def firstValues : Vec F S256x128 .bf16 := k0_pay12 x.vp (rows x.v 0 (in_rows (b := 0) (by decide)))

/-- The row gradient's store of block `b`. -/
def rowPiece (b : ℕ) (hb : b < 8) : View.Piece (Elt F) S1024x128 .f32 :=
  ⟨rowRect (128 * b) (in_rows hb),
    match b, hb with
    | 0, h => rowGrad (firstMask c) (rows x.q 0 (in_rows h)) (rows x.d 0 (in_rows h)) (rows x.l 0 (in_rows h))
        (rows x.dl 0 (in_rows h)) (firstKeys x) (firstValues x)
    | b + 1, h => rowGrad k0_pay2 (rows x.q _ (in_rows h)) (rows x.d _ (in_rows h)) (rows x.l _ (in_rows h))
        (rows x.dl _ (in_rows h)) (pair x.k (128 * b) (in_pair (by omega))) (pair x.v (128 * b) (in_pair (by omega)))⟩

/-- 128 rows of an accumulator added to. -/
def addRows (X : Vec F S1024x128 .f32) (o : ℕ) (h : ∀ a, ![o, 0] a + ![128, 128] a ≤ S1024x128.size a)
    (w : FVec F S128x128 .f32) : Vec F S1024x128 .f32 :=
  (rowRect o h).overlay X (addf (shapeCast S128x128 (rows X o h) shapeCasts_S128x128_S128x128) w)

/-- 256 rows of an accumulator added to. -/
def addPair (X : Vec F S1024x128 .f32) (o : ℕ) (h : ∀ a, ![o, 0] a + ![256, 128] a ≤ S1024x128.size a)
    (w : FVec F S256x128 .f32) : Vec F S1024x128 .f32 :=
  (pairRect o h).overlay X (addf (shapeCast S256x128 (pair X o h) shapeCasts_S256x128_S256x128) w)

/-- The key gradient after block `b`. -/
def keyAfter : (b : ℕ) → b < 8 → Vec F S1024x128 .f32
  | 0, h => addRows (View.canon [⟨Rect.unit ![0, 0] ![1024, 128] inb_S1024x128_S1024x128_0_0, k0_pay7⟩]) 0 (in_rows h)
      (extractStridedSlice S128x128 ![128, 0] (keyGrad (firstMask c) (rows x.q 0 (in_rows h)) (rows x.d 0 (in_rows h))
        (rows x.l 0 (in_rows h)) (rows x.dl 0 (in_rows h)) (firstKeys x) (firstValues x)) slices_S256x128_o128_0_S128x128)
  | b + 1, h => addPair (keyAfter b (by omega)) (128 * b) (in_pair (by omega))
      (keyGrad k0_pay2 (rows x.q (128 * (b + 1)) (in_rows h)) (rows x.d (128 * (b + 1)) (in_rows h))
        (rows x.l (128 * (b + 1)) (in_rows h)) (rows x.dl (128 * (b + 1)) (in_rows h))
        (pair x.k (128 * b) (in_pair (by omega))) (pair x.v (128 * b) (in_pair (by omega))))

/-- The value gradient after block `b`. -/
def valueAfter : (b : ℕ) → b < 8 → Vec F S1024x128 .f32
  | 0, h => addRows (View.canon [⟨Rect.unit ![0, 0] ![1024, 128] inb_S1024x128_S1024x128_0_0, k0_pay8⟩]) 0 (in_rows h)
      (extractStridedSlice S128x128 ![128, 0] (valueGrad (firstMask c) (rows x.q 0 (in_rows h)) (rows x.d 0 (in_rows h))
        (rows x.l 0 (in_rows h)) (firstKeys x)) slices_S256x128_o128_0_S128x128)
  | b + 1, h => addPair (valueAfter b (by omega)) (128 * b) (in_pair (by omega))
      (valueGrad k0_pay2 (rows x.q (128 * (b + 1)) (in_rows h)) (rows x.d (128 * (b + 1)) (in_rows h))
        (rows x.l (128 * (b + 1)) (in_rows h)) (pair x.k (128 * b) (in_pair (by omega))))

/-- The rows after the panel, against the panel's last keys: their weights, -/
def nextWeights : FVec F S256x128 .f32 :=
  k0_pay117 k0_pay5 k0_pay6 (shapeCast S128x128 x.ln shapeCasts_S128x128_S128x128)
    (rows x.k (128 * 7) (in_rows (b := 7) (by decide))) (k0_pay112 c k0_pay3) (stacked x.qn)

/-- what they add to the key gradient, -/
def nextKey : FVec F S128x128 .f32 :=
  matmul dot_S256x128_S256x128_S128x128_0_0_1_1_n_n none
    (truncf .bf16 (mulf (nextWeights x c) (subf (matmul dot_S256x128_S128x128_S256x128_1_1_0_0_n_n none (stacked x.dn)
      (rows x.v (128 * 7) (in_rows (b := 7) (by decide))) (constant S256x128 .f32 0x00000000#32))
      (broadcastTo S256x128 (column x.dln) broadcasts_S256x1_S256x128))) bitsLt_bf16_f32)
    (stacked x.qn) (constant S128x128 .f32 0x00000000#32)

/-- and to the value gradient. -/
def nextValue : FVec F S128x128 .f32 :=
  matmul dot_S256x128_S256x128_S128x128_0_0_1_1_n_n none (truncf .bf16 (nextWeights x c) bitsLt_bf16_f32)
    (stacked x.dn) (constant S128x128 .f32 0x00000000#32)

end Defs

variable {F : FTy → Type} [FloatOps F]
variable (m : (ℓ : Loc nD τ sig) → Buf (Elt F) ℓ)

/-- A load of the whole of a block of 128 rows. -/
def whole {e : EltTy} (x : Vec F S128x128 e) : Vec F S128x128 e :=
  View.ld x (Rect.unit ![0, 0] ![128, 128] inb_S128x128_S128x128_0_0)

/-- Grid point `t`'s reads. -/
def readsAt (c : Dev nD) (t : Fin cfg0.N) : Reads F :=
  ⟨iblk m c 0 t, iblk m c 1 t, iblk m c 2 t, iblk m c 3 t, iblk m c 4 t, iblk m c 5 t,
    whole (iblk m c 6 t), whole (iblk m c 7 t), whole (iblk m c 8 t), whole (iblk m c 9 t), whole (iblk m c 10 t), whole (iblk m c 11 t)⟩

/-- The row gradient's block: the eight stores. -/
theorem rowOut (c : Dev nD) (t : Fin cfg0.N) : (outsAt0 m c t).1 = View.canon
    [rowPiece (readsAt m c t) (BitVec.ofNat 32 (grid0.coords t 1)) 7 (by decide), rowPiece (readsAt m c t) (BitVec.ofNat 32 (grid0.coords t 1)) 6 (by decide),
     rowPiece (readsAt m c t) (BitVec.ofNat 32 (grid0.coords t 1)) 5 (by decide), rowPiece (readsAt m c t) (BitVec.ofNat 32 (grid0.coords t 1)) 4 (by decide),
     rowPiece (readsAt m c t) (BitVec.ofNat 32 (grid0.coords t 1)) 3 (by decide), rowPiece (readsAt m c t) (BitVec.ofNat 32 (grid0.coords t 1)) 2 (by decide),
     rowPiece (readsAt m c t) (BitVec.ofNat 32 (grid0.coords t 1)) 1 (by decide), rowPiece (readsAt m c t) (BitVec.ofNat 32 (grid0.coords t 1)) 0 (by decide)] := by
  unfold outsAt0 out0_A_12
  rw [View.read_writes_eq_canon _ _ _ (cover0_A_12 c _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_eq_canon']
  generalize BitVec.ofNat 32 (grid0.coords t 1) = cc
  simp only [readsAt, whole, rowPiece, rows, pair, firstKeys, firstValues, Nat.reduceMul, Nat.reduceAdd]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  rfl

/-- The key gradient's block. -/
theorem keyOut (c : Dev nD) (t : Fin cfg0.N) : (outsAt0 m c t).2.1 =
    addRows (keyAfter (readsAt m c t) (BitVec.ofNat 32 (grid0.coords t 1)) 7 (by decide)) (128 * 7) (in_rows (by decide))
      (nextKey (readsAt m c t) (BitVec.ofNat 32 (grid0.coords t 1))) := by
  unfold outsAt0 out0_A_13
  rw [View.read_writes_eq_canon _ _ _ (cover0_A_13 c _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_eq_canon']
  generalize BitVec.ofNat 32 (grid0.coords t 1) = cc
  simp only [readsAt, whole, keyAfter, nextKey, nextWeights, addRows, addPair, rows, pair, firstKeys, firstValues, Nat.reduceMul, Nat.reduceAdd]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  rfl

/-- The value gradient's block. -/
theorem valueOut (c : Dev nD) (t : Fin cfg0.N) : (outsAt0 m c t).2.2 =
    addRows (valueAfter (readsAt m c t) (BitVec.ofNat 32 (grid0.coords t 1)) 7 (by decide)) (128 * 7) (in_rows (by decide))
      (nextValue (readsAt m c t) (BitVec.ofNat 32 (grid0.coords t 1))) := by
  unfold outsAt0 out0_A_14
  rw [View.read_writes_eq_canon _ _ _ (cover0_A_14 c _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_eq_canon']
  generalize BitVec.ofNat 32 (grid0.coords t 1) = cc
  simp only [readsAt, whole, valueAfter, nextValue, nextWeights, addRows, addPair, rows, pair, firstKeys, firstValues, Nat.reduceMul, Nat.reduceAdd]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  rfl

end Attn

end
-- ==== Proof.Panels.lean ====
/-
  What a grid point leaves, over the ideal values, when the panels it reads are real tables: the rows of the gradients of
  the panel's two heads.
-/
module

public import proofs.«01_k».proof.Proof.Pieces

@[expose] public section

noncomputable section

namespace Attn

open Idealize.ShloMosaic Cert.KernelIdeal Cert.KernelIdeal.Gen

theorem rowRect_emb (o : ℕ) (h) (r c : Fin 128) (i : Fin 1024) (hi : i.val = o + r) :
    (rowRect o h).emb (ix2 r c) = ix2 i c := by
  funext a
  refine Fin.ext ?_
  fin_cases a
  · show o + 1 * r.val = i.val
    omega
  · show 0 + 1 * c.val = c.val
    omega

theorem pairRect_emb (o : ℕ) (h) (r : Fin 256) (c : Fin 128) (i : Fin 1024) (hi : i.val = o + r) :
    (pairRect o h).emb (ix2 r c) = ix2 i c := by
  funext a
  refine Fin.ext ?_
  fin_cases a
  · show o + 1 * r.val = i.val
    omega
  · show 0 + 1 * c.val = c.val
    omega

theorem mem_rowRect (o : ℕ) (h) (i : Fin 1024) (c : Fin 128) : ix2 i c ∈ (rowRect o h).set ↔ o ≤ i.val ∧ i.val < o + 128 := by
  rw [Rect.mem_set_unit]
  constructor
  · intro hh; exact hh 0
  · intro hh a
    fin_cases a
    · exact hh
    · exact ⟨Nat.zero_le _, (Nat.zero_add 128).symm ▸ c.isLt⟩

theorem mem_pairRect (o : ℕ) (h) (i : Fin 1024) (c : Fin 128) : ix2 i c ∈ (pairRect o h).set ↔ o ≤ i.val ∧ i.val < o + 256 := by
  rw [Rect.mem_set_unit]
  constructor
  · intro hh; exact hh 0
  · intro hh a
    fin_cases a
    · exact hh
    · exact ⟨Nat.zero_le _, (Nat.zero_add 128).symm ▸ c.isLt⟩

theorem rows_apply {F : FTy → Type} [FloatOps F] {e : EltTy} (x : Vec F S1024x128 e) (o : ℕ) (h) (r c : Fin 128) (i : Fin 1024)
    (hi : i.val = o + r) : rows x o h (ix2 r c) = x (ix2 i c) :=
  congrArg x (rowRect_emb o h r c i hi)

theorem pair_apply {F : FTy → Type} [FloatOps F] {e : EltTy} (x : Vec F S1024x128 e) (o : ℕ) (h) (r : Fin 256) (c : Fin 128)
    (i : Fin 1024) (hi : i.val = o + r) : pair x o h (ix2 r c) = x (ix2 i c) :=
  congrArg x (pairRect_emb o h r c i hi)

theorem addRows_apply (X : Vec Ideal S1024x128 .f32) (o : ℕ) (h) (w : FVec Ideal S128x128 .f32) (i : Fin 1024) (c : Fin 128) :
    addRows X o h w (ix2 i c) = if hi : o ≤ i.val ∧ i.val < o + 128 then
      (X (ix2 i c) + w (ix2 ⟨i - o, by omega⟩ c) : EReal) else X (ix2 i c) := by
  split
  case isTrue hi =>
    have e := rowRect_emb o h ⟨i - o, by omega⟩ c i (by show i.val = o + (i.val - o); omega)
    unfold addRows
    rw [← e, Rect.overlay_emb]
    pointwise
    rw [rows_apply X o h _ c i (by show i.val = o + (i.val - o); omega), e]
  case isFalse hi =>
    exact Rect.overlay_of_not_mem _ _ _ (fun hm => hi ((mem_rowRect o h i c).1 hm))

theorem addPair_apply (X : Vec Ideal S1024x128 .f32) (o : ℕ) (h) (w : FVec Ideal S256x128 .f32) (i : Fin 1024) (c : Fin 128) :
    addPair X o h w (ix2 i c) = if hi : o ≤ i.val ∧ i.val < o + 256 then
      (X (ix2 i c) + w (ix2 ⟨i - o, by omega⟩ c) : EReal) else X (ix2 i c) := by
  split
  case isTrue hi =>
    have e := pairRect_emb o h ⟨i - o, by omega⟩ c i (by show i.val = o + (i.val - o); omega)
    unfold addPair
    rw [← e, Rect.overlay_emb]
    pointwise
    rw [pair_apply X o h _ c i (by show i.val = o + (i.val - o); omega), e]
  case isFalse hi =>
    exact Rect.overlay_of_not_mem _ _ _ (fun hm => hi ((mem_pairRect o h i c).1 hm))

/-! ### The rows after the panel add nothing -/

theorem nextWeights_apply (x : Reads Ideal) (ρ : Fin 256) (κ : Fin 128) : nextWeights x 0#32 (ix2 ρ κ) = 0 := by
  have hm : ∀ r c : Fin 128, k0_pay112 0#32 k0_pay3 (ix2 r c) = 0#1 := by
    intro r c
    unfold k0_pay112
    pointwise
    generalize k0_pay3 (ix2 r c) = w
    revert w
    decide
  unfold nextWeights k0_pay117
  pointwise [hm]
  split <;> rfl

theorem nextKey_apply (x : Reads Ideal) (r c : Fin 128) : nextKey x 0#32 (ix2 r c) = 0 := by
  unfold nextKey
  pointwise [nextWeights_apply]
  exact Finset.sum_eq_zero fun _ _ => by rw [zero_mul, zero_mul]

theorem nextValue_apply (x : Reads Ideal) (r c : Fin 128) : nextValue x 0#32 (ix2 r c) = 0 := by
  unfold nextValue
  pointwise [nextWeights_apply]
  exact Finset.sum_eq_zero fun _ _ => by rw [zero_mul]

/-! ### The panel's tables -/

/-- The reads are real tables; `l` and `dl` are the log-sum-exp and the delta of each head. -/
structure IsPanel (Q K V D : ℕ → ℕ → ℝ) (e : ℕ → ℕ → ℝ) (x : Reads Ideal) : Prop where
  q : ∀ (i : Fin 1024) (c : Fin 128), x.q (ix2 i c) = (Q i c : EReal)
  k : ∀ (i : Fin 1024) (c : Fin 128), x.k (ix2 i c) = (K i c : EReal)
  v : ∀ (i : Fin 1024) (c : Fin 128), x.v (ix2 i c) = (V i c : EReal)
  d : ∀ (i : Fin 1024) (c : Fin 128), x.d (ix2 i c) = (D i c : EReal)
  l : ∀ (i : Fin 1024) (c : Fin 128), x.l (ix2 i c) = (lse (lanes (c / 64) Q) (lanes (c / 64) K) i : EReal)
  dl : ∀ (i : Fin 1024) (c : Fin 128), x.dl (ix2 i c) = (delta (lanes (c / 64) Q) (lanes (c / 64) K) (lanes (c / 64) V)
    (lanes (c / 64) D) (e (c / 64)) i : EReal)

variable {Q K V D : ℕ → ℕ → ℝ} {e : ℕ → ℕ → ℝ} {x : Reads Ideal}

/-- The first block of a panel. -/
theorem IsPanel.first (h : IsPanel Q K V D e x) (h0 : ∀ a, ![128 * 0, 0] a + ![128, 128] a ≤ S1024x128.size a) :
    IsBlock 0 Q K V D e (firstMask 0#32) (rows x.q (128 * 0) h0) (rows x.d (128 * 0) h0) (rows x.l (128 * 0) h0)
      (rows x.dl (128 * 0) h0) (firstKeys x) (firstValues x) where
  lt := by decide
  mask r κ := by
    unfold firstMask
    rw [first_apply]
    refine if_congr ?_ rfl rfl
    unfold band
    omega
  q r c := by rw [rows_apply _ _ _ r c ⟨128 * 0 + r, by omega⟩ rfl, h.q]
  d r c := by rw [rows_apply _ _ _ r c ⟨128 * 0 + r, by omega⟩ rfl, h.d]
  l r c := by rw [rows_apply _ _ _ r c ⟨128 * 0 + r, by omega⟩ rfl, h.l]
  dl r c := by rw [rows_apply _ _ _ r c ⟨128 * 0 + r, by omega⟩ rfl, h.dl]
  kk κ c hk := by
    unfold firstKeys k0_pay11
    pointwise
    rw [dif_neg (by omega)]
    exact (rows_apply x.k 0 (in_rows (b := 0) (by decide)) ⟨κ - 128, by omega⟩ c ⟨κ - 128, by omega⟩
      (by show κ.val - 128 = 0 + (κ.val - 128); omega)).trans (h.k _ c)
  vv κ c hk := by
    unfold firstValues k0_pay12
    pointwise
    rw [dif_neg (by omega)]
    exact (rows_apply x.v 0 (in_rows (b := 0) (by decide)) ⟨κ - 128, by omega⟩ c ⟨κ - 128, by omega⟩
      (by show κ.val - 128 = 0 + (κ.val - 128); omega)).trans (h.v _ c)

/-- Every later block of a panel. -/
theorem IsPanel.later (h : IsPanel Q K V D e x) {b : ℕ} (hb : b + 1 < 8) (h0) (h1) :
    IsBlock (b + 1) Q K V D e k0_pay2 (rows x.q (128 * (b + 1)) h0) (rows x.d (128 * (b + 1)) h0)
      (rows x.l (128 * (b + 1)) h0) (rows x.dl (128 * (b + 1)) h0) (pair x.k (128 * b) h1) (pair x.v (128 * b) h1) where
  lt := hb
  mask r κ := by
    rw [wide_apply]
    refine if_congr ?_ rfl rfl
    unfold band
    omega
  q r c := by rw [rows_apply _ _ _ r c ⟨128 * (b + 1) + r, by omega⟩ rfl, h.q]
  d r c := by rw [rows_apply _ _ _ r c ⟨128 * (b + 1) + r, by omega⟩ rfl, h.d]
  l r c := by rw [rows_apply _ _ _ r c ⟨128 * (b + 1) + r, by omega⟩ rfl, h.l]
  dl r c := by rw [rows_apply _ _ _ r c ⟨128 * (b + 1) + r, by omega⟩ rfl, h.dl]
  kk κ c hk := by rw [pair_apply _ _ _ κ c ⟨128 * (b + 1) + κ - 128, by omega⟩ (by show _ = _; simp only []; omega), h.k]
  vv κ c hk := by rw [pair_apply _ _ _ κ c ⟨128 * (b + 1) + κ - 128, by omega⟩ (by show _ = _; simp only []; omega), h.v]

/-! ### The row gradient -/

/-- A store of the row gradient holds the rows of `gradQ`. -/
theorem IsPanel.rowPiece (h : IsPanel Q K V D e x) (b : ℕ) (hb : b < 8) (r c : Fin 128) :
    (rowPiece x 0#32 b hb).2 (ix2 r c) = (gradQ (lanes (c / 64) Q) (lanes (c / 64) K) (lanes (c / 64) V) (lanes (c / 64) D)
      (e (c / 64)) (128 * b + r) (c % 64) : EReal) := by
  match b, hb with
  | 0, hb => exact (h.first _).rowGrad r c
  | b + 1, hb => exact (h.later hb _ _).rowGrad r c

/-! ### The key and value gradients -/

/-- A sum over the rows up to block `b`, at a key no row of block `b` sees but through the band. -/
theorem sum_step (f : ℕ → ℝ) (b j : ℕ) (hf : ∀ i, ¬ band i j → f i = 0) :
    ∑ i ∈ Finset.range (128 * (b + 1 + 1)), f i = ∑ i ∈ Finset.range (128 * (b + 1)), f i
      + if 128 * b ≤ j ∧ j < 128 * b + 256 then ∑ r ∈ Finset.range 128, f (128 * (b + 1) + r) else 0 := by
  rw [show 128 * (b + 1 + 1) = 128 * (b + 1) + 128 by ring, Finset.sum_range_add]
  split
  · rfl
  · rw [Finset.sum_eq_zero (s := Finset.range 128)]
    intro r hr
    have := Finset.mem_range.1 hr
    refine hf _ ?_
    unfold band
    omega

theorem IsPanel.keyAfter (h : IsPanel Q K V D e x) (b : ℕ) (hb : b < 8) (i : Fin 1024) (c : Fin 128) :
    keyAfter x 0#32 b hb (ix2 i c) = ((∑ r ∈ Finset.range (128 * (b + 1)),
      dscore (lanes (c / 64) Q) (lanes (c / 64) K) (lanes (c / 64) V) (lanes (c / 64) D) (e (c / 64)) r i
        * lanes (c / 64) Q r (c % 64) : ℝ) : EReal) := by
  induction b with
  | zero =>
    unfold Attn.keyAfter
    rw [addRows_apply, View.canon_unit_zero (S := S1024x128) (by funext a; fin_cases a <;> rfl)]
    have hz : (k0_pay7 : FVec Ideal S1024x128 .f32) (ix2 i c) = 0 := by unfold k0_pay7; pointwise
    rw [hz]
    split
    case isTrue hi =>
      have key := (h.first (in_rows hb)).keyGrad ⟨i - 0 + 128, by omega⟩ c (by show 128 ≤ 128 * 0 + (i.val - 0 + 128); omega)
      rw [zero_add]
      refine Eq.trans ?_ (key.trans ?_)
      · pointwise
        exact congrArg _ (congrArg (fun z => ix2 z c) (Fin.ext (by show 128 + (i.val - 0) = i.val - 0 + 128; omega)))
      · simp only [show 128 * 0 + (i.val - 0 + 128) - 128 = i.val by omega, Nat.mul_zero, Nat.zero_add, Nat.mul_one, Nat.sub_zero, Nat.add_sub_cancel]
    case isFalse hi =>
      rw [Finset.sum_eq_zero]
      · rfl
      · intro r hr
        have := Finset.mem_range.1 hr
        rw [dscore_of_not, zero_mul]
        unfold band
        omega
  | succ b ih =>
    unfold Attn.keyAfter
    rw [addPair_apply, ih (by omega), sum_step _ b i.val (fun r hr => by rw [dscore_of_not _ _ _ _ _ hr, zero_mul]), EReal.coe_add]
    split
    case isTrue hi =>
      rw [(h.later hb (in_rows hb) (in_pair (by omega))).keyGrad ⟨i - 128 * b, by omega⟩ c (by omega)]
      simp only [show 128 * (b + 1) + (i.val - 128 * b) - 128 = i.val by omega]
    case isFalse hi => rw [EReal.coe_zero, add_zero]

theorem IsPanel.valueAfter (h : IsPanel Q K V D e x) (b : ℕ) (hb : b < 8) (i : Fin 1024) (c : Fin 128) :
    valueAfter x 0#32 b hb (ix2 i c) = ((∑ r ∈ Finset.range (128 * (b + 1)),
      prob (lanes (c / 64) Q) (lanes (c / 64) K) r i * lanes (c / 64) D r (c % 64) : ℝ) : EReal) := by
  induction b with
  | zero =>
    unfold Attn.valueAfter
    rw [addRows_apply, View.canon_unit_zero (S := S1024x128) (by funext a; fin_cases a <;> rfl)]
    have hz : (k0_pay8 : FVec Ideal S1024x128 .f32) (ix2 i c) = 0 := by unfold k0_pay8; pointwise
    rw [hz]
    split
    case isTrue hi =>
      have key := (h.first (in_rows hb)).valueGrad ⟨i - 0 + 128, by omega⟩ c (by show 128 ≤ 128 * 0 + (i.val - 0 + 128); omega)
      rw [zero_add]
      refine Eq.trans ?_ (key.trans ?_)
      · pointwise
        exact congrArg _ (congrArg (fun z => ix2 z c) (Fin.ext (by show 128 + (i.val - 0) = i.val - 0 + 128; omega)))
      · simp only [show 128 * 0 + (i.val - 0 + 128) - 128 = i.val by omega, Nat.mul_zero, Nat.zero_add, Nat.mul_one, Nat.sub_zero, Nat.add_sub_cancel]
    case isFalse hi =>
      rw [Finset.sum_eq_zero]
      · rfl
      · intro r hr
        have := Finset.mem_range.1 hr
        rw [prob_of_not, zero_mul]
        unfold band
        omega
  | succ b ih =>
    unfold Attn.valueAfter
    rw [addPair_apply, ih (by omega), sum_step _ b i.val (fun r hr => by rw [prob_of_not _ _ hr, zero_mul]), EReal.coe_add]
    split
    case isTrue hi =>
      rw [(h.later hb (in_rows hb) (in_pair (by omega))).valueGrad ⟨i - 128 * b, by omega⟩ c (by omega)]
      simp only [show 128 * (b + 1) + (i.val - 128 * b) - 128 = i.val by omega]
    case isFalse hi => rw [EReal.coe_zero, add_zero]

end Attn

end
-- ==== Proof.Outputs.lean ====
/-
  One grid point's three output blocks as the three gradients, where its reads are real tables; and where a grid point's
  blocks lie in the arrays: point `t` works on the lanes `128 t … 128 t + 127`, that is on heads `2 t` and `2 t + 1`.
-/
module

public import proofs.«01_k».proof.Proof.Panels

@[expose] public section

set_option maxRecDepth 16384

noncomputable section

namespace Attn

open Idealize.ShloMosaic Idealize.ShloMosaic.TcCoe Idealize.SL.Sem Cert.KernelIdeal Cert.KernelIdeal.Gen

/-- An index of a panel is its row and its lane. -/
theorem panel_idx (x : S1024x128.Idx) : x = ix2 (x 0) (x 1) := by
  funext a
  fin_cases a <;> rfl

theorem block_idx (x : S128x128.Idx) : x = ix2 (x 0) (x 1) := by
  funext a
  fin_cases a <;> rfl

/-- There is one chunk of rows. -/
theorem chunk_zero (t : Fin cfg0.N) : BitVec.ofNat 32 (grid0.coords t 1) = 0#32 := by
  have h : (grid0.coords t 1 : ℕ) < 1 := (grid0.coords t 1).isLt
  rw [Nat.lt_one_iff.1 h]

section panel
variable {Q K V D : ℕ → ℕ → ℝ} {e : ℕ → ℕ → ℝ} {m : (ℓ : Loc nD τ sig) → Buf (Elt Ideal) ℓ} {c : Dev nD} {t : Fin cfg0.N}
  (h : IsPanel Q K V D e (readsAt m c t)) (i : Fin 1024) (l : Fin 128)
include h

/-- The first output block is the gradient of the queries. -/
theorem rowOut_apply : (outsAt0 m c t).1 (ix2 i l) = ((gradQ (lanes (l / 64) Q) (lanes (l / 64) K) (lanes (l / 64) V)
    (lanes (l / 64) D) (e (l / 64)) i (l % 64) : ℝ) : EReal) := by
  rw [rowOut, chunk_zero]
  refine View.canon_apply_of_pieces (S := S1024x128) (Val := Elt Ideal) (e := .f32) (fun y : S1024x128.Idx => (((gradQ (lanes ((y 1).val / 64) Q) (lanes ((y 1).val / 64) K)
    (lanes ((y 1).val / 64) V) (lanes ((y 1).val / 64) D) (e ((y 1).val / 64)) (y 0).val ((y 1).val % 64) : ℝ)) : EReal))
    _ ?_ (ix2 i l) ?_
  · have key : ∀ (b : ℕ) (hb : b < 8) (x : S128x128.Idx), (rowPiece (readsAt m c t) 0#32 b hb).2 x
        = (fun y : S1024x128.Idx => (((gradQ (lanes ((y 1).val / 64) Q) (lanes ((y 1).val / 64) K)
            (lanes ((y 1).val / 64) V) (lanes ((y 1).val / 64) D) (e ((y 1).val / 64)) (y 0).val ((y 1).val % 64) : ℝ)) : EReal))
          ((rowPiece (readsAt m c t) 0#32 b hb).1.emb x) := by
      intro b hb x
      have hx : (x 0).val < 128 := (x 0).isLt
      obtain ⟨r, l, rfl⟩ : ∃ r l : Fin 128, x = ix2 r l := ⟨x 0, x 1, block_idx x⟩
      have hr : r.val < 128 := r.isLt
      refine (h.rowPiece b hb r l).trans ?_
      have he : (rowPiece (readsAt m c t) 0#32 b hb).1.emb (ix2 r l) = ix2 ⟨128 * b + r.val, by omega⟩ l :=
        rowRect_emb _ (in_rows hb) _ _ _ rfl
      rw [he]
      rfl
    intro p hp
    simp only [List.mem_cons, List.not_mem_nil, or_false] at hp
    rcases hp with rfl | rfl | rfl | rfl | rfl | rfl | rfl | rfl <;> exact key _ _
  · have hm (b : ℕ) (hb : b < 8) (hi : 128 * b ≤ i.val ∧ i.val < 128 * b + 128) :
        ix2 i l ∈ (rowPiece (readsAt m c t) 0#32 b hb).1.set := (mem_rowRect _ (in_rows hb) i l).2 hi
    have hi := i.isLt
    by_cases h7 : 896 ≤ i.val
    · exact ⟨_, by simp, hm 7 (by decide) (by omega)⟩
    by_cases h6 : 768 ≤ i.val
    · exact ⟨_, by simp, hm 6 (by decide) (by omega)⟩
    by_cases h5 : 640 ≤ i.val
    · exact ⟨_, by simp, hm 5 (by decide) (by omega)⟩
    by_cases h4 : 512 ≤ i.val
    · exact ⟨_, by simp, hm 4 (by decide) (by omega)⟩
    by_cases h3 : 384 ≤ i.val
    · exact ⟨_, by simp, hm 3 (by decide) (by omega)⟩
    by_cases h2 : 256 ≤ i.val
    · exact ⟨_, by simp, hm 2 (by decide) (by omega)⟩
    by_cases h1 : 128 ≤ i.val
    · exact ⟨_, by simp, hm 1 (by decide) (by omega)⟩
    · exact ⟨_, by simp, hm 0 (by decide) (by omega)⟩

/-- The second output block is the gradient of the keys. -/
theorem keyOut_apply : (outsAt0 m c t).2.1 (ix2 i l) = ((gradK (lanes (l / 64) Q) (lanes (l / 64) K) (lanes (l / 64) V)
    (lanes (l / 64) D) (e (l / 64)) i (l % 64) : ℝ) : EReal) := by
  rw [keyOut, chunk_zero, addRows_apply, h.keyAfter 7 (by decide)]
  split
  · rw [nextKey_apply, add_zero]
    rfl
  · rfl

/-- The third output block is the gradient of the values. -/
theorem valueOut_apply : (outsAt0 m c t).2.2 (ix2 i l) = ((gradV (lanes (l / 64) Q) (lanes (l / 64) K)
    (lanes (l / 64) D) i (l % 64) : ℝ) : EReal) := by
  rw [valueOut, chunk_zero, addRows_apply, h.valueAfter 7 (by decide)]
  split
  · rw [nextValue_apply, add_zero]
    rfl
  · rfl

end panel

/-! ### Where the blocks lie -/

section place
variable {m : (ℓ : Loc nD τ sig) → Buf (Elt Ideal) ℓ} (c : Dev nD) (t : Fin cfg0.N) (i : Fin 1024) (l : Fin 128)

theorem lane_lt : 128 * t.val + l.val < 6144 := by
  have ht : t.val < 48 := t.isLt
  have := l.isLt
  omega

/-- The array's lane that is lane `l` of point `t`'s panel. -/
def laneAt : Fin 6144 := ⟨128 * t.val + l.val, lane_lt t l⟩

/-- Every panel of a window whose blocks are 1024 rows by 128 lanes begins at row 0 and lane `128 t`. -/
theorem index_panel : ∀ t : Fin grid0.N, win0_0.index t 0 = 0 ∧ win0_0.index t 1 = t.val := by decide +kernel

/-- An index that lies `i` rows and `l` lanes into point `t`'s panel. -/
theorem place_eq (y : S1024x6144.Idx) {o p : ℕ} (h : o = 0 ∧ p = t.val) (h0 : (y 0).val = o * 1024 + 1 * i.val)
    (h1 : (y 1).val = p * 128 + 1 * l.val) : y = ix2 i (laneAt t l) := by
  obtain ⟨rfl, rfl⟩ := h
  funext a
  apply Fin.ext
  match a with
  | ⟨0, _⟩ => show (y 0).val = i.val; omega
  | ⟨1, _⟩ => show (y 1).val = 128 * t.val + l.val; omega

theorem queries_at : (readsAt m c t).q (ix2 i l) = V m c main_arg0 (ix2 i (laneAt t l)) :=
  congrArg (V m c main_arg0) (place_eq t i l _ (index_panel t) rfl rfl)

theorem keys_at : (readsAt m c t).k (ix2 i l) = V m c main_arg1 (ix2 i (laneAt t l)) :=
  congrArg (V m c main_arg1) (place_eq t i l _ (index_panel t) rfl rfl)

theorem values_at : (readsAt m c t).v (ix2 i l) = V m c main_arg2 (ix2 i (laneAt t l)) :=
  congrArg (V m c main_arg2) (place_eq t i l _ (index_panel t) rfl rfl)

theorem cotangents_at : (readsAt m c t).d (ix2 i l) = V m c main_arg3 (ix2 i (laneAt t l)) :=
  congrArg (V m c main_arg3) (place_eq t i l _ (index_panel t) rfl rfl)

/-- The log-sum-exp's block, whatever its array holds. -/
theorem read_logSums (X : Buf (Elt Ideal) ((c : Thread nD τ).loc main_v42)) :
    ((cfg0.win 4).blk t).view.read (Elt Ideal) X (ix2 i l) = X (ix2 i (laneAt t l)) :=
  congrArg X (place_eq t i l _ (index_panel t) rfl rfl)

/-- Delta's block, whatever its array holds. -/
theorem read_deltas (X : Buf (Elt Ideal) ((c : Thread nD τ).loc main_v46)) :
    ((cfg0.win 5).blk t).view.read (Elt Ideal) X (ix2 i l) = X (ix2 i (laneAt t l)) :=
  congrArg X (place_eq t i l _ (index_panel t) rfl rfl)

theorem logSums_at : (readsAt m c t).l (ix2 i l) = V m c main_v42 (ix2 i (laneAt t l)) := by
  show iblk m c 4 t (ix2 i l) = _
  unfold iblk
  exact read_logSums c t i l _

theorem deltas_at : (readsAt m c t).dl (ix2 i l) = V m c main_v46 (ix2 i (laneAt t l)) := by
  show iblk m c 5 t (ix2 i l) = _
  unfold iblk
  exact read_deltas c t i l _

/-- A result's block, whatever its array holds. -/
theorem read_first (X : Buf (Elt Ideal) ((c : Thread nD τ).loc main_v47_0)) :
    ((cfg0.win 12).blk t).view.read (Elt Ideal) X (ix2 i l) = X (ix2 i (laneAt t l)) :=
  congrArg X (place_eq t i l _ (index_panel t) rfl rfl)

theorem read_second (X : Buf (Elt Ideal) ((c : Thread nD τ).loc main_v47_1)) :
    ((cfg0.win 13).blk t).view.read (Elt Ideal) X (ix2 i l) = X (ix2 i (laneAt t l)) :=
  congrArg X (place_eq t i l _ (index_panel t) rfl rfl)

theorem read_third (X : Buf (Elt Ideal) ((c : Thread nD τ).loc main_v47_2)) :
    ((cfg0.win 14).blk t).view.read (Elt Ideal) X (ix2 i l) = X (ix2 i (laneAt t l)) :=
  congrArg X (place_eq t i l _ (index_panel t) rfl rfl)

/-- The first result at a panel's index is the first output block there; likewise the other two. -/
theorem firstArray_at : (dats m 0 c).arrAt 12 cfg0.N (ix2 i (laneAt t l)) = (outsAt0 m c t).1 (ix2 i l) := by
  refine (read_first c t i l _).symm.trans ?_
  rw [Value.blocks12 m c t (flush0_12 t), Value.flushed12]
  generalize (outsAt0 m c t).1 = X
  rfl

theorem secondArray_at : (dats m 0 c).arrAt 13 cfg0.N (ix2 i (laneAt t l)) = (outsAt0 m c t).2.1 (ix2 i l) := by
  refine (read_second c t i l _).symm.trans ?_
  rw [Value.blocks13 m c t (flush0_13 t), Value.flushed13]
  generalize (outsAt0 m c t).2.1 = X
  rfl

theorem thirdArray_at : (dats m 0 c).arrAt 14 cfg0.N (ix2 i (laneAt t l)) = (outsAt0 m c t).2.2 (ix2 i l) := by
  refine (read_third c t i l _).symm.trans ?_
  rw [Value.blocks14 m c t (flush0_14 t), Value.flushed14]
  generalize (outsAt0 m c t).2.2 = X
  rfl

end place

end Attn
-- ==== Proof.Reference.lean ====
/-
  What the plain mathematics computes at each index, head by head, when its arguments are tables of real numbers: the
  masked scores, their maximum, the weights and the output, and from them the three gradients.
-/
module

public import proofs.«01_k».proof.Proof.Gen.ReferenceIdeal.Read
public import proofs.«01_k».proof.Proof.Math
public import Idealize.ShloMosaic.Lib.Pointwise
public import Idealize.ShloMosaic.Lib.ValueIdx

@[expose] public section

noncomputable section

namespace Attn

open Idealize.ShloMosaic Cert.ReferenceIdeal Cert.ReferenceIdeal.Gen Cert.ReferenceIdeal.Read

/-- An argument of 1024 rows and 96 heads of 64 lanes holds the real table `A`. -/
def Table (x : S1024x6144.Idx → EReal) (A : ℕ → ℕ → ℝ) : Prop :=
  ∀ (i : Fin 1024) (c : Fin 6144), x (ix2 i c) = ((A i c : ℝ) : EReal)

/-- The cotangent of the log-sum-exp holds the real table `e`, head by row. -/
def RowTable (x : S96x1024.Idx → EReal) (e : ℕ → ℕ → ℝ) : Prop :=
  ∀ (h : Fin 96) (i : Fin 1024), x (ix2 h i) = ((e h i : ℝ) : EReal)

/-- A sum over `Fin n` of reals, as a real sum over a range. -/
theorem sum_coe {n : ℕ} (f : ℕ → ℝ) : ∑ x : Fin n, ((f x : ℝ) : EReal) = ((∑ x ∈ Finset.range n, f x : ℝ) : EReal) := by
  rw [coe_sum, Finset.sum_range]

/-- The band test on 32-bit words. -/
theorem band_bit (i j : Fin 1024) :
    IntOp.andi (IntOp.cmpi CmpIPredicate.sge (IntOp.subi (BitVec.ofNat 32 i.val) (BitVec.ofNat 32 j.val)) 0#32)
      (IntOp.cmpi CmpIPredicate.sle (IntOp.subi (BitVec.ofNat 32 i.val) (BitVec.ofNat 32 j.val)) 128#32)
      = BitVec.ofBool (decide (band i j)) := by
  have h : (BitVec.ofNat 32 i.val - BitVec.ofNat 32 j.val).toInt = (i.val : ℤ) - j.val := by
    have := i.isLt
    have := j.isLt
    rw [BitVec.toInt_sub, BitVec.toInt_ofNat', BitVec.toInt_ofNat']
    simp only [Int.bmod_def]
    omega
  have e1 : IntOp.cmpi CmpIPredicate.sge (IntOp.subi (BitVec.ofNat 32 i.val) (BitVec.ofNat 32 j.val)) 0#32
      = BitVec.ofBool (decide (j.val ≤ i.val)) := by
    show BitVec.ofBool ((0#32).sle (BitVec.ofNat 32 i.val - BitVec.ofNat 32 j.val)) = _
    rw [BitVec.sle_eq_decide, h]
    congr 1
    apply decide_eq_decide.2
    simp
  have e2 : IntOp.cmpi CmpIPredicate.sle (IntOp.subi (BitVec.ofNat 32 i.val) (BitVec.ofNat 32 j.val)) 128#32
      = BitVec.ofBool (decide (i.val ≤ j.val + 128)) := by
    show BitVec.ofBool ((BitVec.ofNat 32 i.val - BitVec.ofNat 32 j.val).sle (128#32)) = _
    rw [BitVec.sle_eq_decide, h]
    congr 1
    apply decide_eq_decide.2
    have : (128#32).toInt = 128 := by decide
    omega
  rw [e1, e2]
  unfold band
  by_cases h1 : j.val ≤ i.val <;> by_cases h2 : i.val ≤ j.val + 128 <;> simp [h1, h2, IntOp.andi]

/-- A choice by a decided bit. -/
theorem select_bit {α : Type} (p : Prop) [Decidable p] (a b : α) :
    Scalar.select (BitVec.ofBool (decide p)) a b = if p then a else b := by
  by_cases h : p <;> simp [h, Scalar.select]

theorem f32_neg_inf : Ideal.ofBits FTy.f32 4286578688#32 = ⊥ := by simp [Ideal.ofBits, Ideal.ieee]

theorem f32_one : Ideal.ofBits FTy.f32 1065353216#32 = ((1 : ℝ) : EReal) := by
  simp [Ideal.ofBits, Ideal.ieee, -EReal.coe_mul]
  norm_num

theorem f32_zero : Ideal.ofBits FTy.f32 0#32 = 0 := by simp [Ideal.ofBits, Ideal.ieee]

variable {x0 x1 x2 x3 : S1024x6144.Idx → EReal} {x4 : S96x1024.Idx → EReal} {Q K V D e : ℕ → ℕ → ℝ}

section argument
variable {x : S1024x6144.Idx → EReal} {A : ℕ → ℕ → ℝ} (hx : Table x A) (h : Fin 96) (i : Fin 1024) (d : Fin 64)
include hx

/-- Head `h` of the queries. -/
theorem query_apply : val_main_v2 (F := Ideal) x (ix3 h i d) = ((lanes h A i d : ℝ) : EReal) := by
  unfold val_main_v2 val_main_v1 val_main_v0
  pointwise
  rw [hx, lanes]
  show ((A i (h.val * 64 + d.val) : ℝ) : EReal) = _
  rw [Nat.mul_comm]

/-- Head `h` of the keys. -/
theorem key_apply : val_main_v5 (F := Ideal) x (ix3 h i d) = ((lanes h A i d : ℝ) : EReal) := query_apply hx h i d

/-- Head `h` of the values. -/
theorem value_apply : val_main_v8 (F := Ideal) x (ix3 h i d) = ((lanes h A i d : ℝ) : EReal) := query_apply hx h i d

/-- Head `h` of the output's cotangent. -/
theorem cotangent_apply : val_main_v44 (F := Ideal) x (ix3 h i d) = ((lanes h A i d : ℝ) : EReal) :=
  query_apply hx h i d

end argument

section scores
variable (hq : Table x0 Q) (hk : Table x1 K) (h : Fin 96) (i j : Fin 1024)
include hq hk

/-- The scores. -/
theorem score_apply : val_main_v9 (F := Ideal) x0 x1 (ix3 h i j) = ((score (lanes h Q) (lanes h K) i j : ℝ) : EReal) := by
  unfold val_main_v9
  pointwise
  simp only [query_apply hq, key_apply hk, ← EReal.coe_mul]
  exact sum_coe fun d => lanes h Q i d * lanes h K j d

/-- The scores within the band, minus infinity outside. -/
theorem masked_apply : val_main_v19 (F := Ideal) x0 x1 (ix3 h i j) = masked (lanes h Q) (lanes h K) i j := by
  unfold val_main_v19 val_main_v17 val_main_v18 val_main_cst val_main_v16 val_main_v15 val_main_v14 val_main_v13
    val_main_v12 val_main_v11 val_main_v10 val_main_c val_main_c_0
  pointwise [f32_neg_inf]
  rw [band_bit, select_bit, score_apply hq hk, masked]

/-- The largest score of a row. -/
theorem top_apply : val_main_v21 (F := Ideal) x0 x1 (ix2 h i) = ((top (lanes h Q) (lanes h K) i : ℝ) : EReal) := by
  unfold val_main_v21 val_main_cst_2
  pointwise [f32_neg_inf]
  simp only [masked_apply hq hk]
  rw [← sup_masked _ _ i.isLt]
  apply le_antisymm
  · exact Finset.sup_le fun j _ => Finset.le_sup (f := masked (lanes h Q) (lanes h K) i) (Finset.mem_range.2 j.isLt)
  · exact Finset.sup_le fun j hj => Finset.le_sup (f := fun x : Fin 1024 => masked (lanes h Q) (lanes h K) i x)
      (Finset.mem_univ ⟨j, Finset.mem_range.1 hj⟩)

/-- The unnormalised weights. -/
theorem weight_apply : val_main_v30 (F := Ideal) x0 x1 (ix3 h i j)
    = ((weight (lanes h Q) (lanes h K) i j : ℝ) : EReal) := by
  unfold val_main_v30 val_main_v29 val_main_v28 val_main_v27
  pointwise
  rw [masked_apply hq hk, top_apply hq hk, masked, weight]
  by_cases hb : band i j
  · rw [if_pos hb, if_pos hb, ← EReal.coe_sub, Ideal.exp_coe]
  · rw [if_neg hb, if_neg hb]
    rw [EReal.bot_sub]
    rfl

/-- The sum of a row's weights. -/
theorem total_apply : val_main_v31 (F := Ideal) x0 x1 (ix2 h i) = ((total (lanes h Q) (lanes h K) i : ℝ) : EReal) := by
  unfold val_main_v31 val_main_cst_4
  pointwise
  simp only [weight_apply hq hk]
  exact sum_coe fun j => weight (lanes h Q) (lanes h K) i j

/-- The same sum with a trailing axis of one. -/
theorem total_column (k : Fin 1) :
    val_main_v32 (F := Ideal) x0 x1 (ix3 h i k) = ((total (lanes h Q) (lanes h K) i : ℝ) : EReal) := by
  unfold val_main_v32
  pointwise
  exact total_apply hq hk h i

/-- Which keys attain the largest score of a row. -/
theorem attained_apply : val_main_v25 (F := Ideal) x0 x1 (ix3 h i j)
    = (((if masked (lanes h Q) (lanes h K) i j = ((top (lanes h Q) (lanes h K) i : ℝ) : EReal) then 1 else 0 : ℝ)) : EReal) := by
  unfold val_main_v25 val_main_v24 val_main_v23 val_main_v22
  pointwise
  rw [masked_apply hq hk, top_apply hq hk]
  show (((BitVec.ofBool (decide _)).toNat : ℝ) : EReal) = _
  split <;> rename_i hb <;> simp [hb]

/-- Some key attains the largest score of a row. -/
theorem count_ne_zero : val_main_v26 (F := Ideal) x0 x1 (ix2 h i) ≠ 0 := by
  unfold val_main_v26 val_main_cst_3
  pointwise
  simp only [attained_apply hq hk]
  rw [sum_coe fun j => if masked (lanes h Q) (lanes h K) i j = ((top (lanes h Q) (lanes h K) i : ℝ) : EReal) then 1 else 0]
  rw [EReal.coe_ne_zero]
  obtain ⟨j, hj, hm⟩ := exists_top (lanes h Q) (lanes h K) i.isLt
  refine (Finset.sum_pos' (fun j _ => ?_) ⟨j, Finset.mem_range.2 hj, ?_⟩).ne'
  · split <;> norm_num
  · rw [if_pos hm]
    norm_num

/-- The log-sum-exp of a row's scores. -/
theorem lse_apply : val_main_v41 (F := Ideal) x0 x1 (ix2 h i) = ((lse (lanes h Q) (lanes h K) i : ℝ) : EReal) := by
  have hpos := total_pos (lanes h Q) (lanes h K) i.isLt
  have hi : idx_main_v41 (ix2 h i) = ix3 h i 0 := by
    have := h.isLt
    have := i.isLt
    funext a
    apply Fin.ext
    fin_cases a
    · show (h.val * 1024 + i.val) / 1024 = h.val
      omega
    · show (h.val * 1024 + i.val) / 1 % 1024 = i.val
      omega
    · rfl
  have ht : val_main_v27 (F := Ideal) x0 x1 (ix3 h i 0) = ((top (lanes h Q) (lanes h K) i : ℝ) : EReal) := by
    unfold val_main_v27
    pointwise
    exact top_apply hq hk h i
  have hl : val_main_v39 (F := Ideal) x0 x1 (ix3 h i 0) = ((Real.log (total (lanes h Q) (lanes h K) i) : ℝ) : EReal) := by
    rw [val_main_v39_apply, total_column hq hk]
    show Ideal.log ((total (lanes h Q) (lanes h K) i : ℝ) : EReal) = _
    rw [Ideal.log_coe, if_neg hpos.not_ge]
  rw [val_main_v41_apply, hi, val_main_v40_apply, ht, hl, lse, EReal.coe_add]
  rfl

variable (hv : Table x2 V) (d : Fin 64)
include hv

/-- The unnormalised output. -/
theorem numer_apply : val_main_v33 (F := Ideal) x0 x1 x2 (ix3 h i d)
    = ((numer (lanes h Q) (lanes h K) (lanes h V) i d : ℝ) : EReal) := by
  unfold val_main_v33
  pointwise
  simp only [weight_apply hq hk, value_apply hv, ← EReal.coe_mul]
  exact sum_coe fun j => weight (lanes h Q) (lanes h K) i j * lanes h V j d

/-- The output. -/
theorem output_apply : val_main_v35 (F := Ideal) x0 x1 x2 (ix3 h i d)
    = ((numer (lanes h Q) (lanes h K) (lanes h V) i d / total (lanes h Q) (lanes h K) i : ℝ) : EReal) := by
  unfold val_main_v35 val_main_v34
  pointwise
  rw [numer_apply hq hk h i hv, total_column hq hk, Ideal.div_coe (total_pos _ _ i.isLt).ne', ← EReal.coe_mul, mul_one_div]

end scores

section gradient
variable (hq : Table x0 Q) (hk : Table x1 K) (hv : Table x2 V) (hd : Table x3 D) (he : RowTable x4 e)
  (h : Fin 96) (i j : Fin 1024) (d : Fin 64)
include hq hk hd

/-- The output's cotangent over the sum of the weights. -/
theorem scaled_apply : val_main_v55 (F := Ideal) x0 x1 x3 (ix3 h i d)
    = ((lanes h D i d / total (lanes h Q) (lanes h K) i : ℝ) : EReal) := by
  unfold val_main_v55 val_main_v54
  pointwise
  rw [cotangent_apply hd, total_column hq hk, Ideal.div_coe (total_pos _ _ i.isLt).ne', ← EReal.coe_mul, mul_one_div]

/-- The gradient of the values. -/
theorem gradV_apply : val_main_v57 (F := Ideal) x0 x1 x3 (ix3 h j d)
    = ((gradV (lanes h Q) (lanes h K) (lanes h D) j d : ℝ) : EReal) := by
  unfold val_main_v57 val_main_v56
  pointwise
  simp only [scaled_apply hq hk hd, weight_apply hq hk, ← EReal.coe_mul]
  rw [sum_coe fun i => lanes h D i d / total (lanes h Q) (lanes h K) i * weight (lanes h Q) (lanes h K) i j, gradV]
  congr 1
  refine Finset.sum_congr rfl fun i hi => ?_
  rw [prob_eq _ _ (Finset.mem_range.1 hi)]
  ring

include hv he

/-- The part of the gradient of a score that is the same along a row. -/
theorem rowPart_apply : val_main_v59 (F := Ideal) x0 x1 x2 x3 x4 (ix2 h i)
    = ((e h i / total (lanes h Q) (lanes h K) i + -∑ d ∈ Finset.range 64, lanes h D i d
        * (1 / (total (lanes h Q) (lanes h K) i * total (lanes h Q) (lanes h K) i))
        * numer (lanes h Q) (lanes h K) (lanes h V) i d : ℝ) : EReal) := by
  have hne := (total_pos (lanes h Q) (lanes h K) i.isLt).ne'
  have h38 (k : Fin 1) : val_main_v38 (F := Ideal) x0 x1 (ix3 h i k)
      = ((1 / (total (lanes h Q) (lanes h K) i * total (lanes h Q) (lanes h K) i) : ℝ) : EReal) := by
    unfold val_main_v38 val_main_v37 val_main_v36 val_main_cst_5
    pointwise [f32_one]
    rw [total_column hq hk, ← EReal.coe_mul, Ideal.div_coe (mul_ne_zero hne hne), ← EReal.coe_mul, one_mul]
  have h49 (d : Fin 64) : val_main_v49 (F := Ideal) x0 x1 x2 x3 (ix3 h i d)
      = ((lanes h D i d * (1 / (total (lanes h Q) (lanes h K) i * total (lanes h Q) (lanes h K) i))
        * numer (lanes h Q) (lanes h K) (lanes h V) i d : ℝ) : EReal) := by
    unfold val_main_v49 val_main_v48 val_main_v47
    pointwise
    rw [cotangent_apply hd, h38, numer_apply hq hk h i hv, ← EReal.coe_mul, ← EReal.coe_mul]
  have h52 (k : Fin 1) : val_main_v52 (F := Ideal) x0 x1 x2 x3 (ix3 h i k)
      = ((-∑ d ∈ Finset.range 64, lanes h D i d
        * (1 / (total (lanes h Q) (lanes h K) i * total (lanes h Q) (lanes h K) i))
        * numer (lanes h Q) (lanes h K) (lanes h V) i d : ℝ) : EReal) := by
    unfold val_main_v52 val_main_v51 val_main_v50 val_main_cst_6
    pointwise
    simp only [h49]
    rw [sum_coe fun d => lanes h D i d * (1 / (total (lanes h Q) (lanes h K) i * total (lanes h Q) (lanes h K) i))
        * numer (lanes h Q) (lanes h K) (lanes h V) i d, EReal.coe_neg]
  have h46 (k : Fin 1) : val_main_v46 (F := Ideal) x0 x1 x4 (ix3 h i k)
      = ((e h i / total (lanes h Q) (lanes h K) i : ℝ) : EReal) := by
    unfold val_main_v46 val_main_v45
    pointwise
    rw [he, total_column hq hk, Ideal.div_coe hne, ← EReal.coe_mul, mul_one_div]
  unfold val_main_v59 val_main_cst_7 val_main_v53
  pointwise
  rw [Fin.sum_univ_one, h46, h52, ← EReal.coe_add]

/-- The gradient of a score before its row's maximum is accounted for. -/
theorem dscore_apply : val_main_v62 (F := Ideal) x0 x1 x2 x3 x4 (ix3 h i j)
    = ((dscore (lanes h Q) (lanes h K) (lanes h V) (lanes h D) (e h) i j : ℝ) : EReal) := by
  unfold val_main_v62 val_main_v61 val_main_v60 val_main_v58
  pointwise
  simp only [scaled_apply hq hk hd, value_apply hv, ← EReal.coe_mul]
  rw [sum_coe fun d => lanes h D i d / total (lanes h Q) (lanes h K) i * lanes h V j d, rowPart_apply hq hk hv hd he,
    weight_apply hq hk, ← EReal.coe_add, ← EReal.coe_mul, dscore_eq _ _ _ _ _ i.isLt]

/-- What flows back through a row's maximum: the row's cotangent less the sum of the gradients of its scores, nothing. -/
theorem maximum_apply : val_main_v67 (F := Ideal) x0 x1 x2 x3 x4 (ix2 h i) = 0 := by
  have h65 (k : Fin 1) : val_main_v65 (F := Ideal) x0 x1 x2 x3 x4 (ix3 h i k) = ((-e h i : ℝ) : EReal) := by
    unfold val_main_v65 val_main_v64 val_main_v63 val_main_cst_8
    pointwise
    simp only [dscore_apply hq hk hv hd he, ← EReal.coe_neg]
    rw [sum_coe fun j => -dscore (lanes h Q) (lanes h K) (lanes h V) (lanes h D) (e h) i j, Finset.sum_neg_distrib,
      sum_dscore _ _ _ _ _ i.isLt]
  unfold val_main_v67 val_main_v66 val_main_v45 val_main_cst_9
  pointwise
  rw [Fin.sum_univ_one, h65, he, ← EReal.coe_add, add_neg_cancel, EReal.coe_zero]

/-- The gradient of a masked score. -/
theorem dmasked_apply : val_main_v73 (F := Ideal) x0 x1 x2 x3 x4 (ix3 h i j)
    = ((dscore (lanes h Q) (lanes h K) (lanes h V) (lanes h D) (e h) i j : ℝ) : EReal) := by
  have h70 : val_main_v70 (F := Ideal) x0 x1 x2 x3 x4 (ix3 h i j) = 0 := by
    unfold val_main_v70 val_main_v69 val_main_v68
    pointwise
    rw [maximum_apply hq hk hv hd he, Ideal.div, if_neg (count_ne_zero hq hk h i), zero_mul, zero_mul]
  unfold val_main_v73 val_main_v72 val_main_cst_10 val_main_v71 val_main_v17 val_main_v16 val_main_v15 val_main_v14
    val_main_v13 val_main_v12 val_main_v11 val_main_v10 val_main_c val_main_c_0
  pointwise [f32_zero]
  rw [band_bit, select_bit, dscore_apply hq hk hv hd he, h70, add_zero]
  split
  · rfl
  · rename_i hb
    rw [dscore_of_not _ _ _ _ _ hb, EReal.coe_zero]

/-- The gradient of the queries. -/
theorem gradQ_apply : val_main_v75 (F := Ideal) x0 x1 x2 x3 x4 (ix3 h i d)
    = ((gradQ (lanes h Q) (lanes h K) (lanes h V) (lanes h D) (e h) i d : ℝ) : EReal) := by
  unfold val_main_v75
  pointwise
  simp only [dmasked_apply hq hk hv hd he, key_apply hk, ← EReal.coe_mul]
  exact sum_coe fun j => dscore (lanes h Q) (lanes h K) (lanes h V) (lanes h D) (e h) i j * lanes h K j d

/-- The gradient of the keys. -/
theorem gradK_apply : val_main_v74 (F := Ideal) x0 x1 x2 x3 x4 (ix3 h j d)
    = ((gradK (lanes h Q) (lanes h K) (lanes h V) (lanes h D) (e h) j d : ℝ) : EReal) := by
  unfold val_main_v74
  pointwise
  simp only [dmasked_apply hq hk hv hd he, query_apply hq, ← EReal.coe_mul]
  exact sum_coe fun i => dscore (lanes h Q) (lanes h K) (lanes h V) (lanes h D) (e h) i j * lanes h Q i d

end gradient

section results
variable (hq : Table x0 Q) (hk : Table x1 K) (hv : Table x2 V) (hd : Table x3 D) (he : RowTable x4 e)
  (i : Fin 1024) (c : Fin 6144)
include hq hk hd

/-- The third result: the gradient of the values, head `c / 64`, lane `c % 64`. -/
theorem thirdResult_apply : val_main_v81 (F := Ideal) x0 x1 x3 (ix2 i c)
    = ((gradV (lanes (c / 64) Q) (lanes (c / 64) K) (lanes (c / 64) D) i (c % 64) : ℝ) : EReal) := by
  unfold val_main_v81 val_main_v80
  pointwise
  exact gradV_apply hq hk hd ⟨c / 64, _⟩ i ⟨c % 64, _⟩

include hv he

/-- The first result: the gradient of the queries. -/
theorem firstResult_apply : val_main_v77 (F := Ideal) x0 x1 x2 x3 x4 (ix2 i c)
    = ((gradQ (lanes (c / 64) Q) (lanes (c / 64) K) (lanes (c / 64) V) (lanes (c / 64) D) (e (c / 64)) i (c % 64) : ℝ)
      : EReal) := by
  unfold val_main_v77 val_main_v76
  pointwise
  exact gradQ_apply hq hk hv hd he ⟨c / 64, _⟩ i ⟨c % 64, _⟩

/-- The second result: the gradient of the keys. -/
theorem secondResult_apply : val_main_v79 (F := Ideal) x0 x1 x2 x3 x4 (ix2 i c)
    = ((gradK (lanes (c / 64) Q) (lanes (c / 64) K) (lanes (c / 64) V) (lanes (c / 64) D) (e (c / 64)) i (c % 64) : ℝ)
      : EReal) := by
  unfold val_main_v79 val_main_v78
  pointwise
  exact gradK_apply hq hk hv hd he ⟨c / 64, _⟩ i ⟨c % 64, _⟩

end results

end Attn
-- ==== Proof.Entry.lean ====
/-
  What the host hands the kernel as its fifth and sixth operands: the log-sum-exp of each head's scores, and delta, each
  repeated along the head's 64 lanes.
-/
module

public import proofs.«01_k».proof.Proof.Gen.KernelIdeal.Value
public import proofs.«01_k».proof.Proof.Reference

@[expose] public section

set_option maxRecDepth 16384

noncomputable section

namespace Attn

open Idealize.ShloMosaic Idealize.ShloMosaic.TcCoe Idealize.SL.Sem Cert.KernelIdeal Cert.KernelIdeal.Gen
open Cert.ReferenceIdeal.Read

section entry
variable {F : FTy → Type} [FloatOps F] (m : (ℓ : Loc nD τ sig) → Buf (Elt F) ℓ) (c : Dev nD)

/-- A table of one value per head and row, repeated along the head's lanes. -/
def spread (x : FVec F S96x1024 .f32) : FVec F S1024x6144 .f32 :=
  shapeCast S1024x6144 (broadcastInDim S1024x96x64 ![0, 1, 2] bcast_S1024x96x1_S1024x96x64_0_1_2
    (broadcastInDim S1024x96x1 ![0, 1] bcast_S1024x96_S1024x96x1_0_1
      (transpose S1024x96 [1, 0] x transposes_S96x1024_S1024x96_1_0))) shapeCasts_S1024x96x64_S1024x6144

/-- Delta: the sum over the lanes of the output times its cotangent, less the log-sum-exp's cotangent. -/
def deltas (x0 x1 x2 x3 : FVec F S1024x6144 .bf16) (x4 : FVec F S96x1024 .f32) : FVec F S96x1024 .f32 :=
  subf (Host.reduceAdd (mulf (val_main_v44 (F := F) x3) (val_main_v35 (F := F) x0 x1 x2)) (constant S_ .f32 0x00000000#32)
    reducesTo_S96x1024x64_S96x1024_d2 h_S_) x4

/-- The fifth operand. -/
theorem logSums_entry : V m c main_v42 = spread (val_main_v41 (F := F) (m (c, main_arg0)) (m (c, main_arg1))) := by
  show StableHlo.after hostOps0 (fun b => m (c, b)) (main_v42 : DevRef τ sig) = _
  simp only [hostOps0, List.flatten_cons, List.flatten_nil, List.append_nil, List.cons_append, List.nil_append]
  after_results
  rfl

/-- The sixth operand. -/
theorem deltas_entry : V m c main_v46
    = spread (deltas (m (c, main_arg0)) (m (c, main_arg1)) (m (c, main_arg2)) (m (c, main_arg3)) (m (c, main_arg4))) := by
  show StableHlo.after hostOps0 (fun b => m (c, b)) (main_v46 : DevRef τ sig) = _
  simp only [hostOps0, List.flatten_cons, List.flatten_nil, List.append_nil, List.cons_append, List.nil_append]
  after_results
  rfl

end entry

section values
variable {x0 x1 x2 x3 : FVec Ideal S1024x6144 .bf16} {x4 : FVec Ideal S96x1024 .f32} {Q K V D e : ℕ → ℕ → ℝ}

theorem spread_apply (x : FVec Ideal S96x1024 .f32) (i : Fin 1024) (l : Fin 6144) :
    spread x (ix2 i l) = x (ix2 ⟨l.val / 64, by omega⟩ i) := by
  unfold spread
  pointwise

theorem deltas_apply (hq : Table x0 Q) (hk : Table x1 K) (hv : Table x2 V) (hd : Table x3 D) (he : RowTable x4 e)
    (h : Fin 96) (i : Fin 1024) : deltas x0 x1 x2 x3 x4 (ix2 h i)
      = ((delta (lanes h Q) (lanes h K) (lanes h V) (lanes h D) (e h) i : ℝ) : EReal) := by
  unfold deltas
  pointwise
  simp only [cotangent_apply hd, output_apply hq hk h i hv, ← EReal.coe_mul]
  rw [sum_coe fun d => lanes h D i d * (numer (lanes h Q) (lanes h K) (lanes h V) i d / total (lanes h Q) (lanes h K) i), he,
    ← EReal.coe_sub, delta]

end values

end Attn
-- ==== Proof.Assembly.lean ====
/-
  The two programs' results are the same tables of real numbers: under the precondition every argument is a table of
  reals, the kernel's three arrays are then the three gradients of each head, and so are the plain mathematics' results.
-/
module

public import proofs.«01_k».proof.Defs
public import proofs.«01_k».proof.Proof.Outputs
public import proofs.«01_k».proof.Proof.Entry

@[expose] public section

set_option maxRecDepth 16384

noncomputable section

namespace Attn

open Idealize.ShloMosaic Idealize.ShloMosaic.TcCoe Idealize.SL.Sem Cert.KernelIdeal Cert.KernelIdeal.Gen
open Cert.ReferenceIdeal.Read

/-! ### From finite arguments to tables of reals -/

/-- The side conditions of the precondition's text. -/
theorem preFacts : Cert.Pre_finite.Facts := ⟨by decide, by decide, by decide⟩

/-- A value whose magnitude is below infinity is a real number. -/
theorem finite_of_lt {x : EReal} (h : Ideal.cmp .olt (max x (-x)) ⊤ = 1#1) : x = ((x.toReal : ℝ) : EReal) := by
  have hlt : max x (-x) < ⊤ := by
    by_contra hn
    have : Ideal.cmp .olt (max x (-x)) ⊤ = 0#1 := by
      unfold Ideal.cmp
      simp only [hn, decide_false]
      rfl
    rw [this] at h
    exact absurd h (by decide)
  have h1 : x ≠ ⊤ := fun e => by simp [e] at hlt
  have h2 : x ≠ ⊥ := fun e => by simp [e] at hlt
  exact (EReal.coe_toReal h1 h2).symm

/-- The table of an argument's reals. -/
def tableOf (x : FVec Ideal S1024x6144 .bf16) (r l : ℕ) : ℝ :=
  if h : r < 1024 ∧ l < 6144 then (x (ix2 ⟨r, h.1⟩ ⟨l, h.2⟩)).toReal else 0

def rowTableOf (x : FVec Ideal S96x1024 .f32) (a r : ℕ) : ℝ :=
  if h : a < 96 ∧ r < 1024 then (x (ix2 ⟨a, h.1⟩ ⟨r, h.2⟩)).toReal else 0

theorem table_tableOf (x : FVec Ideal S1024x6144 .bf16) (hx : ∀ y, x y = (((x y).toReal : ℝ) : EReal)) :
    Table x (tableOf x) := fun i l => by
  rw [hx, tableOf, dif_pos ⟨i.isLt, l.isLt⟩]

theorem rowTable_rowTableOf (x : FVec Ideal S96x1024 .f32) (hx : ∀ y, x y = (((x y).toReal : ℝ) : EReal)) :
    RowTable x (rowTableOf x) := fun h i => by
  rw [hx, rowTableOf, dif_pos ⟨h.isLt, i.isLt⟩]

/-- What the precondition says of the five arguments. -/
theorem tables_of_finite [Cert.Pre_finite.Facts] {x0 x1 x2 x3 : FVec Ideal S1024x6144 .bf16} {x4 : FVec Ideal S96x1024 .f32}
    (h : (Cert.Pre_finite.fn (F := Ideal) x0 x1 x2 x3 x4).1 = (fun _ => 1#1)
      ∧ (Cert.Pre_finite.fn (F := Ideal) x0 x1 x2 x3 x4).2.1 = (fun _ => 1#1)
      ∧ (Cert.Pre_finite.fn (F := Ideal) x0 x1 x2 x3 x4).2.2.1 = (fun _ => 1#1)
      ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) :
    Table x0 (tableOf x0) ∧ Table x1 (tableOf x1) ∧ Table x2 (tableOf x2) ∧ Table x3 (tableOf x3)
      ∧ RowTable x4 (rowTableOf x4) := by
  have ht : Ideal.ofBits FTy.f32 0x7F800000#32 = ⊤ := by simp [Ideal.ofBits, Ideal.ieee]
  refine ⟨table_tableOf x0 fun y => ?_, table_tableOf x1 fun y => ?_, table_tableOf x2 fun y => ?_,
    table_tableOf x3 fun y => ?_, rowTable_rowTableOf x4 fun y => ?_⟩ <;> apply finite_of_lt <;> rw [← ht]
  · exact congrFun h.1 y
  · exact congrFun h.2.1 y
  · exact congrFun h.2.2.1 y
  · exact congrFun h.2.2.2.1 y
  · exact congrFun h.2.2.2.2 y

/-! ### The kernel's arrays -/

section kernel
variable {m : (ℓ : Loc nD τ sig) → Buf (Elt Ideal) ℓ} {c : Dev nD} {Q K W D e : ℕ → ℕ → ℝ}
  (hq : Table (m (c, main_arg0)) Q) (hk : Table (m (c, main_arg1)) K) (hv : Table (m (c, main_arg2)) W)
  (hd : Table (m (c, main_arg3)) D) (he : RowTable (m (c, main_arg4)) e)

/-- A panel's table: the array's lanes from `128 t` on. -/
def panelOf (t : ℕ) (A : ℕ → ℕ → ℝ) (i l : ℕ) : ℝ := A i (128 * t + l)

/-- Head `h` of point `t`'s panel is head `2 t + h` of the array. -/
theorem lanes_panelOf (t h : ℕ) (A : ℕ → ℕ → ℝ) : lanes h (panelOf t A) = lanes (2 * t + h) A := by
  funext i d
  unfold lanes panelOf
  congr 1
  omega

include hq hk hv hd he

/-- At every grid point the kernel reads the panel's tables, the log-sum-exp and delta. -/
theorem isPanel (t : Fin cfg0.N) : IsPanel (panelOf t Q) (panelOf t K) (panelOf t W) (panelOf t D)
    (fun h => e (2 * t + h)) (readsAt m c t) where
  q i l := by rw [queries_at, V_main_arg0]; exact hq i (laneAt t l)
  k i l := by rw [keys_at, V_main_arg1]; exact hk i (laneAt t l)
  v i l := by rw [values_at, V_main_arg2]; exact hv i (laneAt t l)
  d i l := by rw [cotangents_at, V_main_arg3]; exact hd i (laneAt t l)
  l i l := by
    have hl : (laneAt t l).val / 64 = 2 * t.val + l.val / 64 := by
      show (128 * t.val + l.val) / 64 = _
      omega
    rw [logSums_at, logSums_entry, spread_apply, lse_apply hq hk, lanes_panelOf, lanes_panelOf]
    simp only [hl]
  dl i l := by
    have hl : (laneAt t l).val / 64 = 2 * t.val + l.val / 64 := by
      show (128 * t.val + l.val) / 64 = _
      omega
    rw [deltas_at, deltas_entry, spread_apply, deltas_apply hq hk hv hd he, lanes_panelOf, lanes_panelOf, lanes_panelOf,
      lanes_panelOf]
    simp only [hl]

omit hq hk hv hd he in
/-- Every lane of the array is a lane of some point's panel. -/
theorem exists_lane (l : Fin 6144) : ∃ (t : Fin cfg0.N) (x : Fin 128), l = laneAt t x ∧ l.val / 64 = 2 * t.val + x.val / 64
    ∧ l.val % 64 = x.val % 64 := by
  refine ⟨⟨l.val / 128, show l.val / 128 < 48 by omega⟩, ⟨l.val % 128, Nat.mod_lt _ (by decide)⟩, Fin.ext ?_, ?_, ?_⟩
  · show l.val = 128 * (l.val / 128) + l.val % 128
    omega
  · show l.val / 64 = 2 * (l.val / 128) + l.val % 128 / 64
    omega
  · show l.val % 64 = l.val % 128 % 64
    omega

/-- The first result is the plain mathematics' first result. -/
theorem first_eq : (dats m 0 c).arrAt 12 cfg0.N = val_main_v77 (F := Ideal) (m (c, main_arg0)) (m (c, main_arg1))
    (m (c, main_arg2)) (m (c, main_arg3)) (m (c, main_arg4)) := by
  funext y
  obtain ⟨i, l, rfl⟩ : ∃ (i : Fin 1024) (l : Fin 6144), y = ix2 i l := ⟨y 0, y 1, by funext a; fin_cases a <;> rfl⟩
  rw [firstResult_apply hq hk hv hd he i l]
  obtain ⟨t, x, rfl, h1, h2⟩ := exists_lane l
  rw [firstArray_at, rowOut_apply (isPanel hq hk hv hd he t), h1, h2]
  simp only [lanes_panelOf]

/-- The second result is the plain mathematics' second result. -/
theorem second_eq : (dats m 0 c).arrAt 13 cfg0.N = val_main_v79 (F := Ideal) (m (c, main_arg0)) (m (c, main_arg1))
    (m (c, main_arg2)) (m (c, main_arg3)) (m (c, main_arg4)) := by
  funext y
  obtain ⟨i, l, rfl⟩ : ∃ (i : Fin 1024) (l : Fin 6144), y = ix2 i l := ⟨y 0, y 1, by funext a; fin_cases a <;> rfl⟩
  rw [secondResult_apply hq hk hv hd he i l]
  obtain ⟨t, x, rfl, h1, h2⟩ := exists_lane l
  rw [secondArray_at, keyOut_apply (isPanel hq hk hv hd he t), h1, h2]
  simp only [lanes_panelOf]

/-- The third result is the plain mathematics' third result. -/
theorem third_eq : (dats m 0 c).arrAt 14 cfg0.N = val_main_v81 (F := Ideal) (m (c, main_arg0)) (m (c, main_arg1))
    (m (c, main_arg3)) := by
  funext y
  obtain ⟨i, l, rfl⟩ : ∃ (i : Fin 1024) (l : Fin 6144), y = ix2 i l := ⟨y 0, y 1, by funext a; fin_cases a <;> rfl⟩
  rw [thirdResult_apply hq hk hd i l]
  obtain ⟨t, x, rfl, h1, h2⟩ := exists_lane l
  rw [thirdArray_at, valueOut_apply (isPanel hq hk hv hd he t), h1, h2]
  simp only [lanes_panelOf]

end kernel

end Attn
-- ==== Proof.Blocked.lean ====
/-
  A sum taken block by block: the partial sums of a finite table over the extended reals.
-/
module

public import Mathlib.Data.EReal.Operations
public import Mathlib.Algebra.BigOperators.Fin

@[expose] public section

noncomputable section

namespace Blocked

/-- The sum of the first `n` entries. -/
def partialSum {K : ℕ} (f : Fin K → EReal) (n : ℕ) : EReal := ∑ k ∈ Finset.range n, if h : k < K then f ⟨k, h⟩ else 0

variable {K : ℕ} (f : Fin K → EReal)

theorem partialSum_all : partialSum f K = ∑ k, f k := by
  unfold partialSum
  rw [Finset.sum_range]
  exact Finset.sum_congr rfl fun k _ => dif_pos k.isLt

/-- The next block. -/
theorem partialSum_add (n b : ℕ) (h : n + b ≤ K) :
    partialSum f (n + b) = partialSum f n + ∑ q : Fin b, f ⟨n + q, by omega⟩ := by
  unfold partialSum
  rw [Finset.sum_range_add]
  congr 1
  rw [Finset.sum_range]
  exact Finset.sum_congr rfl fun q _ => dif_pos (by omega)

/-- The first block. -/
theorem partialSum_first (b : ℕ) (h : b ≤ K) : partialSum f b = ∑ q : Fin b, f ⟨q, by omega⟩ := by
  unfold partialSum
  rw [Finset.sum_range]
  exact Finset.sum_congr rfl fun q _ => dif_pos (by omega)

/-- The feed-forward width, in two chunks. -/
theorem sum_chunks (f : Fin 2816 → EReal) :
    ∑ j, f j = ∑ q : Fin 1408, f ⟨q, by omega⟩ + ∑ q : Fin 1408, f ⟨1408 + q, by omega⟩ := by
  rw [← partialSum_all f, ← partialSum_first f 1408 (by omega)]
  exact partialSum_add f 1408 1408 (by omega)

/-- A finite positive factor goes inside a sum. -/
theorem sum_mul_of_pos {ι : Type} (s : Finset ι) (f : ι → EReal) (r : ℝ) (hr : 0 < r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, EReal.mul_comm _ (r : EReal), EReal.mul_comm _ (r : EReal), EReal.mul_comm _ (r : EReal)]
    exact EReal.left_distrib_of_nonneg_of_ne_top (by exact_mod_cast hr.le) (EReal.coe_ne_top r) _ _

end Blocked
-- ==== Proof.RowMath.lean ====
/-
  The feed-forward branch of one token, over the extended reals: the normalised row, the two products, the gate and the
  row the branch adds.
-/
module

public import Idealize.ShloMosaic.PureOps.Ideal
public import proofs.«01_k».proof.Proof.Blocked

@[expose] public section

noncomputable section

namespace FeedForward

open Idealize.ShloMosaic

/-- The factor that normalises a row. -/
def scale (x : Fin 1024 → EReal) : EReal :=
  Ideal.rsqrt (Ideal.div (∑ k, x k * x k) (Ideal.ofBits FTy.f32 0x44800000#32) + Ideal.ofBits FTy.f32 0x358637BD#32)

/-- The normalised row. -/
def normed (x g : Fin 1024 → EReal) (k : Fin 1024) : EReal := x k * scale x * g k

/-- A row times a matrix. -/
def through {n p : ℕ} (x : Fin n → EReal) (w : Fin n → Fin p → EReal) (j : Fin p) : EReal := ∑ k, x k * w k j

/-- The gate's activation times the up-projection. -/
def gated (a u : EReal) : EReal := a * Ideal.logistic a * u

/-- The row after the branch. -/
def branch (x g : Fin 1024 → EReal) (wg wu : Fin 1024 → Fin 2816 → EReal) (wd : Fin 2816 → Fin 1024 → EReal)
    (k : Fin 1024) : EReal :=
  x k + Ideal.ofBits FTy.f32 0x3F000000#32
    * ∑ j, gated (through (normed x g) wg j) (through (normed x g) wu j) * wd j k

end FeedForward
-- ==== Proof.Forward.lean ====
/-
  The feed-forward branch: what a grid point of the kernel leaves for its 256 tokens, and the reference's three results.
-/
module

public import proofs.«01_k».proof.Proof.Gen.Kernel3Ideal.Value
public import proofs.«01_k».proof.Proof.Gen.Reference3Ideal.Read
public import proofs.«01_k».proof.Proof.RowMath
public import Idealize.ShloMosaic.Lib.Pointwise
public import Idealize.ShloMosaic.Lib.ValueIdx

@[expose] public section

set_option maxRecDepth 16384

noncomputable section

namespace Forward

open Idealize.ShloMosaic Idealize.ShloMosaic.TcCoe Idealize.SL.Sem Cert.Kernel3Ideal Cert.Kernel3Ideal.Gen FeedForward

/-! ### What the body computes -/

section Body
variable (x : Vec Ideal S256x1024 .f32) (g : Vec Ideal S1x1024 .f32) (n : FVec Ideal S256x1024 .bf16)
  (wg wu : Vec Ideal S1024x1408 .bf16) (r : Fin 256)

theorem normed_apply (k : Fin 1024) :
    k0_pay6 x g (ix2 r k) = normed (fun k => x (ix2 r k)) (fun k => g (ix2 0 k)) k := by
  unfold k0_pay6
  pointwise
  rfl

theorem gate_first (j : Fin 1408) : k0_pay8 x g wg (ix2 r j) = ∑ k : Fin 1024, k0_pay6 x g (ix2 r k) * wg (ix2 k j) := by
  unfold k0_pay8
  pointwise

theorem up_first (j : Fin 1408) : k0_pay9 x g wu (ix2 r j) = ∑ k : Fin 1024, k0_pay6 x g (ix2 r k) * wu (ix2 k j) := by
  unfold k0_pay9
  pointwise

theorem gate_second (j : Fin 1408) : k0_pay1 n wg (ix2 r j) = ∑ k : Fin 1024, n (ix2 r k) * wg (ix2 k j) := by
  unfold k0_pay1
  pointwise

theorem up_second (j : Fin 1408) : k0_pay2 n wu (ix2 r j) = ∑ k : Fin 1024, n (ix2 r k) * wu (ix2 k j) := by
  unfold k0_pay2
  pointwise

theorem gated_first (j : Fin 1408) :
    k0_pay12 x g wg wu (ix2 r j) = gated (k0_pay8 x g wg (ix2 r j)) (k0_pay9 x g wu (ix2 r j)) := by
  unfold k0_pay12
  pointwise
  simp only [zero_sub]
  rfl

theorem branch_apply (z : FVec Ideal S256x1024 .f32) (act : FVec Ideal S256x1408 .bf16) (wd wd' : Vec Ideal S1408x1024 .bf16)
    (k : Fin 1024) :
    k0_pay5 x n z act wd wg wu wd' (ix2 r k) = x (ix2 r k) + Ideal.ofBits FTy.f32 0x3F000000#32 *
      (z (ix2 r k) + ∑ j : Fin 1408, act (ix2 r j) * wd (ix2 j k)
        + ∑ j : Fin 1408, gated (k0_pay1 n wg (ix2 r j)) (k0_pay2 n wu (ix2 r j)) * wd' (ix2 j k)) := by
  unfold k0_pay5
  pointwise
  simp only [zero_sub]
  rfl

end Body

/-! ### What a grid point leaves -/

/-- A row of a table, and a table as a function of row and column. -/
abbrev row {n p : ℕ} (x : Vec Ideal ⟨2, ![n, p]⟩ .f32) (r : Fin n) : Fin p → EReal := fun k => x (ix2 r k)
abbrev table {n p : ℕ} (w : Vec Ideal ⟨2, ![n, p]⟩ .bf16) : Fin n → Fin p → EReal := fun k j => w (ix2 k j)

theorem zero_offsets : (![0, 0] : Fin 2 → Nat) = fun _ => 0 := funext fun a => by fin_cases a <;> rfl

section Point
variable (x : Vec Ideal S256x1024 .f32) (g : Vec Ideal S1x1024 .f32) (wg wu : Vec Ideal S1024x2816 .bf16)
  (wd : Vec Ideal S2816x1024 .bf16) (r : Fin 256)

theorem whole_rows : View.ld x r0_0 = x := View.ld_unit_zero (S := S256x1024) zero_offsets _ x
theorem whole_gain : View.ld g r0_1 = g := View.ld_unit_zero (S := S1x1024) zero_offsets _ g

theorem columns_first (k : Fin 1024) (j : Fin 1408) : View.ld wg r0_2 (ix2 k j) = wg (ix2 k ⟨j, by omega⟩) := by
  refine congrArg wg (funext fun a => Fin.ext ?_)
  match a with
  | ⟨0, _⟩ => show 0 + 1 * k.val = k.val; omega
  | ⟨1, _⟩ => show 0 + 1 * j.val = j.val; omega

theorem columns_second (k : Fin 1024) (j : Fin 1408) : View.ld wg r0_5 (ix2 k j) = wg (ix2 k ⟨1408 + j, by omega⟩) := by
  refine congrArg wg (funext fun a => Fin.ext ?_)
  match a with
  | ⟨0, _⟩ => show 0 + 1 * k.val = k.val; omega
  | ⟨1, _⟩ => show 1408 + 1 * j.val = 1408 + j.val; omega

theorem rows_first (j : Fin 1408) (k : Fin 1024) : View.ld wd r0_4 (ix2 j k) = wd (ix2 ⟨j, by omega⟩ k) := by
  refine congrArg wd (funext fun a => Fin.ext ?_)
  match a with
  | ⟨0, _⟩ => show 0 + 1 * j.val = j.val; omega
  | ⟨1, _⟩ => show 0 + 1 * k.val = k.val; omega

theorem rows_second (j : Fin 1408) (k : Fin 1024) : View.ld wd r0_7 (ix2 j k) = wd (ix2 ⟨1408 + j, by omega⟩ k) := by
  refine congrArg wd (funext fun a => Fin.ext ?_)
  match a with
  | ⟨0, _⟩ => show 1408 + 1 * j.val = 1408 + j.val; omega
  | ⟨1, _⟩ => show 0 + 1 * k.val = k.val; omega

/-- The normalised rows the second chunk uses are the first's. -/
theorem kept_rows : k0_pay13 x g wg wu wd = k0_pay6 x g := by
  unfold k0_pay13
  rw [whole_rows, whole_gain]

/-- The first chunk's product with a matrix, and the second's. -/
theorem first_chunk (j : Fin 1408) : ∑ k : Fin 1024, k0_pay6 x g (ix2 r k) * View.ld wg r0_2 (ix2 k j)
    = through (normed (row x r) (row g 0)) (table wg) ⟨j, by omega⟩ :=
  Finset.sum_congr rfl fun k _ => congrArg₂ (fun u v : EReal => u * v) (normed_apply x g r k) (columns_first wg k j)

theorem second_chunk (j : Fin 1408) : ∑ k : Fin 1024, k0_pay6 x g (ix2 r k) * View.ld wg r0_5 (ix2 k j)
    = through (normed (row x r) (row g 0)) (table wg) ⟨1408 + j, by omega⟩ :=
  Finset.sum_congr rfl fun k _ => congrArg₂ (fun u v : EReal => u * v) (normed_apply x g r k) (columns_second wg k j)

/-- The block of the rows after the branch. -/
theorem rows_out (k : Fin 1024) : out0_5 x g wg wu wd (ix2 r k)
    = branch (row x r) (row g 0) (table wg) (table wu) (table wd) k := by
  unfold out0_5
  rw [View.canon_unit_zero zero_offsets, kept_rows, whole_rows, whole_gain, branch_apply]
  unfold branch
  rw [Blocked.sum_chunks]
  have z : (k0_pay7 : FVec Ideal S256x1024 .f32) (ix2 r k) = 0 := by
    unfold k0_pay7
    pointwise
  rw [z, zero_add]
  refine congrArg (fun s : EReal => x (ix2 r k) + Ideal.ofBits FTy.f32 0x3F000000#32 * s) (congrArg₂ (fun u v : EReal => u + v)
    (Finset.sum_congr rfl fun j _ => ?_) (Finset.sum_congr rfl fun j _ => ?_))
  · rw [gated_first, gate_first, up_first, first_chunk, first_chunk, rows_first]
  · rw [gate_second, up_second, second_chunk, second_chunk, rows_second]

/-- An index of a wide block is its row and its column. -/
theorem wide_idx (y : S256x1408.Idx) : y = ix2 (y 0) (y 1) := by
  funext a
  fin_cases a <;> rfl

theorem first_place (j : Fin 1408) : r0_3.emb (ix2 r j) = ix2 r ⟨j, by omega⟩ := by
  refine funext fun a => Fin.ext ?_
  match a with
  | ⟨0, _⟩ => show 0 + 1 * r.val = r.val; omega
  | ⟨1, _⟩ => show 0 + 1 * j.val = j.val; omega

theorem second_place (j : Fin 1408) : r0_6.emb (ix2 r j) = ix2 r ⟨1408 + j, by omega⟩ := by
  refine funext fun a => Fin.ext ?_
  match a with
  | ⟨0, _⟩ => show 0 + 1 * r.val = r.val; omega
  | ⟨1, _⟩ => show 1408 + 1 * j.val = 1408 + j.val; omega

/-- Two chunks of columns that agree with `Y` leave `Y`. -/
theorem two_chunks (Y : S256x2816.Idx → EReal) (p q : Vec Ideal S256x1408 .bf16)
    (hp : ∀ (r : Fin 256) (j : Fin 1408), p (ix2 r j) = Y (ix2 r ⟨1408 + j, by omega⟩))
    (hq : ∀ (r : Fin 256) (j : Fin 1408), q (ix2 r j) = Y (ix2 r ⟨j, by omega⟩)) (j : Fin 2816) :
    View.canon (Val := Elt Ideal) (e := .bf16) [⟨r0_6, p⟩, ⟨r0_3, q⟩] (ix2 r j) = Y (ix2 r j) := by
  refine View.canon_apply_of_pieces (S := S256x2816) (Val := Elt Ideal) (e := .bf16) Y _ ?_ (ix2 r j) ?_
  · intro s hs y
    simp only [List.mem_cons, List.not_mem_nil, or_false] at hs
    rcases hs with rfl | rfl
    · obtain ⟨r, j, rfl⟩ : ∃ (r : Fin 256) (j : Fin 1408), y = ix2 r j := ⟨y 0, y 1, wide_idx y⟩
      exact (hp r j).trans (congrArg Y (second_place r j).symm)
    · obtain ⟨r, j, rfl⟩ : ∃ (r : Fin 256) (j : Fin 1408), y = ix2 r j := ⟨y 0, y 1, wide_idx y⟩
      exact (hq r j).trans (congrArg Y (first_place r j).symm)
  · by_cases hj : j.val < 1408
    · refine ⟨⟨r0_3, q⟩, by simp, ?_⟩
      show ix2 r j ∈ r0_3.set
      unfold r0_3
      rw [Rect.mem_set_unit]
      intro a
      match a with
      | ⟨0, _⟩ => exact ⟨Nat.zero_le _, by show r.val < 0 + 256; omega⟩
      | ⟨1, _⟩ => exact ⟨Nat.zero_le _, by show j.val < 0 + 1408; omega⟩
    · refine ⟨⟨r0_6, p⟩, by simp, ?_⟩
      show ix2 r j ∈ r0_6.set
      unfold r0_6
      rw [Rect.mem_set_unit]
      intro a
      match a with
      | ⟨0, _⟩ => exact ⟨Nat.zero_le _, by show r.val < 0 + 256; omega⟩
      | ⟨1, _⟩ => exact ⟨by show 1408 ≤ j.val; omega, by show j.val < 1408 + 1408; omega⟩

/-- The block of the gate's products, and of the up-projection's. -/
theorem gates_out (j : Fin 2816) : out0_6 x g wg wu wd (ix2 r j) = through (normed (row x r) (row g 0)) (table wg) j := by
  unfold out0_6
  refine two_chunks r (fun y => through (normed (row x (y 0)) (row g 0)) (table wg) (y 1)) _ _ (fun r j => ?_) (fun r j => ?_) j
  · rw [kept_rows]
    exact (gate_second _ _ r j).trans (second_chunk x g wg r j)
  · rw [whole_rows, whole_gain]
    exact (gate_first _ _ _ r j).trans (first_chunk x g wg r j)

theorem ups_out (j : Fin 2816) : out0_7 x g wg wu wd (ix2 r j) = through (normed (row x r) (row g 0)) (table wu) j := by
  unfold out0_7
  refine two_chunks r (fun y => through (normed (row x (y 0)) (row g 0)) (table wu) (y 1)) _ _ (fun r j => ?_) (fun r j => ?_) j
  · rw [kept_rows]
    exact (up_second _ _ r j).trans (second_chunk x g wu r j)
  · rw [whole_rows, whole_gain]
    exact (up_first _ _ _ r j).trans (first_chunk x g wu r j)

end Point

/-! ### Where the blocks lie -/

/-- Point `t` works on the tokens `256 t … 256 t + 255`, and reads the whole of the other arrays. -/
theorem index_rows : ∀ t : Fin grid0.N, win0_0.index t 0 = t.val ∧ win0_0.index t 1 = 0 := by decide +kernel
theorem index_gain : ∀ t : Fin grid0.N, win0_1.index t 0 = 0 ∧ win0_1.index t 1 = 0 := by decide +kernel
theorem index_gate : ∀ t : Fin grid0.N, win0_2.index t 0 = 0 ∧ win0_2.index t 1 = 0 := by decide +kernel
theorem index_up : ∀ t : Fin grid0.N, win0_3.index t 0 = 0 ∧ win0_3.index t 1 = 0 := by decide +kernel
theorem index_down : ∀ t : Fin grid0.N, win0_4.index t 0 = 0 ∧ win0_4.index t 1 = 0 := by decide +kernel
theorem index_out : ∀ t : Fin grid0.N, win0_5.index t 0 = t.val ∧ win0_5.index t 1 = 0 := by decide +kernel
theorem index_gates : ∀ t : Fin grid0.N, win0_6.index t 0 = t.val ∧ win0_6.index t 1 = 0 := by decide +kernel
theorem index_ups : ∀ t : Fin grid0.N, win0_7.index t 0 = t.val ∧ win0_7.index t 1 = 0 := by decide +kernel

section Arrays
variable (m : (ℓ : Loc nD τ sig) → Buf (Elt Ideal) ℓ) (c : Dev nD) (t : Fin cfg0.N) (r : Fin 256)

/-- The token that is row `r` of point `t`'s block. -/
def token : Fin 16384 := ⟨256 * t.val + r.val, by
  have ht : t.val < 64 := t.isLt
  have := r.isLt
  omega⟩

theorem rows_at (k : Fin 1024) : iblk m c 0 t (ix2 r k) = m ((c : Thread nD τ).loc main_arg0) (ix2 (token t r) k) := by
  refine (congrArg (V m c main_arg0) ?_).trans (congrFun (V_main_arg0 m c) _)
  obtain ⟨e0, e1⟩ := index_rows t
  refine funext fun a => Fin.ext ?_
  match a with
  | ⟨0, _⟩ => show win0_0.index t 0 * 256 + 1 * r.val = 256 * t.val + r.val; omega
  | ⟨1, _⟩ => show win0_0.index t 1 * 1024 + 1 * k.val = k.val; omega

theorem gain_at (z : Fin 1) (k : Fin 1024) : iblk m c 1 t (ix2 z k) = m ((c : Thread nD τ).loc main_arg1) (ix2 z k) := by
  refine (congrArg (V m c main_arg1) ?_).trans (congrFun (V_main_arg1 m c) _)
  obtain ⟨e0, e1⟩ := index_gain t
  refine funext fun a => Fin.ext ?_
  match a with
  | ⟨0, _⟩ => show win0_1.index t 0 * 1 + 1 * z.val = z.val; omega
  | ⟨1, _⟩ => show win0_1.index t 1 * 1024 + 1 * k.val = k.val; omega

theorem gate_at (k : Fin 1024) (j : Fin 2816) :
    iblk m c 2 t (ix2 k j) = m ((c : Thread nD τ).loc main_arg2) (ix2 k j) := by
  refine (congrArg (V m c main_arg2) ?_).trans (congrFun (V_main_arg2 m c) _)
  obtain ⟨e0, e1⟩ := index_gate t
  refine funext fun a => Fin.ext ?_
  match a with
  | ⟨0, _⟩ => show win0_2.index t 0 * 1024 + 1 * k.val = k.val; omega
  | ⟨1, _⟩ => show win0_2.index t 1 * 2816 + 1 * j.val = j.val; omega

theorem up_at (k : Fin 1024) (j : Fin 2816) :
    iblk m c 3 t (ix2 k j) = m ((c : Thread nD τ).loc main_arg3) (ix2 k j) := by
  refine (congrArg (V m c main_arg3) ?_).trans (congrFun (V_main_arg3 m c) _)
  obtain ⟨e0, e1⟩ := index_up t
  refine funext fun a => Fin.ext ?_
  match a with
  | ⟨0, _⟩ => show win0_3.index t 0 * 1024 + 1 * k.val = k.val; omega
  | ⟨1, _⟩ => show win0_3.index t 1 * 2816 + 1 * j.val = j.val; omega

theorem down_at (j : Fin 2816) (k : Fin 1024) :
    iblk m c 4 t (ix2 j k) = m ((c : Thread nD τ).loc main_arg4) (ix2 j k) := by
  refine (congrArg (V m c main_arg4) ?_).trans (congrFun (V_main_arg4 m c) _)
  obtain ⟨e0, e1⟩ := index_down t
  refine funext fun a => Fin.ext ?_
  match a with
  | ⟨0, _⟩ => show win0_4.index t 0 * 2816 + 1 * j.val = j.val; omega
  | ⟨1, _⟩ => show win0_4.index t 1 * 1024 + 1 * k.val = k.val; omega

/-- The launched rows and matrices. -/
abbrev rowsIn (i : Fin 16384) : Fin 1024 → EReal := fun k => m ((c : Thread nD τ).loc main_arg0) (ix2 i k)
abbrev gainIn : Fin 1024 → EReal := fun k => m ((c : Thread nD τ).loc main_arg1) (ix2 0 k)
abbrev gateIn : Fin 1024 → Fin 2816 → EReal := fun k j => m ((c : Thread nD τ).loc main_arg2) (ix2 k j)
abbrev upIn : Fin 1024 → Fin 2816 → EReal := fun k j => m ((c : Thread nD τ).loc main_arg3) (ix2 k j)
abbrev downIn : Fin 2816 → Fin 1024 → EReal := fun j k => m ((c : Thread nD τ).loc main_arg4) (ix2 j k)

theorem row_block : row (iblk m c 0 t) r = rowsIn m c (token t r) := funext fun k => rows_at m c t r k
theorem gain_block : row (iblk m c 1 t) 0 = gainIn m c := funext fun k => gain_at m c t 0 k
theorem gate_block : table (iblk m c 2 t) = gateIn m c := funext fun k => funext fun j => gate_at m c t k j
theorem up_block : table (iblk m c 3 t) = upIn m c := funext fun k => funext fun j => up_at m c t k j
theorem down_block : table (iblk m c 4 t) = downIn m c := funext fun j => funext fun k => down_at m c t j k

/-- A result's block, whatever its array holds. -/
theorem read_out (X : Buf (Elt Ideal) ((c : Thread nD τ).loc main_v0_0)) (k : Fin 1024) :
    ((cfg0.win 5).blk t).view.read (Elt Ideal) X (ix2 r k) = X (ix2 (token t r) k) := by
  refine congrArg X ?_
  obtain ⟨e0, e1⟩ := index_out t
  refine funext fun a => Fin.ext ?_
  match a with
  | ⟨0, _⟩ => show win0_5.index t 0 * 256 + 1 * r.val = 256 * t.val + r.val; omega
  | ⟨1, _⟩ => show win0_5.index t 1 * 1024 + 1 * k.val = k.val; omega

theorem read_gates (X : Buf (Elt Ideal) ((c : Thread nD τ).loc main_v0_1)) (j : Fin 2816) :
    ((cfg0.win 6).blk t).view.read (Elt Ideal) X (ix2 r j) = X (ix2 (token t r) j) := by
  refine congrArg X ?_
  obtain ⟨e0, e1⟩ := index_gates t
  refine funext fun a => Fin.ext ?_
  match a with
  | ⟨0, _⟩ => show win0_6.index t 0 * 256 + 1 * r.val = 256 * t.val + r.val; omega
  | ⟨1, _⟩ => show win0_6.index t 1 * 2816 + 1 * j.val = j.val; omega

theorem read_ups (X : Buf (Elt Ideal) ((c : Thread nD τ).loc main_v0_2)) (j : Fin 2816) :
    ((cfg0.win 7).blk t).view.read (Elt Ideal) X (ix2 r j) = X (ix2 (token t r) j) := by
  refine congrArg X ?_
  obtain ⟨e0, e1⟩ := index_ups t
  refine funext fun a => Fin.ext ?_
  match a with
  | ⟨0, _⟩ => show win0_7.index t 0 * 256 + 1 * r.val = 256 * t.val + r.val; omega
  | ⟨1, _⟩ => show win0_7.index t 1 * 2816 + 1 * j.val = j.val; omega

theorem out_block (k : Fin 1024) : (dats m 0 c).arrAt 5 cfg0.N (ix2 (token t r) k)
    = branch (rowsIn m c (token t r)) (gainIn m c) (gateIn m c) (upIn m c) (downIn m c) k := by
  refine (read_out c t r _ k).symm.trans ?_
  rw [Value.blocks5 m c t (flush0_5 t), Value.flushed5, ← row_block, ← gain_block m c t, ← gate_block m c t, ← up_block m c t,
    ← down_block m c t, ← rows_out]
  generalize out0_5 (iblk m c 0 t) (iblk m c 1 t) (iblk m c 2 t) (iblk m c 3 t) (iblk m c 4 t) = X
  rfl

theorem gates_block (j : Fin 2816) : (dats m 0 c).arrAt 6 cfg0.N (ix2 (token t r) j)
    = through (normed (rowsIn m c (token t r)) (gainIn m c)) (gateIn m c) j := by
  refine (read_gates c t r _ j).symm.trans ?_
  rw [Value.blocks6 m c t (flush0_6 t), Value.flushed6, ← row_block, ← gain_block m c t, ← gate_block m c t,
    ← gates_out _ _ _ (iblk m c 3 t) (iblk m c 4 t)]
  generalize out0_6 (iblk m c 0 t) (iblk m c 1 t) (iblk m c 2 t) (iblk m c 3 t) (iblk m c 4 t) = X
  rfl

theorem ups_block (j : Fin 2816) : (dats m 0 c).arrAt 7 cfg0.N (ix2 (token t r) j)
    = through (normed (rowsIn m c (token t r)) (gainIn m c)) (upIn m c) j := by
  refine (read_ups c t r _ j).symm.trans ?_
  rw [Value.blocks7 m c t (flush0_7 t), Value.flushed7, ← row_block, ← gain_block m c t, ← up_block m c t,
    ← ups_out _ _ (iblk m c 2 t) _ (iblk m c 4 t)]
  generalize out0_7 (iblk m c 0 t) (iblk m c 1 t) (iblk m c 2 t) (iblk m c 3 t) (iblk m c 4 t) = X
  rfl

/-- Every token is a row of some point's block. -/
theorem token_exists (i : Fin 16384) : ∃ (t : Fin cfg0.N) (r : Fin 256), token t r = i := by
  have h := i.isLt
  refine ⟨⟨i.val / 256, by have hN : cfg0.N = 64 := N_0; omega⟩, ⟨i.val % 256, Nat.mod_lt _ (by decide)⟩, Fin.ext ?_⟩
  show 256 * (i.val / 256) + i.val % 256 = i.val
  omega

/-- The three arrays after the run. -/
theorem out_array (i : Fin 16384) (k : Fin 1024) : (dats m 0 c).arrAt 5 cfg0.N (ix2 i k)
    = branch (rowsIn m c i) (gainIn m c) (gateIn m c) (upIn m c) (downIn m c) k := by
  obtain ⟨t, r, rfl⟩ := token_exists i
  exact out_block m c t r k

theorem gates_array (i : Fin 16384) (j : Fin 2816) : (dats m 0 c).arrAt 6 cfg0.N (ix2 i j)
    = through (normed (rowsIn m c i) (gainIn m c)) (gateIn m c) j := by
  obtain ⟨t, r, rfl⟩ := token_exists i
  exact gates_block m c t r j

theorem ups_array (i : Fin 16384) (j : Fin 2816) : (dats m 0 c).arrAt 7 cfg0.N (ix2 i j)
    = through (normed (rowsIn m c i) (gainIn m c)) (upIn m c) j := by
  obtain ⟨t, r, rfl⟩ := token_exists i
  exact ups_block m c t r j

end Arrays

/-! ### The reference -/

section Reference
open Cert.Reference3Ideal.Read
variable (x : Vec Ideal S16384x1024 .f32) (g : Vec Ideal S1x1024 .f32) (wg wu : Vec Ideal S1024x2816 .bf16)
  (wd : Vec Ideal S2816x1024 .bf16) (i : Fin 16384)

theorem reference_normed (k : Fin 1024) : val_main_v14 (F := Ideal) x g (ix2 i k) = normed (row x i) (row g 0) k := by
  unfold val_main_v14 val_main_v13 val_main_v12 val_main_v11 val_main_v10 val_main_v9 val_main_v8 val_main_v7 val_main_v6
    val_main_v5 val_main_v4 val_main_v3 val_main_cst val_main_cst_0 val_main_cst_1
  pointwise
  rfl

theorem reference_normed' (k : Fin 1024) : val_main_v26 (F := Ideal) x g (ix2 i k) = normed (row x i) (row g 0) k := by
  unfold val_main_v26 val_main_v25 val_main_v24 val_main_v23 val_main_v22 val_main_v21 val_main_v20 val_main_v19 val_main_v18
    val_main_v17 val_main_v16 val_main_v15 val_main_cst_2 val_main_cst_3 val_main_cst_4
  pointwise
  rfl

theorem reference_gates (j : Fin 2816) : val_main_v36 (F := Ideal) x g wg (ix2 i j)
    = through (normed (row x i) (row g 0)) (table wg) j := by
  have e : ∀ n : FVec Ideal S16384x1024 .f32, val_main_v14 (F := Ideal) x g = n →
      val_main_v36 (F := Ideal) x g wg (ix2 i j) = ∑ k : Fin 1024, n (ix2 i k) * wg (ix2 k j) := by
    intro n hn
    unfold val_main_v36 val_main_v35 val_main_v0
    rw [hn]
    pointwise
  exact (e _ rfl).trans (Finset.sum_congr rfl fun k _ => congrArg (fun u : EReal => u * wg (ix2 k j)) (reference_normed x g i k))

theorem reference_ups (j : Fin 2816) : val_main_v38 (F := Ideal) x g wu (ix2 i j)
    = through (normed (row x i) (row g 0)) (table wu) j := by
  have e : ∀ n : FVec Ideal S16384x1024 .f32, val_main_v14 (F := Ideal) x g = n →
      val_main_v38 (F := Ideal) x g wu (ix2 i j) = ∑ k : Fin 1024, n (ix2 i k) * wu (ix2 k j) := by
    intro n hn
    unfold val_main_v38 val_main_v37 val_main_v1
    rw [hn]
    pointwise
  exact (e _ rfl).trans (Finset.sum_congr rfl fun k _ => congrArg (fun u : EReal => u * wu (ix2 k j)) (reference_normed x g i k))

theorem reference_gate (j : Fin 2816) : val_main_v27 (F := Ideal) x g wg (ix2 i j)
    = through (normed (row x i) (row g 0)) (table wg) j := by
  have e : ∀ n : FVec Ideal S16384x1024 .f32, val_main_v26 (F := Ideal) x g = n →
      val_main_v27 (F := Ideal) x g wg (ix2 i j) = ∑ k : Fin 1024, n (ix2 i k) * wg (ix2 k j) := by
    intro n hn
    unfold val_main_v27 val_main_v0
    rw [hn]
    pointwise
  exact (e _ rfl).trans (Finset.sum_congr rfl fun k _ => congrArg (fun u : EReal => u * wg (ix2 k j)) (reference_normed' x g i k))

theorem reference_up (j : Fin 2816) : val_main_v28 (F := Ideal) x g wu (ix2 i j)
    = through (normed (row x i) (row g 0)) (table wu) j := by
  have e : ∀ n : FVec Ideal S16384x1024 .f32, val_main_v26 (F := Ideal) x g = n →
      val_main_v28 (F := Ideal) x g wu (ix2 i j) = ∑ k : Fin 1024, n (ix2 i k) * wu (ix2 k j) := by
    intro n hn
    unfold val_main_v28 val_main_v1
    rw [hn]
    pointwise
  exact (e _ rfl).trans (Finset.sum_congr rfl fun k _ => congrArg (fun u : EReal => u * wu (ix2 k j)) (reference_normed' x g i k))

theorem reference_gated (j : Fin 2816) : val_main_v30 (F := Ideal) x g wg wu (ix2 i j)
    = gated (through (normed (row x i) (row g 0)) (table wg) j) (through (normed (row x i) (row g 0)) (table wu) j) := by
  have e : ∀ a u : FVec Ideal S16384x2816 .f32, val_main_v27 (F := Ideal) x g wg = a → val_main_v28 (F := Ideal) x g wu = u →
      val_main_v30 (F := Ideal) x g wg wu (ix2 i j) = gated (a (ix2 i j)) (u (ix2 i j)) := by
    intro a u ha hu
    unfold val_main_v30 val_main_v29 val_main_call0_v5 val_main_call0_v4 val_main_call0_v3 val_main_call0_v2 val_main_call0_v1
      val_main_call0_v0 val_main_call0_cst val_main_call0_cst_0
    rw [ha, hu]
    pointwise
    rfl
  rw [e _ _ rfl rfl, reference_gate, reference_up]

theorem reference_out (k : Fin 1024) : val_main_v34 (F := Ideal) x g wg wu wd (ix2 i k)
    = branch (row x i) (row g 0) (table wg) (table wu) (table wd) k := by
  have e : ∀ p : FVec Ideal S16384x2816 .f32, val_main_v30 (F := Ideal) x g wg wu = p →
      val_main_v34 (F := Ideal) x g wg wu wd (ix2 i k)
        = x (ix2 i k) + Ideal.ofBits FTy.f32 0x3F000000#32 * ∑ j : Fin 2816, p (ix2 i j) * wd (ix2 j k) := by
    intro p hp
    unfold val_main_v34 val_main_v33 val_main_v32 val_main_v31 val_main_v2 val_main_cst_5
    rw [hp]
    pointwise
  rw [e _ rfl]
  unfold branch
  simp only [reference_gated]

end Reference

end Forward
-- ==== Proof.GateGrad.lean ====
/-
  The gradient of the gate's and of the up-projection's matrix: the product of the transposed activations with the
  gradient, summed over the tokens four blocks of 4096 at a time in a scratch block that the last point stores.
-/
module

public import proofs.«01_k».proof.Proof.Gen.Kernel4Ideal.Value
public import proofs.«01_k».proof.Proof.Gen.Reference4Ideal.Read
public import proofs.«01_k».proof.Proof.Blocked
public import Idealize.ShloMosaic.Lib.Pointwise
public import Idealize.ShloMosaic.Lib.ValueIdx

@[expose] public section

set_option maxRecDepth 16384

noncomputable section

namespace GateGrad

open Idealize.ShloMosaic Idealize.ShloMosaic.TcCoe Idealize.SL.Sem Cert.Kernel4Ideal Cert.Kernel4Ideal.Gen

theorem zero_offsets : (![0, 0] : Fin 2 → Nat) = fun _ => 0 := funext fun a => by fin_cases a <;> rfl

theorem loaded_left (x : Vec Ideal S4096x512 .bf16) (h) : View.ld x (Rect.unit ![0, 0] ![4096, 512] h) = x :=
  View.ld_unit_zero (S := S4096x512) zero_offsets h x

theorem loaded_right (x : Vec Ideal S4096x1408 .bf16) (h) : View.ld x (Rect.unit ![0, 0] ![4096, 1408] h) = x :=
  View.ld_unit_zero (S := S4096x1408) zero_offsets h x

theorem loaded_sum (x : Vec Ideal S512x1408 .f32) (h) : View.ld x (Rect.unit ![0, 0] ![512, 1408] h) = x :=
  View.ld_unit_zero (S := S512x1408) zero_offsets h x

/-! ### What the body computes -/

/-- A block's product. -/
theorem product_apply (x : Vec Ideal S4096x512 .bf16) (y : Vec Ideal S4096x1408 .bf16) (r : Fin 512) (l : Fin 1408) :
    k0_pay1 x y (ix2 r l) = ∑ q : Fin 4096, x (ix2 q r) * y (ix2 q l) := by
  unfold k0_pay1
  pointwise

/-- The first block's product. -/
theorem start_apply (x : Vec Ideal S4096x512 .bf16) (y : Vec Ideal S4096x1408 .bf16) (r : Fin 512) (l : Fin 1408) :
    k0_pay2 x y (ix2 r l) = k0_pay1 x y (ix2 r l) := by
  unfold k0_pay2
  rw [shapeCast_self]

/-- A later block's product, added to what the scratch holds. -/
theorem add_apply (x : Vec Ideal S4096x512 .bf16) (y : Vec Ideal S4096x1408 .bf16) (s : Vec Ideal S512x1408 .f32)
    (r : Fin 512) (l : Fin 1408) :
    k0_pay3 x y s (ix2 r l) = s (ix2 r l) + k0_pay1 x y (ix2 r l) := by
  unfold k0_pay3
  rw [shapeCast_self]
  rfl

/-! ### What a grid point leaves -/

section Points
variable (c : Dev nD) (i : grid0.Coords) (arg3 : Memref sig .tc .vmem S4096x512 .bf16) (h3 : arg3.IsWhole)
  (arg4 : Memref sig .tc .vmem S4096x1408 .bf16) (h4 : arg4.IsWhole) (arg5 : Memref sig .tc .vmem S512x1408 .f32)
  (h5 : arg5.IsWhole) (arg6 : Memref sig .tc .vmem S512x1408 .f32) (h6 : arg6.IsWhole)
  (x : Vec Ideal S4096x512 .bf16) (y : Vec Ideal S4096x1408 .bf16) (s : Vec Ideal S512x1408 .f32)

theorem first_scratch (c0 : cond0_0 i) (c1 : ¬cond0_1 i) (c2 : ¬cond0_2 i) :
    sout0_A_0 c i arg3 h3 arg4 h4 arg5 h5 arg6 h6 c0 c1 c2 x y = k0_pay2 x y := by
  unfold sout0_A_0
  rw [View.read_writes_eq_canon _ _ _ (scover0_A_0 c i arg3 h3 arg4 h4 arg5 h5 arg6 h6 c0 c1 c2 x y)]
  unfold kernelRun0_A
  dsimp only
  rw [View.canon_unit_zero zero_offsets]
  simp only [View.readAt_eq_ld, h3.read_unread, h4.read_unread, loaded_left, loaded_right]

theorem middle_scratch (c0 : ¬cond0_0 i) (c1 : cond0_1 i) (c2 : ¬cond0_2 i) :
    sout0_B_0 c i arg3 h3 arg4 h4 arg5 h5 arg6 h6 c0 c1 c2 x y s = k0_pay3 x y s := by
  unfold sout0_B_0
  rw [View.read_writes_eq_canon _ _ _ (scover0_B_0 c i arg3 h3 arg4 h4 arg5 h5 arg6 h6 c0 c1 c2 x y s)]
  unfold kernelRun0_B
  dsimp only
  rw [View.canon_unit_zero zero_offsets]
  simp only [View.readAt_eq_ld, h3.read_unread, h4.read_unread, h6.read_unread, loaded_left, loaded_right, loaded_sum]

theorem last_scratch (c0 : ¬cond0_0 i) (c1 : cond0_1 i) (c2 : cond0_2 i) :
    sout0_C_0 c i arg3 h3 arg4 h4 arg5 h5 arg6 h6 c0 c1 c2 x y s = k0_pay3 x y s := by
  unfold sout0_C_0
  rw [View.read_writes_eq_canon _ _ _ (scover0_C_0 c i arg3 h3 arg4 h4 arg5 h5 arg6 h6 c0 c1 c2 x y s)]
  unfold kernelRun0_C
  dsimp only
  sl_unfold_words
  rw [View.canon_unit_zero zero_offsets]
  simp only [View.readAt_eq_ld, h3.read_unread, h4.read_unread, h6.read_unread, loaded_left, loaded_right, loaded_sum]

theorem last_output (c0 : ¬cond0_0 i) (c1 : cond0_1 i) (c2 : cond0_2 i) :
    out0_C_2 c i arg3 h3 arg4 h4 arg5 h5 arg6 h6 c0 c1 c2 x y s = k0_pay3 x y s := by
  unfold out0_C_2
  rw [View.read_writes_eq_canon _ _ _ (cover0_C_2 c i arg3 h3 arg4 h4 arg5 h5 arg6 h6 c0 c1 c2 x y s)]
  unfold kernelRun0_C
  dsimp only
  sl_unfold_words
  rw [View.canon_unit_zero zero_offsets, View.readCov_unit_zero (S := S512x1408) _ zero_offsets]
  simp only [View.readAt_eq_ld, h3.read_unread, h4.read_unread, h6.read_unread, loaded_left, loaded_right, loaded_sum, shapeCast_self]

end Points

/-! ### The blocks a grid point reads -/

theorem index_left : ∀ t : Fin grid0.N, win0_0.index t 0 = t.val % 4 ∧ win0_0.index t 1 = t.val / 4 % 2 := by decide +kernel
theorem index_right : ∀ t : Fin grid0.N, win0_1.index t 0 = t.val % 4 ∧ win0_1.index t 1 = t.val / 8 := by decide +kernel

variable (m : (ℓ : Loc nD τ sig) → Buf (Elt Ideal) ℓ) (c : Dev nD) (t : Fin cfg0.N)

theorem left_at (q : Fin 4096) (r : Fin 512) (k : Fin 16384) (ρ : Fin 1024) (hk : k.val = 4096 * (t.val % 4) + q.val)
    (hρ : ρ.val = 512 * (t.val / 4 % 2) + r.val) :
    iblk m c 0 t (ix2 q r) = m ((c : Thread nD τ).loc main_arg0) (ix2 k ρ) := by
  refine (congrArg (V m c main_arg0) ?_).trans (congrFun (V_main_arg0 m c) _)
  obtain ⟨e0, e1⟩ := index_left t
  funext a
  apply Fin.ext
  match a with
  | ⟨0, _⟩ => show win0_0.index t 0 * 4096 + 1 * q.val = k.val; omega
  | ⟨1, _⟩ => show win0_0.index t 1 * 512 + 1 * r.val = ρ.val; omega

theorem right_at (q : Fin 4096) (l : Fin 1408) (k : Fin 16384) (γ : Fin 2816) (hk : k.val = 4096 * (t.val % 4) + q.val)
    (hγ : γ.val = 1408 * (t.val / 8) + l.val) :
    iblk m c 1 t (ix2 q l) = m ((c : Thread nD τ).loc main_arg1) (ix2 k γ) := by
  refine (congrArg (V m c main_arg1) ?_).trans (congrFun (V_main_arg1 m c) _)
  obtain ⟨e0, e1⟩ := index_right t
  funext a
  apply Fin.ext
  match a with
  | ⟨0, _⟩ => show win0_1.index t 0 * 4096 + 1 * q.val = k.val; omega
  | ⟨1, _⟩ => show win0_1.index t 1 * 1408 + 1 * l.val = γ.val; omega

/-! ### The sum over the tokens -/

/-- The terms of one entry of the gradient, token by token. -/
def terms (A : Vec Ideal S16384x1024 .bf16) (B : Vec Ideal S16384x2816 .bf16) (ρ : Fin 1024) (γ : Fin 2816) :
    Fin 16384 → EReal := fun k => A (ix2 k ρ) * B (ix2 k γ)

/-- The terms of the entry, of the arrays as launched. -/
abbrev launched (ρ : Fin 1024) (γ : Fin 2816) : Fin 16384 → EReal :=
  terms (m ((c : Thread nD τ).loc main_arg0)) (m ((c : Thread nD τ).loc main_arg1)) ρ γ

variable {r : Fin 512} {l : Fin 1408} {ρ : Fin 1024} {γ : Fin 2816}

/-- One block's product is the block's part of the sum. -/
theorem block_sum (hρ : ρ.val = 512 * (t.val / 4 % 2) + r.val) (hγ : γ.val = 1408 * (t.val / 8) + l.val) :
    k0_pay1 (iblk m c 0 t) (iblk m c 1 t) (ix2 r l)
      = ∑ q : Fin 4096, launched m c ρ γ ⟨4096 * (t.val % 4) + q.val, by omega⟩ :=
  (product_apply _ _ r l).trans <| Finset.sum_congr rfl fun q _ => congrArg₂ (fun u v : EReal => u * v)
    (left_at m c t q r ⟨4096 * (t.val % 4) + q.val, by omega⟩ ρ rfl hρ)
    (right_at m c t q l ⟨4096 * (t.val % 4) + q.val, by omega⟩ γ rfl hγ)

/-- At a run's first point. -/
theorem started (h : t.val % 4 = 0) (hρ : ρ.val = 512 * (t.val / 4 % 2) + r.val) (hγ : γ.val = 1408 * (t.val / 8) + l.val) :
    (outsAt0 m c t.val t.isLt).2 (ix2 r l) = Blocked.partialSum (launched m c ρ γ) (4096 * (t.val % 4 + 1)) := by
  rw [outsAt0_A m c t h (by omega) (by omega)]
  dsimp only
  rw [first_scratch, start_apply, block_sum m c t hρ hγ, show 4096 * (t.val % 4 + 1) = 4096 from by omega]
  refine Eq.trans ?_ (Blocked.partialSum_first (launched m c ρ γ) 4096 (by omega)).symm
  exact Finset.sum_congr rfl fun q _ => congrArg _ (Fin.ext (by show 4096 * (t.val % 4) + q.val = q.val; omega))

/-- At a later point, over what the point before left. -/
theorem continued (hρ : ρ.val = 512 * (t.val / 4 % 2) + r.val) (hγ : γ.val = 1408 * (t.val / 8) + l.val)
    (s : Vec Ideal S512x1408 .f32) (hs : s (ix2 r l) = Blocked.partialSum (launched m c ρ γ) (4096 * (t.val % 4))) :
    k0_pay3 (iblk m c 0 t) (iblk m c 1 t) s (ix2 r l) = Blocked.partialSum (launched m c ρ γ) (4096 * (t.val % 4 + 1)) := by
  rw [add_apply, hs, block_sum m c t hρ hγ]
  exact (Blocked.partialSum_add (launched m c ρ γ) (4096 * (t.val % 4)) 4096 (by omega)).symm

/-- What the scratch block holds after each point. -/
theorem scratch_at : ∀ (n : ℕ) (hn : n < cfg0.N), ρ.val = 512 * (n / 4 % 2) + r.val → γ.val = 1408 * (n / 8) + l.val →
    (outsAt0 m c n hn).2 (ix2 r l) = Blocked.partialSum (launched m c ρ γ) (4096 * (n % 4 + 1)) := by
  intro n
  induction n with
  | zero => exact fun hn hρ hγ => started m c ⟨0, hn⟩ rfl hρ hγ
  | succ n ih =>
    intro hn hρ hγ
    by_cases h0 : (n + 1) % 4 = 0
    · exact started m c ⟨n + 1, hn⟩ h0 hρ hγ
    · have e := ih (Nat.lt_of_succ_lt hn) (by omega) (by omega)
      rw [show n % 4 + 1 = (n + 1) % 4 from by omega] at e
      by_cases h2 : (n + 1) % 4 = 3
      · rw [outsAt0_C m c ⟨n + 1, hn⟩ h0 (by show 1 ≤ (n + 1) % 4; omega) h2]
        dsimp only
        rw [last_scratch]
        exact continued m c ⟨n + 1, hn⟩ hρ hγ _ e
      · rw [outsAt0_B m c ⟨n + 1, hn⟩ h0 (by show 1 ≤ (n + 1) % 4; omega) h2]
        dsimp only
        rw [middle_scratch]
        exact continued m c ⟨n + 1, hn⟩ hρ hγ _ e

/-- What the last point of a run stores: the whole sum. -/
theorem stored (n : ℕ) (hn : n < cfg0.N) (h : n % 4 = 3) (hρ : ρ.val = 512 * (n / 4 % 2) + r.val)
    (hγ : γ.val = 1408 * (n / 8) + l.val) :
    (outsAt0 m c n hn).1 (ix2 r l) = ∑ k, launched m c ρ γ k := by
  have e := scratch_at m c n hn hρ hγ
  rw [outsAt0_C m c ⟨n, hn⟩ (by show ¬n % 4 = 0; omega) (by show 1 ≤ n % 4; omega) h] at e ⊢
  dsimp only at e ⊢
  rw [last_scratch] at e
  rw [last_output, e, h]
  exact Blocked.partialSum_all (launched m c ρ γ)

/-- The gradient's array after the run. -/
theorem array_at (ρ : Fin 1024) (γ : Fin 2816) : Value.G2 m c (ix2 ρ γ) = ∑ k, launched m c ρ γ k := by
  have hN : cfg0.N = 16 := N_0
  have hρ := ρ.isLt
  have hγ := γ.isLt
  have hp : Value.pt2Of (ix2 ρ γ) = 4 * (ρ.val / 512 + 2 * (γ.val / 1408)) + 3 := by
    show 4 * (1 * (ρ.val / 512 - 0) + 2 * (γ.val / 1408 - 0)) + 3 = _
    omega
  have hl : Value.loc2Of (ix2 ρ γ) = ix2 ⟨ρ.val % 512, Nat.mod_lt _ (by decide)⟩ ⟨γ.val % 1408, Nat.mod_lt _ (by decide)⟩ := by
    funext a
    match a with
    | ⟨0, _⟩ => rfl
    | ⟨1, _⟩ => rfl
  have hlt : Value.pt2Of (ix2 ρ γ) < cfg0.N := by rw [hp, hN]; omega
  unfold Value.G2
  rw [dif_pos hlt, ← Value.outsAt0_sweep m c _ hlt, hl]
  exact stored m c _ _ (by omega) (by rw [hp]; show ρ.val = _ + ρ.val % 512; omega) (by rw [hp]; show γ.val = _ + γ.val % 1408; omega)

/-! ### The reference -/

/-- The reference's gradient. -/
theorem reference_at (A : Vec Ideal S16384x1024 .bf16) (B : Vec Ideal S16384x2816 .bf16) (ρ : Fin 1024) (γ : Fin 2816) :
    Cert.Reference4Ideal.Read.val_main_v5 A B (ix2 ρ γ) = ∑ k, terms A B ρ γ k := by
  rw [Cert.Reference4Ideal.Read.val_main_v5_apply, Cert.Reference4Ideal.Read.val_main_v4_apply]
  refine Finset.sum_congr rfl fun k _ => ?_
  rw [Cert.Reference4Ideal.Read.val_main_v3_apply, Cert.Reference4Ideal.Read.val_main_v1_apply, mul_comm]
  exact congrArg₂ (fun u v : EReal => u * v) (congrArg A (funext fun a => by fin_cases a <;> rfl))
    (congrArg B (funext fun a => by fin_cases a <;> rfl))

end GateGrad
-- ==== Proof.DownGrad.lean ====
/-
  The gradient of the down-projection's matrix: the product of the transposed activations with half the cotangent, summed
  over the tokens sixteen blocks of 1024 at a time in a scratch block; the last point halves the sum and stores it.
-/
module

public import proofs.«01_k».proof.Proof.Gen.Kernel5Ideal.Value
public import proofs.«01_k».proof.Proof.Gen.Reference5Ideal.Read
public import proofs.«01_k».proof.Proof.Blocked
public import Idealize.ShloMosaic.Lib.Pointwise
public import Idealize.ShloMosaic.Lib.ValueIdx

@[expose] public section

set_option maxRecDepth 16384

noncomputable section

namespace DownGrad

open Idealize.ShloMosaic Idealize.ShloMosaic.TcCoe Idealize.SL.Sem Cert.Kernel5Ideal Cert.Kernel5Ideal.Gen

theorem zero_offsets : (![0, 0] : Fin 2 → Nat) = fun _ => 0 := funext fun a => by fin_cases a <;> rfl

theorem loaded_left (x : Vec Ideal S1024x1408 .bf16) (h) : View.ld x (Rect.unit ![0, 0] ![1024, 1408] h) = x :=
  View.ld_unit_zero (S := S1024x1408) zero_offsets h x

theorem loaded_right (x : Vec Ideal S1024x1024 .f32) (h) : View.ld x (Rect.unit ![0, 0] ![1024, 1024] h) = x :=
  View.ld_unit_zero (S := S1024x1024) zero_offsets h x

theorem loaded_sum (x : Vec Ideal S1408x1024 .f32) (h) : View.ld x (Rect.unit ![0, 0] ![1408, 1024] h) = x :=
  View.ld_unit_zero (S := S1408x1024) zero_offsets h x

/-! ### What the body computes -/

/-- The factor of the feed-forward branch. -/
theorem half : Ideal.ofBits FTy.f32 0x3F000000#32 = ((2⁻¹ : ℝ) : EReal) := by
  simp [Ideal.ofBits, Ideal.ieee]
  rw [← EReal.coe_mul]
  norm_num

/-- A block's product. -/
theorem product_apply (x : Vec Ideal S1024x1408 .bf16) (y : Vec Ideal S1024x1024 .f32) (r : Fin 1408) (l : Fin 1024) :
    k0_pay1 x y (ix2 r l) = ∑ q : Fin 1024, x (ix2 q r) * y (ix2 q l) := by
  unfold k0_pay1
  pointwise

/-- The first block's product. -/
theorem start_apply (x : Vec Ideal S1024x1408 .bf16) (y : Vec Ideal S1024x1024 .f32) (r : Fin 1408) (l : Fin 1024) :
    k0_pay2 x y (ix2 r l) = k0_pay1 x y (ix2 r l) := by
  unfold k0_pay2
  rw [shapeCast_self]

/-- A later block's product, added to what the scratch holds. -/
theorem add_apply (x : Vec Ideal S1024x1408 .bf16) (y : Vec Ideal S1024x1024 .f32) (s : Vec Ideal S1408x1024 .f32)
    (r : Fin 1408) (l : Fin 1024) :
    k0_pay3 x y s (ix2 r l) = s (ix2 r l) + k0_pay1 x y (ix2 r l) := by
  unfold k0_pay3
  rw [shapeCast_self]
  rfl

/-- The half of what the scratch holds. -/
theorem halved_apply (s : Vec Ideal S1408x1024 .f32) (r : Fin 1408) (l : Fin 1024) :
    k0_pay4 s (ix2 r l) = s (ix2 r l) * ((2⁻¹ : ℝ) : EReal) := by
  unfold k0_pay4
  pointwise [half]

/-! ### What a grid point leaves -/

section Points
variable (c : Dev nD) (i : grid0.Coords) (arg3 : Memref sig .tc .vmem S1024x1408 .bf16) (h3 : arg3.IsWhole)
  (arg4 : Memref sig .tc .vmem S1024x1024 .f32) (h4 : arg4.IsWhole) (arg5 : Memref sig .tc .vmem S1408x1024 .f32)
  (h5 : arg5.IsWhole) (arg6 : Memref sig .tc .vmem S1408x1024 .f32) (h6 : arg6.IsWhole)
  (x : Vec Ideal S1024x1408 .bf16) (y : Vec Ideal S1024x1024 .f32) (s : Vec Ideal S1408x1024 .f32)

theorem first_scratch (c0 : cond0_0 i) (c1 : ¬cond0_1 i) (c2 : ¬cond0_2 i) :
    sout0_A_0 c i arg3 h3 arg4 h4 arg5 h5 arg6 h6 c0 c1 c2 x y = k0_pay2 x y := by
  unfold sout0_A_0
  rw [View.read_writes_eq_canon _ _ _ (scover0_A_0 c i arg3 h3 arg4 h4 arg5 h5 arg6 h6 c0 c1 c2 x y)]
  unfold kernelRun0_A
  dsimp only
  rw [View.canon_unit_zero zero_offsets]
  simp only [View.readAt_eq_ld, h3.read_unread, h4.read_unread, loaded_left, loaded_right]

theorem middle_scratch (c0 : ¬cond0_0 i) (c1 : cond0_1 i) (c2 : ¬cond0_2 i) :
    sout0_B_0 c i arg3 h3 arg4 h4 arg5 h5 arg6 h6 c0 c1 c2 x y s = k0_pay3 x y s := by
  unfold sout0_B_0
  rw [View.read_writes_eq_canon _ _ _ (scover0_B_0 c i arg3 h3 arg4 h4 arg5 h5 arg6 h6 c0 c1 c2 x y s)]
  unfold kernelRun0_B
  dsimp only
  rw [View.canon_unit_zero zero_offsets]
  simp only [View.readAt_eq_ld, h3.read_unread, h4.read_unread, h6.read_unread, loaded_left, loaded_right, loaded_sum]

theorem last_scratch (c0 : ¬cond0_0 i) (c1 : cond0_1 i) (c2 : cond0_2 i) :
    sout0_C_0 c i arg3 h3 arg4 h4 arg5 h5 arg6 h6 c0 c1 c2 x y s = k0_pay3 x y s := by
  unfold sout0_C_0
  rw [View.read_writes_eq_canon _ _ _ (scover0_C_0 c i arg3 h3 arg4 h4 arg5 h5 arg6 h6 c0 c1 c2 x y s)]
  unfold kernelRun0_C
  dsimp only
  sl_unfold_words
  rw [View.canon_unit_zero zero_offsets]
  simp only [View.readAt_eq_ld, h3.read_unread, h4.read_unread, h6.read_unread, loaded_left, loaded_right, loaded_sum]

theorem last_output (c0 : ¬cond0_0 i) (c1 : cond0_1 i) (c2 : cond0_2 i) :
    out0_C_2 c i arg3 h3 arg4 h4 arg5 h5 arg6 h6 c0 c1 c2 x y s = k0_pay4 (k0_pay3 x y s) := by
  unfold out0_C_2
  rw [View.read_writes_eq_canon _ _ _ (cover0_C_2 c i arg3 h3 arg4 h4 arg5 h5 arg6 h6 c0 c1 c2 x y s)]
  unfold kernelRun0_C
  dsimp only
  sl_unfold_words
  rw [View.canon_unit_zero zero_offsets, View.readCov_unit_zero (S := S1408x1024) _ zero_offsets]
  simp only [View.readAt_eq_ld, h3.read_unread, h4.read_unread, h6.read_unread, loaded_left, loaded_right, loaded_sum, shapeCast_self]

end Points

/-! ### The blocks a grid point reads -/

theorem index_left : ∀ t : Fin grid0.N, win0_0.index t 0 = t.val % 16 ∧ win0_0.index t 1 = t.val / 16 := by decide +kernel
theorem index_right : ∀ t : Fin grid0.N, win0_1.index t 0 = t.val % 16 ∧ win0_1.index t 1 = 0 := by decide +kernel

variable (m : (ℓ : Loc nD τ sig) → Buf (Elt Ideal) ℓ) (c : Dev nD) (t : Fin cfg0.N)

theorem left_at (q : Fin 1024) (r : Fin 1408) (k : Fin 16384) (ρ : Fin 2816) (hk : k.val = 1024 * (t.val % 16) + q.val)
    (hρ : ρ.val = 1408 * (t.val / 16) + r.val) :
    iblk m c 0 t (ix2 q r) = m ((c : Thread nD τ).loc main_arg0) (ix2 k ρ) := by
  refine (congrArg (V m c main_arg0) ?_).trans (congrFun (V_main_arg0 m c) _)
  obtain ⟨e0, e1⟩ := index_left t
  funext a
  apply Fin.ext
  match a with
  | ⟨0, _⟩ => show win0_0.index t 0 * 1024 + 1 * q.val = k.val; omega
  | ⟨1, _⟩ => show win0_0.index t 1 * 1408 + 1 * r.val = ρ.val; omega

theorem right_at (q : Fin 1024) (k : Fin 16384) (γ : Fin 1024) (hk : k.val = 1024 * (t.val % 16) + q.val) :
    iblk m c 1 t (ix2 q γ) = m ((c : Thread nD τ).loc main_arg1) (ix2 k γ) := by
  refine (congrArg (V m c main_arg1) ?_).trans (congrFun (V_main_arg1 m c) _)
  obtain ⟨e0, e1⟩ := index_right t
  funext a
  apply Fin.ext
  match a with
  | ⟨0, _⟩ => show win0_1.index t 0 * 1024 + 1 * q.val = k.val; omega
  | ⟨1, _⟩ => show win0_1.index t 1 * 1024 + 1 * γ.val = γ.val; omega

/-! ### The sum over the tokens -/

/-- The terms of one entry of the gradient, token by token. -/
def terms (A : Vec Ideal S16384x2816 .bf16) (B : Vec Ideal S16384x1024 .f32) (ρ : Fin 2816) (γ : Fin 1024) :
    Fin 16384 → EReal := fun k => A (ix2 k ρ) * B (ix2 k γ)

/-- The terms of the entry, of the arrays as launched. -/
abbrev launched (ρ : Fin 2816) (γ : Fin 1024) : Fin 16384 → EReal :=
  terms (m ((c : Thread nD τ).loc main_arg0)) (m ((c : Thread nD τ).loc main_arg1)) ρ γ

variable {r : Fin 1408} {ρ : Fin 2816} {γ : Fin 1024}

/-- One block's product is the block's part of the sum. -/
theorem block_sum (hρ : ρ.val = 1408 * (t.val / 16) + r.val) :
    k0_pay1 (iblk m c 0 t) (iblk m c 1 t) (ix2 r γ)
      = ∑ q : Fin 1024, launched m c ρ γ ⟨1024 * (t.val % 16) + q.val, by omega⟩ :=
  (product_apply _ _ r γ).trans <| Finset.sum_congr rfl fun q _ => congrArg₂ (fun u v : EReal => u * v)
    (left_at m c t q r ⟨1024 * (t.val % 16) + q.val, by omega⟩ ρ rfl hρ)
    (right_at m c t q ⟨1024 * (t.val % 16) + q.val, by omega⟩ γ rfl)

/-- At a run's first point. -/
theorem started (h : t.val % 16 = 0) (hρ : ρ.val = 1408 * (t.val / 16) + r.val) :
    (outsAt0 m c t.val t.isLt).2 (ix2 r γ) = Blocked.partialSum (launched m c ρ γ) (1024 * (t.val % 16 + 1)) := by
  rw [outsAt0_A m c t h (by omega) (by omega)]
  dsimp only
  rw [first_scratch, start_apply, block_sum m c t hρ, show 1024 * (t.val % 16 + 1) = 1024 from by omega]
  refine Eq.trans ?_ (Blocked.partialSum_first (launched m c ρ γ) 1024 (by omega)).symm
  exact Finset.sum_congr rfl fun q _ => congrArg _ (Fin.ext (by show 1024 * (t.val % 16) + q.val = q.val; omega))

/-- At a later point, over what the point before left. -/
theorem continued (hρ : ρ.val = 1408 * (t.val / 16) + r.val)
    (s : Vec Ideal S1408x1024 .f32) (hs : s (ix2 r γ) = Blocked.partialSum (launched m c ρ γ) (1024 * (t.val % 16))) :
    k0_pay3 (iblk m c 0 t) (iblk m c 1 t) s (ix2 r γ) = Blocked.partialSum (launched m c ρ γ) (1024 * (t.val % 16 + 1)) := by
  rw [add_apply, hs, block_sum m c t hρ]
  exact (Blocked.partialSum_add (launched m c ρ γ) (1024 * (t.val % 16)) 1024 (by omega)).symm

/-- What the scratch block holds after each point. -/
theorem scratch_at : ∀ (n : ℕ) (hn : n < cfg0.N), ρ.val = 1408 * (n / 16) + r.val →
    (outsAt0 m c n hn).2 (ix2 r γ) = Blocked.partialSum (launched m c ρ γ) (1024 * (n % 16 + 1)) := by
  intro n
  induction n with
  | zero => exact fun hn hρ => started m c ⟨0, hn⟩ rfl hρ
  | succ n ih =>
    intro hn hρ
    by_cases h0 : (n + 1) % 16 = 0
    · exact started m c ⟨n + 1, hn⟩ h0 hρ
    · have e := ih (Nat.lt_of_succ_lt hn) (by omega)
      rw [show n % 16 + 1 = (n + 1) % 16 from by omega] at e
      by_cases h2 : (n + 1) % 16 = 15
      · rw [outsAt0_C m c ⟨n + 1, hn⟩ h0 (by show 1 ≤ (n + 1) % 16; omega) h2]
        dsimp only
        rw [last_scratch]
        exact continued m c ⟨n + 1, hn⟩ hρ _ e
      · rw [outsAt0_B m c ⟨n + 1, hn⟩ h0 (by show 1 ≤ (n + 1) % 16; omega) h2]
        dsimp only
        rw [middle_scratch]
        exact continued m c ⟨n + 1, hn⟩ hρ _ e

/-- What the last point of a run stores: half the whole sum. -/
theorem stored (n : ℕ) (hn : n < cfg0.N) (h : n % 16 = 15) (hρ : ρ.val = 1408 * (n / 16) + r.val) :
    (outsAt0 m c n hn).1 (ix2 r γ) = (∑ k, launched m c ρ γ k) * ((2⁻¹ : ℝ) : EReal) := by
  have e := scratch_at m c (γ := γ) n hn hρ
  rw [outsAt0_C m c ⟨n, hn⟩ (by show ¬n % 16 = 0; omega) (by show 1 ≤ n % 16; omega) h] at e ⊢
  dsimp only at e ⊢
  rw [last_scratch] at e
  rw [last_output, halved_apply, e, h]
  exact congrArg (fun u : EReal => u * ((2⁻¹ : ℝ) : EReal)) (Blocked.partialSum_all (launched m c ρ γ))

/-- The gradient's array after the run. -/
theorem array_at (ρ : Fin 2816) (γ : Fin 1024) :
    Value.G2 m c (ix2 ρ γ) = (∑ k, launched m c ρ γ k) * ((2⁻¹ : ℝ) : EReal) := by
  have hN : cfg0.N = 32 := N_0
  have hρ := ρ.isLt
  have hγ := γ.isLt
  have hp : Value.pt2Of (ix2 ρ γ) = 16 * (ρ.val / 1408) + 15 := by
    show 16 * (1 * (ρ.val / 1408 - 0) + 1 * (γ.val / 1024 - 0)) + 15 = _
    omega
  have hl : Value.loc2Of (ix2 ρ γ) = ix2 ⟨ρ.val % 1408, Nat.mod_lt _ (by decide)⟩ γ := by
    funext a
    match a with
    | ⟨0, _⟩ => rfl
    | ⟨1, _⟩ => exact Fin.ext (by show γ.val % 1024 = γ.val; omega)
  have hlt : Value.pt2Of (ix2 ρ γ) < cfg0.N := by rw [hp, hN]; omega
  unfold Value.G2
  rw [dif_pos hlt, ← Value.outsAt0_sweep m c _ hlt, hl]
  exact stored m c _ _ (by omega) (by rw [hp]; show ρ.val = _ + ρ.val % 1408; omega)

/-! ### The reference -/

open Cert.Reference5Ideal.Read in
/-- The reference's gradient: the half goes inside the sum. -/
theorem reference_at (A : Vec Ideal S16384x2816 .bf16) (B : Vec Ideal S16384x1024 .f32) (ρ : Fin 2816) (γ : Fin 1024) :
    val_main_v8 A B (ix2 ρ γ) = (∑ k, terms A B ρ γ k) * ((2⁻¹ : ℝ) : EReal) := by
  rw [val_main_v8_apply, val_main_v7_apply, Blocked.sum_mul_of_pos _ _ _ (by norm_num)]
  refine Finset.sum_congr rfl fun k _ => ?_
  rw [val_main_v6_apply, val_main_v5_apply, val_main_cst_1_apply, val_main_v1_apply]
  have ea : A (ridx_main_v7 (idx_main_v8 (ix2 ρ γ)) k) = A (ix2 k ρ) := congrArg A (funext fun a => by fin_cases a <;> rfl)
  have eb : B (lidx_main_v7 (idx_main_v8 (ix2 ρ γ)) k) = B (ix2 k γ) := congrArg B (funext fun a => by fin_cases a <;> rfl)
  show (Ideal.ofBits FTy.f32 0x3F000000#32 * B (lidx_main_v7 (idx_main_v8 (ix2 ρ γ)) k) : EReal)
    * A (ridx_main_v7 (idx_main_v8 (ix2 ρ γ)) k) = A (ix2 k ρ) * B (ix2 k γ) * ((2⁻¹ : ℝ) : EReal)
  rw [ea, eb, half]
  show (((2⁻¹ : ℝ) : EReal) * (B (ix2 k γ) : EReal)) * (A (ix2 k ρ) : EReal) = _
  rw [mul_comm (((2⁻¹ : ℝ) : EReal) * _), mul_comm ((2⁻¹ : ℝ) : EReal), ← mul_assoc]

end DownGrad
-- ==== Proof.BackMath.lean ====
/-
  The gradients of the feed-forward branch of one token: the kernel's formulas, the formulas that differentiating the plain
  branch gives, and their equality on real numbers.
-/
module

public import proofs.«01_k».proof.Proof.RowMath
public import Idealize.ShloMosaic.Lib.ValueIdx
public import Idealize.ShloMosaic.Lib.Pointwise

@[expose] public section

noncomputable section

namespace FeedForward

open Idealize.ShloMosaic

/-- A row of a table, and a table as a function of row and column. -/
abbrev row {n p : ℕ} (x : (⟨2, ![n, p]⟩ : Shape).Idx → EReal) (r : Fin n) : Fin p → EReal := fun k => x (ix2 r k)
abbrev table {n p : ℕ} (w : (⟨2, ![n, p]⟩ : Shape).Idx → EReal) : Fin n → Fin p → EReal := fun k j => w (ix2 k j)

/-! ### The kernel's formulas -/

/-- The gradient of the gated activation. -/
def backAct (d : Fin 1024 → EReal) (wd : Fin 2816 → Fin 1024 → EReal) (j : Fin 2816) : EReal :=
  ∑ k, Ideal.ofBits FTy.f32 0x3F000000#32 * d k * wd j k

/-- The gradients of the gate's product and of the up-projection's, from the activation's `b`. -/
def gateBack (b a u : EReal) : EReal := b * u * (Ideal.logistic a * (1 + a * (1 - Ideal.logistic a)))
def upBack (b a : EReal) : EReal := b * (a * Ideal.logistic a)

/-- The gradient of the normalised row. -/
def normBack (da du : Fin 2816 → EReal) (wg wu : Fin 1024 → Fin 2816 → EReal) (k : Fin 1024) : EReal :=
  ∑ j, da j * wg k j + ∑ j, du j * wu k j

/-- The gradients along a row, from the row's cotangent `d`, its gate's products `a` and its up-projections `u`. -/
def gateGrad (d : Fin 1024 → EReal) (a u : Fin 2816 → EReal) (wd : Fin 2816 → Fin 1024 → EReal) (j : Fin 2816) : EReal :=
  gateBack (backAct d wd j) (a j) (u j)
def upGrad (d : Fin 1024 → EReal) (a : Fin 2816 → EReal) (wd : Fin 2816 → Fin 1024 → EReal) (j : Fin 2816) : EReal :=
  upBack (backAct d wd j) (a j)
def normGrad (d : Fin 1024 → EReal) (a u : Fin 2816 → EReal) (wg wu : Fin 1024 → Fin 2816 → EReal)
    (wd : Fin 2816 → Fin 1024 → EReal) : Fin 1024 → EReal := normBack (gateGrad d a u wd) (upGrad d a wd) wg wu

/-- The gradient of the row, from its own cotangent `d` and the normalised row's `e`. -/
def rowBack (x g d e : Fin 1024 → EReal) (k : Fin 1024) : EReal :=
  d k + scale x * (e k * g k
    - x k * scale x * Ideal.div (∑ q, e q * g q * (x q * scale x)) (Ideal.ofBits FTy.f32 0x44800000#32))

/-- A token's term of the gain's gradient. -/
def gainBack (x e : Fin 1024 → EReal) (k : Fin 1024) : EReal := e k * (x k * scale x)

/-! ### What differentiating the plain branch gives -/

/-- The mean of a row's squares, and the small number added. -/
def meanSquare (x : Fin 1024 → EReal) : EReal :=
  Ideal.div (∑ k, x k * x k) (Ideal.ofBits FTy.f32 0x44800000#32) + Ideal.ofBits FTy.f32 0x358637BD#32

def plainGateBack (b a u : EReal) : EReal :=
  b * u * Ideal.logistic a + a * (b * u) * (Ideal.logistic a * (1 - Ideal.logistic a))

/-- The gradient through the mean of the squares. -/
def meanBack (x g e : Fin 1024 → EReal) : EReal :=
  Ideal.div ((∑ q, x q * (e q * g q)) * (Ideal.ofBits FTy.f32 0xBF000000#32 * Ideal.div (scale x) (meanSquare x)))
    (Ideal.ofBits FTy.f32 0x44800000#32)

def plainRowBack (x g d e : Fin 1024 → EReal) (k : Fin 1024) : EReal :=
  d k + e k * g k * scale x + x k * meanBack x g e + meanBack x g e * x k

/-! ### Real numbers -/

/-- The value is a real number. -/
def IsReal (x : EReal) : Prop := ∃ r : ℝ, x = r

namespace IsReal

theorem mul {x y : EReal} : IsReal x → IsReal y → IsReal (x * y)
  | ⟨r, hr⟩, ⟨s, hs⟩ => ⟨r * s, by rw [hr, hs, EReal.coe_mul]⟩

theorem add {x y : EReal} : IsReal x → IsReal y → IsReal (x + y)
  | ⟨r, hr⟩, ⟨s, hs⟩ => ⟨r + s, by rw [hr, hs, EReal.coe_add]⟩

theorem sub {x y : EReal} : IsReal x → IsReal y → IsReal (x - y)
  | ⟨r, hr⟩, ⟨s, hs⟩ => ⟨r - s, by rw [hr, hs, EReal.coe_sub]⟩

theorem sum {ι : Type} (s : Finset ι) {f : ι → EReal} (h : ∀ i, IsReal (f i)) : IsReal (∑ i ∈ s, f i) := by
  classical
  induction s using Finset.induction_on with
  | empty => exact ⟨0, by simp⟩
  | insert i s hi ih =>
    rw [Finset.sum_insert hi]
    exact (h i).add ih

end IsReal

theorem half_word : Ideal.ofBits FTy.f32 0x3F000000#32 = ((2⁻¹ : ℝ) : EReal) := by
  simp [Ideal.ofBits, Ideal.ieee]
  rw [← EReal.coe_mul]
  norm_num

theorem minus_half_word : Ideal.ofBits FTy.f32 0xBF000000#32 = ((-2⁻¹ : ℝ) : EReal) := by
  simp [Ideal.ofBits, Ideal.ieee]
  rw [← EReal.coe_mul]
  norm_num

theorem width_word : Ideal.ofBits FTy.f32 0x44800000#32 = ((1024 : ℝ) : EReal) := by
  simp [Ideal.ofBits, Ideal.ieee]
  try rw [← EReal.coe_mul]
  try norm_num

theorem small_word : ∃ ε : ℝ, 0 < ε ∧ Ideal.ofBits FTy.f32 0x358637BD#32 = (ε : EReal) := by
  refine ⟨8796093 * 2 ^ (-43 : ℤ), by positivity, ?_⟩
  simp [Ideal.ofBits, Ideal.ieee]

/-- The sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- On a real row the mean of the squares is a positive real and the factor its inverse square root. -/
theorem scale_real (X : Fin 1024 → ℝ) : ∃ μ : ℝ, 0 < μ ∧ meanSquare (fun k => X k) = (μ : EReal)
    ∧ scale (fun k => X k) = (((√μ)⁻¹ : ℝ) : EReal) := by
  obtain ⟨ε, hε, e⟩ := small_word
  have h : meanSquare (fun k => X k) = (((∑ k, X k * X k) * (1 / 1024) + ε : ℝ) : EReal) := by
    unfold meanSquare
    rw [width_word, e, Ideal.div_coe (by norm_num), EReal.coe_add, EReal.coe_mul, ← coe_sum]
    simp only [EReal.coe_mul]
  have hμ : 0 < (∑ k, X k * X k) * (1 / 1024) + ε := by
    have : 0 ≤ ∑ k, X k * X k := Finset.sum_nonneg fun k _ => mul_self_nonneg _
    positivity
  refine ⟨_, hμ, h, ?_⟩
  show Ideal.rsqrt (meanSquare fun k => X k) = _
  rw [h, Ideal.rsqrt_coe, if_neg (not_lt.2 hμ.le), if_neg hμ.ne']

theorem logistic_real (a : ℝ) : IsReal (Ideal.logistic a) := ⟨_, Ideal.logistic_coe a⟩

theorem gateBack_eq {b a u : EReal} (hb : IsReal b) (ha : IsReal a) (hu : IsReal u) :
    plainGateBack b a u = gateBack b a u := by
  obtain ⟨b, rfl⟩ := hb
  obtain ⟨a, rfl⟩ := ha
  obtain ⟨u, rfl⟩ := hu
  obtain ⟨s, hs⟩ := logistic_real a
  unfold plainGateBack gateBack
  rw [hs, ← EReal.coe_one]
  simp only [← EReal.coe_mul, ← EReal.coe_add, ← EReal.coe_sub]
  congr 1
  ring

theorem rowBack_eq {x g d e : Fin 1024 → EReal} (hx : ∀ k, IsReal (x k)) (hg : ∀ k, IsReal (g k)) (hd : ∀ k, IsReal (d k))
    (he : ∀ k, IsReal (e k)) (k : Fin 1024) : plainRowBack x g d e k = rowBack x g d e k := by
  choose X hX using hx
  choose G hG using hg
  choose D hD using hd
  choose E hE using he
  obtain rfl : x = fun k => (X k : EReal) := funext hX
  obtain rfl : g = fun k => (G k : EReal) := funext hG
  obtain rfl : d = fun k => (D k : EReal) := funext hD
  obtain rfl : e = fun k => (E k : EReal) := funext hE
  obtain ⟨μ, hμ, h1, h2⟩ := scale_real X
  unfold plainRowBack meanBack rowBack
  rw [h1, h2, minus_half_word, width_word]
  simp only [Ideal.div_coe hμ.ne', Ideal.div_coe (show (1024 : ℝ) ≠ 0 by norm_num), ← EReal.coe_mul, coe_sum, ← EReal.coe_add,
    ← EReal.coe_sub]
  congr 1
  have hs : 1 / μ = (√μ)⁻¹ * (√μ)⁻¹ := by
    rw [← mul_inv, Real.mul_self_sqrt hμ.le, one_div]
  have hp : ∑ q, E q * G q * (X q * (√μ)⁻¹) = (√μ)⁻¹ * ∑ q, X q * (E q * G q) := by
    rw [Finset.mul_sum]
    exact Finset.sum_congr rfl fun q _ => by ring
  rw [hp, hs]
  ring

end FeedForward
-- ==== Proof.BackPoint.lean ====
/-
  The feed-forward branch backward: what a grid point of the kernel computes for its 256 tokens.
-/
module

public import proofs.«01_k».proof.Proof.Gen.Kernel2Ideal.Value
public import proofs.«01_k».proof.Proof.BackMath
public import Idealize.ShloMosaic.Lib.Pointwise
public import Idealize.ShloMosaic.Lib.ValueIdx

@[expose] public section

set_option maxRecDepth 16384

noncomputable section

namespace Backward

open Idealize.ShloMosaic Idealize.ShloMosaic.TcCoe Idealize.SL.Sem Cert.Kernel2Ideal Cert.Kernel2Ideal.Gen FeedForward

/-! ### The body's values at an index -/

section Body
variable (x d : Vec Ideal S256x1024 .f32) (g : Vec Ideal S1x1024 .f32) (a a' u u' : Vec Ideal S256x1408 .bf16)
  (b b' : FVec Ideal S256x1408 .f32) (w w' : Vec Ideal S1408x1024 .bf16) (p p' q q' : Vec Ideal S1024x1408 .bf16) (r : Fin 256)

theorem normed_apply (k : Fin 1024) : k0_pay4 x g (ix2 r k) = normed (row x r) (row g 0) k := by
  unfold k0_pay4
  pointwise
  rfl

theorem back_first (j : Fin 1408) : k0_pay9 d w (ix2 r j)
    = ∑ k : Fin 1024, Ideal.ofBits FTy.f32 0x3F000000#32 * d (ix2 r k) * w (ix2 j k) := by
  unfold k0_pay9 k0_pay5
  pointwise

theorem back_second (j : Fin 1408) : k0_pay20 (k0_pay5 d) w (ix2 r j)
    = ∑ k : Fin 1024, Ideal.ofBits FTy.f32 0x3F000000#32 * d (ix2 r k) * w (ix2 j k) := by
  unfold k0_pay20 k0_pay5
  pointwise

theorem act_first (j : Fin 1408) : k0_pay14 (k0_pay7 a) (k0_pay8 u) (k0_pay10 a) k0_pay11 (ix2 r j)
    = gated (a (ix2 r j)) (u (ix2 r j)) := by
  unfold k0_pay14 k0_pay13 k0_pay12 k0_pay10 k0_pay11 k0_pay8 k0_pay7
  pointwise
  simp only [zero_sub]
  rfl

theorem act_second (j : Fin 1408) : k0_pay24 (k0_pay18 a) (k0_pay19 u) (k0_pay21 a) (ix2 r j)
    = gated (a (ix2 r j)) (u (ix2 r j)) := by
  unfold k0_pay24 k0_pay23 k0_pay22 k0_pay21 k0_pay19 k0_pay18
  pointwise
  simp only [zero_sub]
  rfl

theorem gate_first (j : Fin 1408) : k0_pay15 (k0_pay7 a) (k0_pay8 u) b (k0_pay10 a) k0_pay11 (ix2 r j)
    = gateBack (b (ix2 r j)) (a (ix2 r j)) (u (ix2 r j)) := by
  unfold k0_pay15 k0_pay12 k0_pay10 k0_pay11 k0_pay8 k0_pay7
  pointwise
  simp only [zero_sub]
  rfl

theorem gate_second (j : Fin 1408) : k0_pay25 (k0_pay18 a) (k0_pay19 u) b (k0_pay21 a) (ix2 r j)
    = gateBack (b (ix2 r j)) (a (ix2 r j)) (u (ix2 r j)) := by
  unfold k0_pay25 k0_pay22 k0_pay21 k0_pay19 k0_pay18
  pointwise
  simp only [zero_sub]
  rfl

theorem up_first (j : Fin 1408) : k0_pay16 (k0_pay7 a) b (k0_pay10 a) k0_pay11 (ix2 r j)
    = upBack (b (ix2 r j)) (a (ix2 r j)) := by
  unfold k0_pay16 k0_pay13 k0_pay12 k0_pay10 k0_pay11 k0_pay7
  pointwise
  simp only [zero_sub]
  rfl

theorem up_second (j : Fin 1408) : k0_pay26 (k0_pay18 a) b (k0_pay21 a) (ix2 r j)
    = upBack (b (ix2 r j)) (a (ix2 r j)) := by
  unfold k0_pay26 k0_pay23 k0_pay22 k0_pay21 k0_pay18
  pointwise
  simp only [zero_sub]
  rfl

/-- The normalised row's gradient after the first chunk of columns, and after the second. -/
theorem norm_first (k : Fin 1024) : k0_pay17 k0_pay6 (k0_pay7 a) (k0_pay8 u) b (k0_pay10 a) k0_pay11 p q (ix2 r k)
    = ∑ j : Fin 1408, gateBack (b (ix2 r j)) (a (ix2 r j)) (u (ix2 r j)) * p (ix2 k j)
      + ∑ j : Fin 1408, upBack (b (ix2 r j)) (a (ix2 r j)) * q (ix2 k j) := by
  have e : ∀ s t : FVec Ideal S256x1408 .bf16, k0_pay15 (k0_pay7 a) (k0_pay8 u) b (k0_pay10 a) k0_pay11 = s →
      k0_pay16 (k0_pay7 a) b (k0_pay10 a) k0_pay11 = t →
      k0_pay17 k0_pay6 (k0_pay7 a) (k0_pay8 u) b (k0_pay10 a) k0_pay11 p q (ix2 r k)
        = ∑ j : Fin 1408, s (ix2 r j) * p (ix2 k j) + ∑ j : Fin 1408, t (ix2 r j) * q (ix2 k j) := by
    intro s t hs ht
    unfold k0_pay17
    rw [hs, ht]
    unfold k0_pay6
    pointwise
  rw [e _ _ rfl rfl]
  simp only [gate_first, up_first]

theorem norm_second (z : FVec Ideal S256x1024 .f32) (k : Fin 1024) :
    k0_pay27 z (k0_pay18 a) (k0_pay19 u) b (k0_pay21 a) p q (ix2 r k)
      = z (ix2 r k) + ∑ j : Fin 1408, gateBack (b (ix2 r j)) (a (ix2 r j)) (u (ix2 r j)) * p (ix2 k j)
        + ∑ j : Fin 1408, upBack (b (ix2 r j)) (a (ix2 r j)) * q (ix2 k j) := by
  have e : ∀ s t : FVec Ideal S256x1408 .bf16, k0_pay25 (k0_pay18 a) (k0_pay19 u) b (k0_pay21 a) = s →
      k0_pay26 (k0_pay18 a) b (k0_pay21 a) = t →
      k0_pay27 z (k0_pay18 a) (k0_pay19 u) b (k0_pay21 a) p q (ix2 r k)
        = z (ix2 r k) + ∑ j : Fin 1408, s (ix2 r j) * p (ix2 k j) + ∑ j : Fin 1408, t (ix2 r j) * q (ix2 k j) := by
    intro s t hs ht
    unfold k0_pay27
    rw [hs, ht]
    pointwise
  rw [e _ _ rfl rfl]
  simp only [gate_second, up_second]

theorem row_apply (n : FVec Ideal S256x1024 .f32) (k : Fin 1024) :
    k0_pay1 d n (k0_pay28 x) (k0_pay29 x) (k0_pay30 g) (ix2 r k) = rowBack (row x r) (row g 0) (row d r) (row n r) k := by
  unfold k0_pay1 k0_pay30 k0_pay29 k0_pay28
  pointwise
  rfl

theorem gain_apply (n : FVec Ideal S256x1024 .f32) (s : Vec Ideal S1x1024 .f32) (k : Fin 1024) :
    k0_pay3 n (k0_pay29 x) s (ix2 0 k) = s (ix2 0 k) + ∑ r : Fin 256, gainBack (row x r) (row n r) k := by
  unfold k0_pay3 k0_pay29 k0_pay28
  pointwise
  rfl

theorem reset_apply (k : Fin 1024) : (k0_pay2 : FVec Ideal S1x1024 .f32) (ix2 0 k) = 0 := by
  unfold k0_pay2
  pointwise

end Body

/-! ### The chunks a grid point loads -/

section Chunks
variable (a : Vec Ideal S256x2816 .bf16) (p : Vec Ideal S1024x2816 .bf16) (w : Vec Ideal S2816x1024 .bf16)

theorem zero_offsets : (![0, 0] : Fin 2 → Nat) = fun _ => 0 := funext fun a => by fin_cases a <;> rfl

theorem whole_rows (x : Vec Ideal S256x1024 .f32) (h) : View.ld x (Rect.unit ![0, 0] ![256, 1024] h) = x :=
  View.ld_unit_zero (S := S256x1024) zero_offsets h x
theorem whole_gain (g : Vec Ideal S1x1024 .f32) (h) : View.ld g (Rect.unit ![0, 0] ![1, 1024] h) = g :=
  View.ld_unit_zero (S := S1x1024) zero_offsets h g

abbrev low : Rect S256x2816 := Rect.unit ![0, 0] ![256, 1408] inb_S256x2816_S256x1408_0_0
abbrev high : Rect S256x2816 := Rect.unit ![0, 1408] ![256, 1408] inb_S256x2816_S256x1408_0_1408
abbrev lowColumns : Rect S1024x2816 := Rect.unit ![0, 0] ![1024, 1408] inb_S1024x2816_S1024x1408_0_0
abbrev highColumns : Rect S1024x2816 := Rect.unit ![0, 1408] ![1024, 1408] inb_S1024x2816_S1024x1408_0_1408
abbrev lowRows : Rect S2816x1024 := Rect.unit ![0, 0] ![1408, 1024] inb_S2816x1024_S1408x1024_0_0
abbrev highRows : Rect S2816x1024 := Rect.unit ![1408, 0] ![1408, 1024] inb_S2816x1024_S1408x1024_1408_0

/-- The columns of the first chunk and of the second. -/
abbrev first (j : Fin 1408) : Fin 2816 := ⟨j, by omega⟩
abbrev second (j : Fin 1408) : Fin 2816 := ⟨1408 + j, by omega⟩

theorem low_place (r : Fin 256) (j : Fin 1408) : low.emb (ix2 r j) = ix2 r (first j) := by
  refine funext fun a => Fin.ext ?_
  match a with
  | ⟨0, _⟩ => show 0 + 1 * r.val = r.val; omega
  | ⟨1, _⟩ => show 0 + 1 * j.val = j.val; omega

theorem high_place (r : Fin 256) (j : Fin 1408) : high.emb (ix2 r j) = ix2 r (second j) := by
  refine funext fun a => Fin.ext ?_
  match a with
  | ⟨0, _⟩ => show 0 + 1 * r.val = r.val; omega
  | ⟨1, _⟩ => show 1408 + 1 * j.val = 1408 + j.val; omega

theorem low_at (r : Fin 256) (j : Fin 1408) : View.ld a low (ix2 r j) = a (ix2 r (first j)) := congrArg a (low_place r j)
theorem high_at (r : Fin 256) (j : Fin 1408) : View.ld a high (ix2 r j) = a (ix2 r (second j)) := congrArg a (high_place r j)

theorem lowColumns_at (k : Fin 1024) (j : Fin 1408) : View.ld p lowColumns (ix2 k j) = p (ix2 k (first j)) := by
  refine congrArg p (funext fun a => Fin.ext ?_)
  match a with
  | ⟨0, _⟩ => show 0 + 1 * k.val = k.val; omega
  | ⟨1, _⟩ => show 0 + 1 * j.val = j.val; omega

theorem highColumns_at (k : Fin 1024) (j : Fin 1408) : View.ld p highColumns (ix2 k j) = p (ix2 k (second j)) := by
  refine congrArg p (funext fun a => Fin.ext ?_)
  match a with
  | ⟨0, _⟩ => show 0 + 1 * k.val = k.val; omega
  | ⟨1, _⟩ => show 1408 + 1 * j.val = 1408 + j.val; omega

theorem lowRows_at (j : Fin 1408) (k : Fin 1024) : View.ld w lowRows (ix2 j k) = w (ix2 (first j) k) := by
  refine congrArg w (funext fun a => Fin.ext ?_)
  match a with
  | ⟨0, _⟩ => show 0 + 1 * j.val = j.val; omega
  | ⟨1, _⟩ => show 0 + 1 * k.val = k.val; omega

theorem highRows_at (j : Fin 1408) (k : Fin 1024) : View.ld w highRows (ix2 j k) = w (ix2 (second j) k) := by
  refine congrArg w (funext fun a => Fin.ext ?_)
  match a with
  | ⟨0, _⟩ => show 1408 + 1 * j.val = 1408 + j.val; omega
  | ⟨1, _⟩ => show 0 + 1 * k.val = k.val; omega

/-- An index of a wide block is its row and its column. -/
theorem wide_idx (y : S256x1408.Idx) : y = ix2 (y 0) (y 1) := by
  funext a
  fin_cases a <;> rfl

/-- Two chunks of columns that agree with `Y` leave `Y`. -/
theorem two_chunks (Y : S256x2816.Idx → EReal) (s t : Vec Ideal S256x1408 .bf16)
    (hs : ∀ (r : Fin 256) (j : Fin 1408), s (ix2 r j) = Y (ix2 r (second j)))
    (ht : ∀ (r : Fin 256) (j : Fin 1408), t (ix2 r j) = Y (ix2 r (first j))) (r : Fin 256) (j : Fin 2816) :
    View.canon (Val := Elt Ideal) (e := .bf16) [⟨high, s⟩, ⟨low, t⟩] (ix2 r j) = Y (ix2 r j) := by
  refine View.canon_apply_of_pieces (S := S256x2816) (Val := Elt Ideal) (e := .bf16) Y _ ?_ (ix2 r j) ?_
  · intro c hc y
    simp only [List.mem_cons, List.not_mem_nil, or_false] at hc
    rcases hc with rfl | rfl
    · obtain ⟨r, j, rfl⟩ : ∃ (r : Fin 256) (j : Fin 1408), y = ix2 r j := ⟨y 0, y 1, wide_idx y⟩
      exact (hs r j).trans (congrArg Y (high_place r j).symm)
    · obtain ⟨r, j, rfl⟩ : ∃ (r : Fin 256) (j : Fin 1408), y = ix2 r j := ⟨y 0, y 1, wide_idx y⟩
      exact (ht r j).trans (congrArg Y (low_place r j).symm)
  · by_cases hj : j.val < 1408
    · refine ⟨⟨low, t⟩, by simp, ?_⟩
      show ix2 r j ∈ low.set
      rw [Rect.mem_set_unit]
      intro a
      match a with
      | ⟨0, _⟩ => exact ⟨Nat.zero_le _, by show r.val < 0 + 256; omega⟩
      | ⟨1, _⟩ => exact ⟨Nat.zero_le _, by show j.val < 0 + 1408; omega⟩
    · refine ⟨⟨high, s⟩, by simp, ?_⟩
      show ix2 r j ∈ high.set
      rw [Rect.mem_set_unit]
      intro a
      match a with
      | ⟨0, _⟩ => exact ⟨Nat.zero_le _, by show r.val < 0 + 256; omega⟩
      | ⟨1, _⟩ => exact ⟨by show 1408 ≤ j.val; omega, by show j.val < 1408 + 1408; omega⟩

end Chunks

/-! ### The blocks a grid point leaves, from the blocks it reads -/

section Blocks
variable (x d : Vec Ideal S256x1024 .f32) (g : Vec Ideal S1x1024 .f32) (a u : Vec Ideal S256x2816 .bf16)
  (wg wu : Vec Ideal S1024x2816 .bf16) (wd : Vec Ideal S2816x1024 .bf16)

/-- The normalised rows' gradient. -/
def normBlock : FVec Ideal S256x1024 .f32 :=
  k0_pay27
    (k0_pay17 k0_pay6 (k0_pay7 (View.ld a low)) (k0_pay8 (View.ld u low)) (k0_pay9 d (View.ld wd lowRows))
      (k0_pay10 (View.ld a low)) k0_pay11 (View.ld wg lowColumns) (View.ld wu lowColumns))
    (k0_pay18 (View.ld a high)) (k0_pay19 (View.ld u high)) (k0_pay20 (k0_pay5 d) (View.ld wd highRows))
    (k0_pay21 (View.ld a high)) (View.ld wg highColumns) (View.ld wu highColumns)

/-- The rows' gradient. -/
def rowBlock : FVec Ideal S256x1024 .f32 := k0_pay1 d (normBlock d a u wg wu wd) (k0_pay28 x) (k0_pay29 x) (k0_pay30 g)

/-- The gain's gradient, added to `s`. -/
def gainBlock (s : Vec Ideal S1x1024 .f32) : FVec Ideal S1x1024 .f32 := k0_pay3 (normBlock d a u wg wu wd) (k0_pay29 x) s

/-- The activations, and the gradients of the gate's products and of the up-projections. -/
def actBlock : Vec Ideal S256x2816 .bf16 := View.canon (Val := Elt Ideal) (e := .bf16)
  [⟨high, k0_pay24 (k0_pay18 (View.ld a high)) (k0_pay19 (View.ld u high)) (k0_pay21 (View.ld a high))⟩,
    ⟨low, k0_pay14 (k0_pay7 (View.ld a low)) (k0_pay8 (View.ld u low)) (k0_pay10 (View.ld a low)) k0_pay11⟩]
def gateBlock : Vec Ideal S256x2816 .bf16 := View.canon (Val := Elt Ideal) (e := .bf16)
  [⟨high, k0_pay25 (k0_pay18 (View.ld a high)) (k0_pay19 (View.ld u high)) (k0_pay20 (k0_pay5 d) (View.ld wd highRows))
      (k0_pay21 (View.ld a high))⟩,
    ⟨low, k0_pay15 (k0_pay7 (View.ld a low)) (k0_pay8 (View.ld u low)) (k0_pay9 d (View.ld wd lowRows))
      (k0_pay10 (View.ld a low)) k0_pay11⟩]
def upBlock : Vec Ideal S256x2816 .bf16 := View.canon (Val := Elt Ideal) (e := .bf16)
  [⟨high, k0_pay26 (k0_pay18 (View.ld a high)) (k0_pay20 (k0_pay5 d) (View.ld wd highRows)) (k0_pay21 (View.ld a high))⟩,
    ⟨low, k0_pay16 (k0_pay7 (View.ld a low)) (k0_pay9 d (View.ld wd lowRows)) (k0_pay10 (View.ld a low)) k0_pay11⟩]

variable (r : Fin 256)

theorem backAct_first (j : Fin 1408) : k0_pay9 d (View.ld wd lowRows) (ix2 r j) = backAct (row d r) (table wd) (first j) := by
  rw [back_first]
  exact Finset.sum_congr rfl fun k _ => congrArg _ (lowRows_at wd j k)

theorem backAct_second (j : Fin 1408) :
    k0_pay20 (k0_pay5 d) (View.ld wd highRows) (ix2 r j) = backAct (row d r) (table wd) (second j) := by
  rw [back_second]
  exact Finset.sum_congr rfl fun k _ => congrArg _ (highRows_at wd j k)

theorem actBlock_at (j : Fin 2816) : actBlock a u (ix2 r j) = gated (a (ix2 r j)) (u (ix2 r j)) :=
  two_chunks (fun y => gated (a y) (u y)) _ _ (fun r j => by rw [act_second, high_at, high_at])
    (fun r j => by rw [act_first, low_at, low_at]) r j

theorem gateBlock_at (j : Fin 2816) : gateBlock d a u wd (ix2 r j) = gateGrad (row d r) (row a r) (row u r) (table wd) j :=
  two_chunks (fun y => gateGrad (row d (y 0)) (row a (y 0)) (row u (y 0)) (table wd) (y 1)) _ _
    (fun r j => by rw [gate_second, high_at, high_at, backAct_second]; rfl)
    (fun r j => by rw [gate_first, low_at, low_at, backAct_first]; rfl) r j

theorem upBlock_at (j : Fin 2816) : upBlock d a wd (ix2 r j) = upGrad (row d r) (row a r) (table wd) j :=
  two_chunks (fun y => upGrad (row d (y 0)) (row a (y 0)) (table wd) (y 1)) _ _
    (fun r j => by rw [up_second, high_at, backAct_second]; rfl)
    (fun r j => by rw [up_first, low_at, backAct_first]; rfl) r j

theorem normBlock_at (k : Fin 1024) : normBlock d a u wg wu wd (ix2 r k)
    = normGrad (row d r) (row a r) (row u r) (table wg) (table wu) (table wd) k := by
  unfold normBlock
  rw [norm_second, norm_first]
  unfold normGrad normBack
  rw [Blocked.sum_chunks, Blocked.sum_chunks, add_assoc, add_add_add_comm]
  refine congrArg₂ (fun s t : EReal => s + t)
    (congrArg₂ (fun s t : EReal => s + t) (Finset.sum_congr rfl fun j _ => ?_) (Finset.sum_congr rfl fun j _ => ?_))
    (congrArg₂ (fun s t : EReal => s + t) (Finset.sum_congr rfl fun j _ => ?_) (Finset.sum_congr rfl fun j _ => ?_))
  · rw [backAct_first, low_at, low_at, lowColumns_at]
    rfl
  · rw [backAct_second, high_at, high_at, highColumns_at]
    rfl
  · rw [backAct_first, low_at, lowColumns_at]
    rfl
  · rw [backAct_second, high_at, highColumns_at]
    rfl

theorem rowBlock_at (k : Fin 1024) : rowBlock x d g a u wg wu wd (ix2 r k) = rowBack (row x r) (row g 0) (row d r)
    (normGrad (row d r) (row a r) (row u r) (table wg) (table wu) (table wd)) k := by
  unfold rowBlock
  rw [row_apply]
  exact congrArg (fun n => rowBack (row x r) (row g 0) (row d r) n k) (funext fun k => normBlock_at d a u wg wu wd r k)

theorem gainBlock_at (s : Vec Ideal S1x1024 .f32) (k : Fin 1024) : gainBlock x d a u wg wu wd s (ix2 0 k)
    = s (ix2 0 k) + ∑ r : Fin 256, gainBack (row x r)
      (normGrad (row d r) (row a r) (row u r) (table wg) (table wu) (table wd)) k := by
  unfold gainBlock
  rw [gain_apply]
  exact congrArg _ (Finset.sum_congr rfl fun r _ => congrArg (fun n => gainBack (row x r) n k)
    (funext fun k => normBlock_at d a u wg wu wd r k))

end Blocks

end Backward
-- ==== Proof.BackRun.lean ====
/-
  The feed-forward branch backward: the six blocks a grid point leaves are those of `BackPoint`, of the blocks it reads.
-/
module

public import proofs.«01_k».proof.Proof.BackPoint

@[expose] public section

set_option maxRecDepth 16384

noncomputable section

namespace Backward

open Idealize.ShloMosaic Idealize.ShloMosaic.TcCoe Idealize.SL.Sem Cert.Kernel2Ideal Cert.Kernel2Ideal.Gen FeedForward

/-- The six blocks, where the gain's gradient so far is `s`. -/
def blocks (x : Vec Ideal S256x1024 .f32) (g : Vec Ideal S1x1024 .f32) (d : Vec Ideal S256x1024 .f32)
    (a u : Vec Ideal S256x2816 .bf16) (wg wu : Vec Ideal S1024x2816 .bf16) (wd : Vec Ideal S2816x1024 .bf16)
    (s : Vec Ideal S1x1024 .f32) :=
  (rowBlock x d g a u wg wu wd, gainBlock x d a u wg wu wd s, k0_pay4 x g, actBlock a u, gateBlock d a u wd, upBlock d a wd)

section Pieces
variable (c : Dev nD) (i : grid0.Coords) (arg1 : Memref sig .tc .vmem S256x1024 .f32) (h1 : arg1.IsWhole)
  (arg2 : Memref sig .tc .vmem S1x1024 .f32) (h2 : arg2.IsWhole) (arg3 : Memref sig .tc .vmem S256x1024 .f32)
  (h3 : arg3.IsWhole) (arg4 : Memref sig .tc .vmem S256x2816 .bf16) (h4 : arg4.IsWhole)
  (arg5 : Memref sig .tc .vmem S256x2816 .bf16) (h5 : arg5.IsWhole) (arg6 : Memref sig .tc .vmem S1024x2816 .bf16)
  (h6 : arg6.IsWhole) (arg7 : Memref sig .tc .vmem S1024x2816 .bf16) (h7 : arg7.IsWhole)
  (arg8 : Memref sig .tc .vmem S2816x1024 .bf16) (h8 : arg8.IsWhole) (arg9 : Memref sig .tc .vmem S256x1024 .f32)
  (h9 : arg9.IsWhole) (arg10 : Memref sig .tc .vmem S1x1024 .f32) (h10 : arg10.IsWhole)
  (arg11 : Memref sig .tc .vmem S256x1024 .bf16) (h11 : arg11.IsWhole) (arg12 : Memref sig .tc .vmem S256x2816 .bf16)
  (h12 : arg12.IsWhole) (arg13 : Memref sig .tc .vmem S256x2816 .bf16) (h13 : arg13.IsWhole)
  (arg14 : Memref sig .tc .vmem S256x2816 .bf16) (h14 : arg14.IsWhole)
  (x : Vec Ideal S256x1024 .f32) (g : Vec Ideal S1x1024 .f32) (d : Vec Ideal S256x1024 .f32) (a u : Vec Ideal S256x2816 .bf16)
  (wg wu : Vec Ideal S1024x2816 .bf16) (wd : Vec Ideal S2816x1024 .bf16) (s : Vec Ideal S1x1024 .f32)

theorem first_blocks (hc : cond0_0 i) :
    (out0_A_8 c i arg1 h1 arg2 h2 arg3 h3 arg4 h4 arg5 h5 arg6 h6 arg7 h7 arg8 h8 arg9 h9 arg10 h10 arg11 h11 arg12 h12 arg13 h13
        arg14 h14 hc x g d a u wg wu wd,
      out0_A_9 c i arg1 h1 arg2 h2 arg3 h3 arg4 h4 arg5 h5 arg6 h6 arg7 h7 arg8 h8 arg9 h9 arg10 h10 arg11 h11 arg12 h12 arg13 h13
        arg14 h14 hc x g d a u wg wu wd,
      out0_A_10 c i arg1 h1 arg2 h2 arg3 h3 arg4 h4 arg5 h5 arg6 h6 arg7 h7 arg8 h8 arg9 h9 arg10 h10 arg11 h11 arg12 h12 arg13 h13
        arg14 h14 hc x g d a u wg wu wd,
      out0_A_11 c i arg1 h1 arg2 h2 arg3 h3 arg4 h4 arg5 h5 arg6 h6 arg7 h7 arg8 h8 arg9 h9 arg10 h10 arg11 h11 arg12 h12 arg13 h13
        arg14 h14 hc x g d a u wg wu wd,
      out0_A_12 c i arg1 h1 arg2 h2 arg3 h3 arg4 h4 arg5 h5 arg6 h6 arg7 h7 arg8 h8 arg9 h9 arg10 h10 arg11 h11 arg12 h12 arg13 h13
        arg14 h14 hc x g d a u wg wu wd,
      out0_A_13 c i arg1 h1 arg2 h2 arg3 h3 arg4 h4 arg5 h5 arg6 h6 arg7 h7 arg8 h8 arg9 h9 arg10 h10 arg11 h11 arg12 h12 arg13 h13
        arg14 h14 hc x g d a u wg wu wd)
      = blocks x g d a u wg wu wd (k0_pay2 (F := Ideal)) := by
  refine congrArg₂ Prod.mk ?rows (congrArg₂ Prod.mk ?gain (congrArg₂ Prod.mk ?normed (congrArg₂ Prod.mk ?act
    (congrArg₂ Prod.mk ?gate ?up))))
  case' rows =>
    unfold out0_A_8
    rw [View.read_writes_eq_canon _ _ _ (fun _ => cover0_A_8 ..)]
  case' gain =>
    unfold out0_A_9
    rw [View.read_writes_eq_canon _ _ _ (fun _ => cover0_A_9 ..)]
  case' normed =>
    unfold out0_A_10
    rw [View.read_writes_eq_canon _ _ _ (fun _ => cover0_A_10 ..)]
  case' act =>
    unfold out0_A_11
    rw [View.read_writes_eq_canon _ _ _ (fun _ => cover0_A_11 ..)]
  case' gate =>
    unfold out0_A_12
    rw [View.read_writes_eq_canon _ _ _ (fun _ => cover0_A_12 ..)]
  case' up =>
    unfold out0_A_13
    rw [View.read_writes_eq_canon _ _ _ (fun _ => cover0_A_13 ..)]
  all_goals
    unfold kernelRun0_A
    dsimp only
    sl_unfold_words
    try rw [View.canon_unit_zero zero_offsets]
  case' gain => rw [View.canon_cons_unit_zero (S := S1x1024) zero_offsets, View.readCov_unit_zero (S := S1x1024) _ zero_offsets]
  all_goals
    simp only [View.readAt_eq_ld, h1.read_unread, h2.read_unread, h3.read_unread, h4.read_unread, h5.read_unread,
      h6.read_unread, h7.read_unread, h8.read_unread, whole_rows, whole_gain]
  all_goals rfl

theorem next_blocks (hc : ¬cond0_0 i) :
    (out0_B_8 c i arg1 h1 arg2 h2 arg3 h3 arg4 h4 arg5 h5 arg6 h6 arg7 h7 arg8 h8 arg9 h9 arg10 h10 arg11 h11 arg12 h12 arg13 h13
        arg14 h14 hc x g d a u wg wu wd s,
      out0_B_9 c i arg1 h1 arg2 h2 arg3 h3 arg4 h4 arg5 h5 arg6 h6 arg7 h7 arg8 h8 arg9 h9 arg10 h10 arg11 h11 arg12 h12 arg13 h13
        arg14 h14 hc x g d a u wg wu wd s,
      out0_B_10 c i arg1 h1 arg2 h2 arg3 h3 arg4 h4 arg5 h5 arg6 h6 arg7 h7 arg8 h8 arg9 h9 arg10 h10 arg11 h11 arg12 h12 arg13 h13
        arg14 h14 hc x g d a u wg wu wd s,
      out0_B_11 c i arg1 h1 arg2 h2 arg3 h3 arg4 h4 arg5 h5 arg6 h6 arg7 h7 arg8 h8 arg9 h9 arg10 h10 arg11 h11 arg12 h12 arg13 h13
        arg14 h14 hc x g d a u wg wu wd s,
      out0_B_12 c i arg1 h1 arg2 h2 arg3 h3 arg4 h4 arg5 h5 arg6 h6 arg7 h7 arg8 h8 arg9 h9 arg10 h10 arg11 h11 arg12 h12 arg13 h13
        arg14 h14 hc x g d a u wg wu wd s,
      out0_B_13 c i arg1 h1 arg2 h2 arg3 h3 arg4 h4 arg5 h5 arg6 h6 arg7 h7 arg8 h8 arg9 h9 arg10 h10 arg11 h11 arg12 h12 arg13 h13
        arg14 h14 hc x g d a u wg wu wd s)
      = blocks x g d a u wg wu wd s := by
  refine congrArg₂ Prod.mk ?rows (congrArg₂ Prod.mk ?gain (congrArg₂ Prod.mk ?normed (congrArg₂ Prod.mk ?act
    (congrArg₂ Prod.mk ?gate ?up))))
  case' rows =>
    unfold out0_B_8
    rw [View.read_writes_eq_canon _ _ _ (fun _ => cover0_B_8 ..)]
  case' gain =>
    unfold out0_B_9
    rw [View.read_writes_eq_canon _ _ _ (fun _ => cover0_B_9 ..)]
  case' normed =>
    unfold out0_B_10
    rw [View.read_writes_eq_canon _ _ _ (fun _ => cover0_B_10 ..)]
  case' act =>
    unfold out0_B_11
    rw [View.read_writes_eq_canon _ _ _ (fun _ => cover0_B_11 ..)]
  case' gate =>
    unfold out0_B_12
    rw [View.read_writes_eq_canon _ _ _ (fun _ => cover0_B_12 ..)]
  case' up =>
    unfold out0_B_13
    rw [View.read_writes_eq_canon _ _ _ (fun _ => cover0_B_13 ..)]
  all_goals
    unfold kernelRun0_B
    dsimp only
    sl_unfold_words
    try rw [View.canon_unit_zero zero_offsets]
  all_goals
    simp only [View.readAt_eq_ld, h1.read_unread, h2.read_unread, h3.read_unread, h4.read_unread, h5.read_unread,
      h6.read_unread, h7.read_unread, h8.read_unread, h10.read_unread, whole_rows, whole_gain]
  all_goals rfl

end Pieces

variable (m : (ℓ : Loc nD τ sig) → Buf (Elt Ideal) ℓ) (c : Dev nD) (t : Fin cfg0.N)

/-- The first point starts the gain's gradient at zero. -/
theorem first_point (h : t.val % 64 = 0) : outsAt0 m c t.val t.isLt = blocks (iblk m c 0 t) (iblk m c 1 t) (iblk m c 2 t)
    (iblk m c 3 t) (iblk m c 4 t) (iblk m c 5 t) (iblk m c 6 t) (iblk m c 7 t) (k0_pay2 (F := Ideal)) :=
  (outsAt0_A m c t h).trans (first_blocks ..)

/-- The others add to what the point before left. -/
theorem next_point (h : ¬t.val % 64 = 0) : outsAt0 m c t.val t.isLt = blocks (iblk m c 0 t) (iblk m c 1 t) (iblk m c 2 t)
    (iblk m c 3 t) (iblk m c 4 t) (iblk m c 5 t) (iblk m c 6 t) (iblk m c 7 t)
    (outsAt0 m c (t.val - 1) (Nat.lt_of_le_of_lt (Nat.sub_le _ _) t.isLt)).2.1 :=
  (outsAt0_B m c t h).trans (next_blocks ..)

end Backward
-- ==== Proof.BackReference.lean ====
/-
  The feed-forward branch backward: the reference's six results, token by token, as the formulas of `BackMath`, and their
  equality with the kernel's formulas where the inputs are real numbers.
-/
module

public import proofs.«01_k».proof.Proof.Gen.Reference2Ideal.Read
public import proofs.«01_k».proof.Proof.BackMath
public import Idealize.ShloMosaic.Lib.Pointwise
public import Idealize.ShloMosaic.Lib.ValueIdx

@[expose] public section

set_option maxRecDepth 16384

noncomputable section

namespace BackReference

open Idealize.ShloMosaic Cert.Reference2Ideal Cert.Reference2Ideal.Gen Cert.Reference2Ideal.Read FeedForward

section Stages
variable (x : Vec Ideal S16384x1024 .f32) (g : Vec Ideal S1x1024 .f32) (d : Vec Ideal S16384x1024 .f32)
  (wg wu : Vec Ideal S1024x2816 .bf16) (wd : Vec Ideal S2816x1024 .bf16) (i : Fin 16384)

/-! ### The normalised rows -/

theorem mean_at (z : Fin 1) : val_main_v9 (F := Ideal) x (ix2 i z) = meanSquare (row x i) := by
  unfold val_main_v9 val_main_v8 val_main_v7 val_main_v6 val_main_v5 val_main_v4 val_main_v3 val_main_cst val_main_cst_0
    val_main_cst_1
  pointwise
  rfl

theorem scale_at (z : Fin 1) : val_main_v10 (F := Ideal) x (ix2 i z) = scale (row x i) := by
  unfold val_main_v10
  pointwise
  exact congrArg Ideal.rsqrt (mean_at x i z)

theorem normed_at (k : Fin 1024) : val_main_v17 (F := Ideal) x g (ix2 i k) = normed (row x i) (row g 0) k := by
  unfold val_main_v17 val_main_v16 val_main_v15 val_main_v14 val_main_v10 val_main_v9 val_main_v8 val_main_v7 val_main_v6
    val_main_v5 val_main_v4 val_main_v3 val_main_cst val_main_cst_0 val_main_cst_1
  pointwise
  rfl

theorem normed_again : val_main_v67 (F := Ideal) x g = val_main_v17 (F := Ideal) x g := rfl

/-- The third result. -/
theorem third_at (k : Fin 1024) : val_main_v83 (F := Ideal) x g (ix2 i k) = normed (row x i) (row g 0) k := by
  have e : ∀ n : FVec Ideal S16384x1024 .f32, val_main_v67 (F := Ideal) x g = n →
      val_main_v83 (F := Ideal) x g (ix2 i k) = n (ix2 i k) := by
    intro n hn
    unfold val_main_v83
    rw [hn]
    pointwise
  exact (e _ (normed_again x g)).trans (normed_at x g i k)

/-! ### The gate's products and the up-projections -/

/-- A token's gate products, and its up-projections with `wu` for `w`. -/
def product (w : Vec Ideal S1024x2816 .bf16) (j : Fin 2816) : EReal := through (normed (row x i) (row g 0)) (table w) j

theorem gates_at (j : Fin 2816) : val_main_v18 (F := Ideal) x g wg (ix2 i j) = product x g i wg j := by
  have e : ∀ n : FVec Ideal S16384x1024 .f32, val_main_v17 (F := Ideal) x g = n →
      val_main_v18 (F := Ideal) x g wg (ix2 i j) = ∑ k : Fin 1024, n (ix2 i k) * wg (ix2 k j) := by
    intro n hn
    unfold val_main_v18 val_main_v0
    rw [hn]
    pointwise
  exact (e _ rfl).trans (Finset.sum_congr rfl fun k _ => congrArg (fun u : EReal => u * wg (ix2 k j)) (normed_at x g i k))

theorem ups_at (j : Fin 2816) : val_main_v19 (F := Ideal) x g wu (ix2 i j) = product x g i wu j := by
  have e : ∀ n : FVec Ideal S16384x1024 .f32, val_main_v17 (F := Ideal) x g = n →
      val_main_v19 (F := Ideal) x g wu (ix2 i j) = ∑ k : Fin 1024, n (ix2 i k) * wu (ix2 k j) := by
    intro n hn
    unfold val_main_v19 val_main_v1
    rw [hn]
    pointwise
  exact (e _ rfl).trans (Finset.sum_congr rfl fun k _ => congrArg (fun u : EReal => u * wu (ix2 k j)) (normed_at x g i k))

theorem gates_again : val_main_v68 (F := Ideal) x g wg = val_main_v18 (F := Ideal) x g wg := rfl
theorem ups_again : val_main_v69 (F := Ideal) x g wu = val_main_v19 (F := Ideal) x g wu := rfl

/-- The fourth result. -/
theorem fourth_at (j : Fin 2816) : val_main_v84 (F := Ideal) x g wg wu (ix2 i j)
    = gated (product x g i wg j) (product x g i wu j) := by
  have e : ∀ a u : FVec Ideal S16384x2816 .f32, val_main_v68 (F := Ideal) x g wg = a → val_main_v69 (F := Ideal) x g wu = u →
      val_main_v84 (F := Ideal) x g wg wu (ix2 i j) = gated (a (ix2 i j)) (u (ix2 i j)) := by
    intro a u ha hu
    unfold val_main_v84 val_main_v82 val_main_v81 val_main_call4_v5 val_main_call4_v4 val_main_call4_v3 val_main_call4_v2
      val_main_call4_v1 val_main_call4_v0 val_main_call4_cst val_main_call4_cst_0
    rw [ha, hu]
    pointwise
    rfl
  rw [e _ _ (gates_again x g wg) (ups_again x g wu), gates_at, ups_at]

/-! ### The gradients of the gate's products and of the up-projections -/

theorem back_at (j : Fin 2816) : val_main_v29 (F := Ideal) d wd (ix2 i j) = backAct (row d i) (table wd) j := by
  unfold val_main_v29 val_main_v28 val_main_v27 val_main_v26 val_main_v2 val_main_cst_4
  pointwise
  rfl

theorem back_again (j : Fin 2816) : val_main_v77 (F := Ideal) d wd (ix2 i j) = backAct (row d i) (table wd) j := by
  unfold val_main_v77 val_main_v76 val_main_v75 val_main_v2 val_main_cst_13
  pointwise
  rfl

theorem up_at (j : Fin 2816) : val_main_v30 (F := Ideal) x g d wg wd (ix2 i j)
    = upGrad (row d i) (product x g i wg) (table wd) j := by
  have e : ∀ a b : FVec Ideal S16384x2816 .f32, val_main_v18 (F := Ideal) x g wg = a → val_main_v29 (F := Ideal) d wd = b →
      val_main_v30 (F := Ideal) x g d wg wd (ix2 i j) = upBack (b (ix2 i j)) (a (ix2 i j)) := by
    intro a b ha hb
    unfold val_main_v30 val_main_v20_0 val_main_v20_2 val_main_call0_v4 val_main_call0_v3 val_main_call0_v2 val_main_call0_v1
      val_main_call0_v0 val_main_call0_cst val_main_call0_cst_0
    rw [ha, hb]
    pointwise
    exact mul_comm _ _
  rw [e _ _ rfl rfl, gates_at, back_at]
  rfl

/-- The sixth result. -/
theorem sixth_at (j : Fin 2816) : val_main_v86 (F := Ideal) x g d wg wd (ix2 i j)
    = upGrad (row d i) (product x g i wg) (table wd) j := by
  have e : ∀ a b : FVec Ideal S16384x2816 .f32, val_main_v68 (F := Ideal) x g wg = a → val_main_v77 (F := Ideal) d wd = b →
      val_main_v86 (F := Ideal) x g d wg wd (ix2 i j) = upBack (b (ix2 i j)) (a (ix2 i j)) := by
    intro a b ha hb
    unfold val_main_v86 val_main_v78 val_main_v70_0 val_main_v70_2 val_main_call2_v4 val_main_call2_v3 val_main_call2_v2
      val_main_call2_v1 val_main_call2_v0 val_main_call2_cst val_main_call2_cst_0
    rw [ha, hb]
    pointwise
    exact mul_comm _ _
  rw [e _ _ (gates_again x g wg) rfl, gates_at, back_again]
  rfl

/-- The gate's gradient as differentiating the branch gives it. -/
def plainGate (j : Fin 2816) : EReal :=
  plainGateBack (backAct (row d i) (table wd) j) (product x g i wg j) (product x g i wu j)

theorem gate_at (j : Fin 2816) : val_main_v32 (F := Ideal) x g d wg wu wd (ix2 i j) = plainGate x g d wg wu wd i j := by
  have e : ∀ a u b : FVec Ideal S16384x2816 .f32, val_main_v18 (F := Ideal) x g wg = a → val_main_v19 (F := Ideal) x g wu = u →
      val_main_v29 (F := Ideal) d wd = b →
      val_main_v32 (F := Ideal) x g d wg wu wd (ix2 i j) = plainGateBack (b (ix2 i j)) (a (ix2 i j)) (u (ix2 i j)) := by
    intro a u b ha hu hb
    unfold val_main_v32 val_main_call1_v2 val_main_call1_v1 val_main_call1_v0 val_main_v31 val_main_v20_1 val_main_call0_v7
      val_main_call0_v6 val_main_v20_2 val_main_call0_v4 val_main_call0_v3 val_main_call0_v2 val_main_call0_v1
      val_main_call0_v0 val_main_call0_cst val_main_call0_cst_0 val_main_call0_cst_1
    rw [ha, hu, hb]
    pointwise
    rfl
  rw [e _ _ _ rfl rfl rfl, gates_at, ups_at, back_at]
  rfl

/-- The fifth result. -/
theorem fifth_at (j : Fin 2816) : val_main_v85 (F := Ideal) x g d wg wu wd (ix2 i j) = plainGate x g d wg wu wd i j := by
  have e : ∀ a u b : FVec Ideal S16384x2816 .f32, val_main_v68 (F := Ideal) x g wg = a → val_main_v69 (F := Ideal) x g wu = u →
      val_main_v77 (F := Ideal) d wd = b →
      val_main_v85 (F := Ideal) x g d wg wu wd (ix2 i j) = plainGateBack (b (ix2 i j)) (a (ix2 i j)) (u (ix2 i j)) := by
    intro a u b ha hu hb
    unfold val_main_v85 val_main_v80 val_main_call3_v2 val_main_call3_v1 val_main_call3_v0 val_main_v79 val_main_v70_1
      val_main_call2_v7 val_main_call2_v6 val_main_v70_2 val_main_call2_v4 val_main_call2_v3 val_main_call2_v2
      val_main_call2_v1 val_main_call2_v0 val_main_call2_cst val_main_call2_cst_0 val_main_call2_cst_1
    rw [ha, hu, hb]
    pointwise
    rfl
  rw [e _ _ _ (gates_again x g wg) (ups_again x g wu) rfl, gates_at, ups_at, back_again]
  rfl

/-! ### The gradients of the normalised rows, of the gain and of the rows -/

def plainNorm : Fin 1024 → EReal :=
  normBack (plainGate x g d wg wu wd i) (upGrad (row d i) (product x g i wg) (table wd)) (table wg) (table wu)

theorem norm_at (k : Fin 1024) : val_main_v35 (F := Ideal) x g d wg wu wd (ix2 i k) = plainNorm x g d wg wu wd i k := by
  have e : ∀ s t : FVec Ideal S16384x2816 .f32, val_main_v30 (F := Ideal) x g d wg wd = s →
      val_main_v32 (F := Ideal) x g d wg wu wd = t → val_main_v35 (F := Ideal) x g d wg wu wd (ix2 i k)
        = ∑ j : Fin 2816, s (ix2 i j) * wu (ix2 k j) + ∑ j : Fin 2816, t (ix2 i j) * wg (ix2 k j) := by
    intro s t hs ht
    unfold val_main_v35 val_main_v34 val_main_v33 val_main_v1 val_main_v0
    rw [hs, ht]
    pointwise
  rw [e _ _ rfl rfl, add_comm]
  exact congrArg₂ (fun s t : EReal => s + t)
    (Finset.sum_congr rfl fun j _ => congrArg (fun u : EReal => u * wg (ix2 k j)) (gate_at x g d wg wu wd i j))
    (Finset.sum_congr rfl fun j _ => congrArg (fun u : EReal => u * wu (ix2 k j)) (up_at x g d wg wd i j))

/-- The second result. -/
theorem second_at (k : Fin 1024) : val_main_v38 (F := Ideal) x g d wg wu wd (ix2 0 k)
    = ∑ i : Fin 16384, gainBack (row x i) (plainNorm x g d wg wu wd i) k := by
  have e : ∀ n : FVec Ideal S16384x1024 .f32, ∀ r : FVec Ideal S16384x1 .f32,
      val_main_v35 (F := Ideal) x g d wg wu wd = n → val_main_v10 (F := Ideal) x = r →
      val_main_v38 (F := Ideal) x g d wg wu wd (ix2 0 k)
        = ∑ i : Fin 16384, x (ix2 i k) * r (ix2 i 0) * n (ix2 i k) := by
    intro n r hn hr
    unfold val_main_v38 val_main_v37 val_main_v36 val_main_v15 val_main_v14 val_main_cst_5
    rw [hn, hr]
    pointwise
  rw [e _ _ rfl rfl]
  refine Finset.sum_congr rfl fun i _ => ?_
  rw [scale_at, norm_at]
  exact mul_comm _ _

/-- The first result. -/
theorem first_at (k : Fin 1024) : val_main_v55 (F := Ideal) x g d wg wu wd (ix2 i k)
    = plainRowBack (row x i) (row g 0) (row d i) (plainNorm x g d wg wu wd i) k := by
  have e : ∀ n : FVec Ideal S16384x1024 .f32, ∀ r v : FVec Ideal S16384x1 .f32,
      val_main_v35 (F := Ideal) x g d wg wu wd = n → val_main_v10 (F := Ideal) x = r → val_main_v9 (F := Ideal) x = v →
      val_main_v55 (F := Ideal) x g d wg wu wd (ix2 i k)
        = d (ix2 i k) + n (ix2 i k) * g (ix2 0 k) * r (ix2 i 0)
          + x (ix2 i k) * Ideal.div ((∑ q : Fin 1024, x (ix2 i q) * (n (ix2 i q) * g (ix2 0 q)))
            * (Ideal.ofBits FTy.f32 0xBF000000#32 * Ideal.div (r (ix2 i 0)) (v (ix2 i 0)))) (Ideal.ofBits FTy.f32 0x44800000#32)
          + Ideal.div ((∑ q : Fin 1024, x (ix2 i q) * (n (ix2 i q) * g (ix2 0 q)))
            * (Ideal.ofBits FTy.f32 0xBF000000#32 * Ideal.div (r (ix2 i 0)) (v (ix2 i 0)))) (Ideal.ofBits FTy.f32 0x44800000#32)
            * x (ix2 i k) := by
    intro n r v hn hr hv
    unfold val_main_v55 val_main_v54 val_main_v53 val_main_v52 val_main_v51 val_main_v50 val_main_v49 val_main_v48 val_main_v47
      val_main_v46 val_main_v45 val_main_v44 val_main_v43 val_main_v42 val_main_v41 val_main_v40 val_main_v39 val_main_v13
      val_main_v12 val_main_v11 val_main_cst_8 val_main_cst_7 val_main_cst_6 val_main_cst_2
    rw [hn, hr, hv]
    pointwise
    rw [Fin.sum_univ_one]
  rw [e _ _ _ rfl rfl rfl, scale_at, mean_at]
  simp only [norm_at]
  rfl

end Stages

/-! ### On real numbers -/

section Finite
variable {x : Vec Ideal S16384x1024 .f32} {g : Vec Ideal S1x1024 .f32} {d : Vec Ideal S16384x1024 .f32}
  {wg wu : Vec Ideal S1024x2816 .bf16} {wd : Vec Ideal S2816x1024 .bf16}
  (hx : ∀ y, IsReal (x y)) (hg : ∀ y, IsReal (g y)) (hd : ∀ y, IsReal (d y))
  (hwg : ∀ y, IsReal (wg y)) (hwu : ∀ y, IsReal (wu y)) (hwd : ∀ y, IsReal (wd y)) (i : Fin 16384)

include hx hg in
theorem product_real {w : Vec Ideal S1024x2816 .bf16} (hw : ∀ y, IsReal (w y)) (j : Fin 2816) : IsReal (product x g i w j) := by
  have hs : IsReal (scale (row x i)) := by
    choose X hX using fun k => hx (ix2 i k)
    obtain ⟨μ, -, -, h⟩ := scale_real X
    exact ⟨_, (congrArg scale (funext hX)).trans h⟩
  show IsReal (∑ k, x (ix2 i k) * scale (row x i) * g (ix2 0 k) * w (ix2 k j))
  exact IsReal.sum _ fun k => (((hx _).mul hs).mul (hg _)).mul (hw _)

include hd hwd in
theorem back_real (j : Fin 2816) : IsReal (backAct (row d i) (table wd) j) :=
  IsReal.sum _ fun k => (IsReal.mul ⟨_, half_word⟩ (hd _)).mul (hwd _)

include hx hg hd hwg hwu hwd

theorem gate_eq : plainGate x g d wg wu wd i = gateGrad (row d i) (product x g i wg) (product x g i wu) (table wd) :=
  funext fun j => gateBack_eq (back_real hd hwd i j) (product_real hx hg i hwg j) (product_real hx hg i hwu j)

theorem norm_eq : plainNorm x g d wg wu wd i
    = normGrad (row d i) (product x g i wg) (product x g i wu) (table wg) (table wu) (table wd) := by
  unfold plainNorm
  rw [gate_eq hx hg hd hwg hwu hwd i]
  rfl

theorem norm_real (k : Fin 1024) :
    IsReal (normGrad (row d i) (product x g i wg) (product x g i wu) (table wg) (table wu) (table wd) k) := by
  have ha := fun j => product_real hx hg i hwg j
  have hu := fun j => product_real hx hg i hwu j
  have hb := fun j => back_real hd hwd i j
  have hs : ∀ j, IsReal (Ideal.logistic (product x g i wg j)) := fun j => by
    obtain ⟨a, h⟩ := ha j
    rw [h]
    exact logistic_real a
  have h1 : IsReal 1 := ⟨1, EReal.coe_one.symm⟩
  exact (IsReal.sum _ fun j => (((hb j).mul (hu j)).mul ((hs j).mul (h1.add ((ha j).mul (h1.sub (hs j)))))).mul (hwg _)).add
    (IsReal.sum _ fun j => ((hb j).mul ((ha j).mul (hs j))).mul (hwu _))

theorem first_eq (k : Fin 1024) : val_main_v55 (F := Ideal) x g d wg wu wd (ix2 i k) = rowBack (row x i) (row g 0) (row d i)
    (normGrad (row d i) (product x g i wg) (product x g i wu) (table wg) (table wu) (table wd)) k := by
  rw [first_at, norm_eq hx hg hd hwg hwu hwd i]
  exact rowBack_eq (fun _ => hx _) (fun _ => hg _) (fun _ => hd _) (norm_real hx hg hd hwg hwu hwd i) k

theorem second_eq (k : Fin 1024) : val_main_v38 (F := Ideal) x g d wg wu wd (ix2 0 k) = ∑ i : Fin 16384, gainBack (row x i)
    (normGrad (row d i) (product x g i wg) (product x g i wu) (table wg) (table wu) (table wd)) k := by
  rw [second_at]
  exact Finset.sum_congr rfl fun i _ => by rw [norm_eq hx hg hd hwg hwu hwd i]

theorem fifth_eq (j : Fin 2816) : val_main_v85 (F := Ideal) x g d wg wu wd (ix2 i j)
    = gateGrad (row d i) (product x g i wg) (product x g i wu) (table wd) j :=
  (fifth_at x g d wg wu wd i j).trans (congrFun (gate_eq hx hg hd hwg hwu hwd i) j)

end Finite

end BackReference
-- ==== Proof.BackArrays.lean ====
/-
  The feed-forward branch backward: the arrays the kernel's run leaves, token by token, from the arrays it was launched with.
-/
module

public import proofs.«01_k».proof.Proof.BackRun
public import proofs.«01_k».proof.Proof.BackReference

@[expose] public section

set_option maxRecDepth 16384

noncomputable section

namespace Backward

open Idealize.ShloMosaic Idealize.ShloMosaic.TcCoe Idealize.SL.Sem Cert.Kernel2Ideal Cert.Kernel2Ideal.Gen FeedForward
open BackReference (product)

/-! ### The six blocks, row by row -/

section Rows
variable (x d : Vec Ideal S256x1024 .f32) (g : Vec Ideal S1x1024 .f32) (a u : Vec Ideal S256x2816 .bf16)
  (wg wu : Vec Ideal S1024x2816 .bf16) (wd : Vec Ideal S2816x1024 .bf16) (s : Vec Ideal S1x1024 .f32) (r : Fin 256)

theorem row_of_blocks (k : Fin 1024) : (blocks x g d a u wg wu wd s).1 (ix2 r k) = rowBack (row x r) (row g 0) (row d r)
    (normGrad (row d r) (row a r) (row u r) (table wg) (table wu) (table wd)) k := by
  rw [show (blocks x g d a u wg wu wd s).1 = rowBlock x d g a u wg wu wd from rfl, rowBlock_at]

theorem gain_of_blocks (k : Fin 1024) : (blocks x g d a u wg wu wd s).2.1 (ix2 0 k) = s (ix2 0 k)
    + ∑ r : Fin 256, gainBack (row x r) (normGrad (row d r) (row a r) (row u r) (table wg) (table wu) (table wd)) k := by
  rw [show (blocks x g d a u wg wu wd s).2.1 = gainBlock x d a u wg wu wd s from rfl, gainBlock_at]

theorem normed_of_blocks (k : Fin 1024) : (blocks x g d a u wg wu wd s).2.2.1 (ix2 r k) = normed (row x r) (row g 0) k := by
  rw [show (blocks x g d a u wg wu wd s).2.2.1 = k0_pay4 x g from rfl, normed_apply]

theorem act_of_blocks (j : Fin 2816) : (blocks x g d a u wg wu wd s).2.2.2.1 (ix2 r j) = gated (row a r j) (row u r j) := by
  rw [show (blocks x g d a u wg wu wd s).2.2.2.1 = actBlock a u from by simp only [blocks], actBlock_at]

theorem gate_of_blocks (j : Fin 2816) : (blocks x g d a u wg wu wd s).2.2.2.2.1 (ix2 r j)
    = gateGrad (row d r) (row a r) (row u r) (table wd) j := by
  rw [show (blocks x g d a u wg wu wd s).2.2.2.2.1 = gateBlock d a u wd from by simp only [blocks], gateBlock_at]

theorem up_of_blocks (j : Fin 2816) : (blocks x g d a u wg wu wd s).2.2.2.2.2 (ix2 r j)
    = upGrad (row d r) (row a r) (table wd) j := by
  rw [show (blocks x g d a u wg wu wd s).2.2.2.2.2 = upBlock d a wd from by simp only [blocks], upBlock_at]

end Rows

/-! ### What the host hands the kernel -/

section Host
variable {F : FTy → Type} [FloatOps F] (m : (ℓ : Loc nD τ sig) → Buf (Elt F) ℓ) (c : Dev nD)

theorem gates_entry : V m c main_v16 = truncf .bf16 (Cert.Reference2Ideal.Read.val_main_v18 (F := F) (m (c, main_arg0))
    (m (c, main_arg1)) (m (c, main_arg3))) bitsLt_bf16_f32 := by
  show StableHlo.after hostOps0 (fun b => m (c, b)) (main_v16 : DevRef τ sig) = _
  simp only [hostOps0, List.flatten_cons, List.flatten_nil, List.append_nil, List.cons_append, List.nil_append]
  after_results
  rfl

theorem ups_entry : V m c main_v17 = truncf .bf16 (Cert.Reference2Ideal.Read.val_main_v19 (F := F) (m (c, main_arg0))
    (m (c, main_arg1)) (m (c, main_arg4))) bitsLt_bf16_f32 := by
  show StableHlo.after hostOps0 (fun b => m (c, b)) (main_v17 : DevRef τ sig) = _
  simp only [hostOps0, List.flatten_cons, List.flatten_nil, List.append_nil, List.cons_append, List.nil_append]
  after_results
  rfl

end Host

/-! ### The blocks a grid point reads -/

/-- Point `t` works on the tokens `256 t … 256 t + 255`, and reads the whole of the other arrays. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = t.val ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = t.val ∧ win0_10.index t 1 = 0 := by decide +kernel
theorem index_11 : ∀ t : Fin grid0.N, win0_11.index t 0 = t.val ∧ win0_11.index t 1 = 0 := by decide +kernel
theorem index_12 : ∀ t : Fin grid0.N, win0_12.index t 0 = t.val ∧ win0_12.index t 1 = 0 := by decide +kernel
theorem index_13 : ∀ t : Fin grid0.N, win0_13.index t 0 = t.val ∧ win0_13.index t 1 = 0 := by decide +kernel

section Arrays
variable (m : (ℓ : Loc nD τ sig) → Buf (Elt Ideal) ℓ) (c : Dev nD) (t : Fin cfg0.N) (r : Fin 256)

/-- The arrays as launched. -/
abbrev xs : Vec Ideal S16384x1024 .f32 := m ((c : Thread nD τ).loc main_arg0)
abbrev gs : Vec Ideal S1x1024 .f32 := m ((c : Thread nD τ).loc main_arg1)
abbrev ds : Vec Ideal S16384x1024 .f32 := m ((c : Thread nD τ).loc main_arg2)
abbrev gates : Vec Ideal S1024x2816 .bf16 := m ((c : Thread nD τ).loc main_arg3)
abbrev ups : Vec Ideal S1024x2816 .bf16 := m ((c : Thread nD τ).loc main_arg4)
abbrev downs : Vec Ideal S2816x1024 .bf16 := m ((c : Thread nD τ).loc main_arg5)

/-- The token that is row `r` of point `t`'s block. -/
def token : Fin 16384 := ⟨256 * t.val + r.val, by
  have ht : t.val < 64 := t.isLt
  have := r.isLt
  omega⟩

/-- An index that lies `r` rows and `k` columns into a block of 256 rows. -/
theorem place_rows {p : ℕ} (y : (⟨2, ![16384, p]⟩ : Shape).Idx) (k : Fin p) {o q : ℕ} (h : o = t.val ∧ q = 0)
    (h0 : (y 0).val = o * 256 + 1 * r.val) (h1 : (y 1).val = q * p + 1 * k.val) : y = ix2 (token t r) k := by
  obtain ⟨rfl, rfl⟩ := h
  refine funext fun a => Fin.ext ?_
  match a with
  | ⟨0, _⟩ => show (y 0).val = 256 * t.val + r.val; omega
  | ⟨1, _⟩ => show (y 1).val = k.val; omega

/-- An index of an array that is one block. -/
theorem place_whole {n p : ℕ} (y : (⟨2, ![n, p]⟩ : Shape).Idx) (i : Fin n) (k : Fin p) {o q : ℕ} (h : o = 0 ∧ q = 0)
    (h0 : (y 0).val = o * n + 1 * i.val) (h1 : (y 1).val = q * p + 1 * k.val) : y = ix2 i k := by
  obtain ⟨rfl, rfl⟩ := h
  refine funext fun a => Fin.ext ?_
  match a with
  | ⟨0, _⟩ => show (y 0).val = i.val; omega
  | ⟨1, _⟩ => show (y 1).val = k.val; omega

theorem row_block : row (iblk m c 0 t) r = row (xs m c) (token t r) := funext fun k =>
  (congrArg (V m c main_arg0) (place_rows t r _ k (index_0 t) rfl rfl)).trans (congrFun (V_main_arg0 m c) _)

theorem cotangent_block : row (iblk m c 2 t) r = row (ds m c) (token t r) := funext fun k =>
  (congrArg (V m c main_arg2) (place_rows t r _ k (index_2 t) rfl rfl)).trans (congrFun (V_main_arg2 m c) _)

theorem gain_block : row (iblk m c 1 t) 0 = row (gs m c) 0 := funext fun k =>
  (congrArg (V m c main_arg1) (place_whole _ 0 k (index_1 t) rfl rfl)).trans (congrFun (V_main_arg1 m c) _)

theorem gate_matrix : table (iblk m c 5 t) = table (gates m c) := funext fun k => funext fun j =>
  (congrArg (V m c main_arg3) (place_whole _ k j (index_5 t) rfl rfl)).trans (congrFun (V_main_arg3 m c) _)

theorem up_matrix : table (iblk m c 6 t) = table (ups m c) := funext fun k => funext fun j =>
  (congrArg (V m c main_arg4) (place_whole _ k j (index_6 t) rfl rfl)).trans (congrFun (V_main_arg4 m c) _)

theorem down_matrix : table (iblk m c 7 t) = table (downs m c) := funext fun j => funext fun k =>
  (congrArg (V m c main_arg5) (place_whole _ j k (index_7 t) rfl rfl)).trans (congrFun (V_main_arg5 m c) _)

/-- The saved products' blocks, whatever the arrays hold. -/
theorem read_gates (X : Buf (Elt Ideal) ((c : Thread nD τ).loc main_v16)) (j : Fin 2816) :
    ((cfg0.win 3).blk t).view.read (Elt Ideal) X (ix2 r j) = X (ix2 (token t r) j) :=
  congrArg X (place_rows t r _ j (index_3 t) rfl rfl)

theorem read_ups (X : Buf (Elt Ideal) ((c : Thread nD τ).loc main_v17)) (j : Fin 2816) :
    ((cfg0.win 4).blk t).view.read (Elt Ideal) X (ix2 r j) = X (ix2 (token t r) j) :=
  congrArg X (place_rows t r _ j (index_4 t) rfl rfl)

theorem gates_block : row (iblk m c 3 t) r = product (xs m c) (gs m c) (token t r) (gates m c) := by
  funext j
  show iblk m c 3 t (ix2 r j) = _
  unfold iblk
  refine (read_gates c t r _ j).trans ?_
  show V m c main_v16 (ix2 (token t r) j) = _
  rw [gates_entry]
  exact BackReference.gates_at _ _ _ _ j

theorem ups_block : row (iblk m c 4 t) r = product (xs m c) (gs m c) (token t r) (ups m c) := by
  funext j
  show iblk m c 4 t (ix2 r j) = _
  unfold iblk
  refine (read_ups c t r _ j).trans ?_
  show V m c main_v17 (ix2 (token t r) j) = _
  rw [ups_entry]
  exact BackReference.ups_at _ _ _ _ j

/-! ### The results' blocks -/

/-- A token's gradient of the normalised row. -/
def normIn (i : Fin 16384) : Fin 1024 → EReal :=
  normGrad (row (ds m c) i) (product (xs m c) (gs m c) i (gates m c)) (product (xs m c) (gs m c) i (ups m c))
    (table (gates m c)) (table (ups m c)) (table (downs m c))

theorem norm_block : normGrad (row (iblk m c 2 t) r) (row (iblk m c 3 t) r) (row (iblk m c 4 t) r) (table (iblk m c 5 t))
    (table (iblk m c 6 t)) (table (iblk m c 7 t)) = normIn m c (token t r) := by
  rw [cotangent_block, gates_block, ups_block, gate_matrix, up_matrix, down_matrix]
  rfl

/-- A point's six blocks, for some gradient of the gain so far. -/
theorem point_blocks : ∃ s, outsAt0 m c t.val t.isLt = blocks (iblk m c 0 t) (iblk m c 1 t) (iblk m c 2 t) (iblk m c 3 t)
    (iblk m c 4 t) (iblk m c 5 t) (iblk m c 6 t) (iblk m c 7 t) s := by
  by_cases h : t.val % 64 = 0
  · exact ⟨_, first_point m c t h⟩
  · exact ⟨_, next_point m c t h⟩

theorem read_8 (X : Buf (Elt Ideal) ((c : Thread nD τ).loc main_v18_0)) (k : Fin 1024) :
    ((cfg0.win 8).blk t).view.read (Elt Ideal) X (ix2 r k) = X (ix2 (token t r) k) :=
  congrArg X (place_rows t r _ k (index_8 t) rfl rfl)

theorem row_out (k : Fin 1024) : (dats m 0 c).arrAt 8 cfg0.N (ix2 (token t r) k)
    = rowBack (row (xs m c) (token t r)) (row (gs m c) 0) (row (ds m c) (token t r)) (normIn m c (token t r)) k := by
  have e : (outsAt0 m c t.val t.isLt).1 (ix2 r k) = rowBack (row (xs m c) (token t r)) (row (gs m c) 0) (row (ds m c) (token t r)) (normIn m c (token t r)) k := by
    obtain ⟨s, h⟩ := point_blocks m c t
    rw [h, row_of_blocks, norm_block, row_block, gain_block, cotangent_block]
  refine (read_8 c t r _ k).symm.trans (Eq.trans ?_ e)
  rw [Value.blocks8 m c t (flush0_8 t), Value.flushed8]
  generalize (outsAt0 m c t.val t.isLt).1 = X
  rfl

theorem read_10 (X : Buf (Elt Ideal) ((c : Thread nD τ).loc main_v18_2)) (k : Fin 1024) :
    ((cfg0.win 10).blk t).view.read (Elt Ideal) X (ix2 r k) = X (ix2 (token t r) k) :=
  congrArg X (place_rows t r _ k (index_10 t) rfl rfl)

theorem normed_out (k : Fin 1024) : (dats m 0 c).arrAt 10 cfg0.N (ix2 (token t r) k)
    = normed (row (xs m c) (token t r)) (row (gs m c) 0) k := by
  have e : (outsAt0 m c t.val t.isLt).2.2.1 (ix2 r k) = normed (row (xs m c) (token t r)) (row (gs m c) 0) k := by
    obtain ⟨s, h⟩ := point_blocks m c t
    rw [h, normed_of_blocks, row_block, gain_block]
  refine (read_10 c t r _ k).symm.trans (Eq.trans ?_ e)
  rw [Value.blocks10 m c t (flush0_10 t), Value.flushed10]
  generalize (outsAt0 m c t.val t.isLt).2.2.1 = X
  rfl

theorem read_11 (X : Buf (Elt Ideal) ((c : Thread nD τ).loc main_v18_3)) (j : Fin 2816) :
    ((cfg0.win 11).blk t).view.read (Elt Ideal) X (ix2 r j) = X (ix2 (token t r) j) :=
  congrArg X (place_rows t r _ j (index_11 t) rfl rfl)

theorem act_out (j : Fin 2816) : (dats m 0 c).arrAt 11 cfg0.N (ix2 (token t r) j)
    = gated (product (xs m c) (gs m c) (token t r) (gates m c) j) (product (xs m c) (gs m c) (token t r) (ups m c) j) := by
  have e : (outsAt0 m c t.val t.isLt).2.2.2.1 (ix2 r j) = gated (product (xs m c) (gs m c) (token t r) (gates m c) j) (product (xs m c) (gs m c) (token t r) (ups m c) j) := by
    obtain ⟨s, h⟩ := point_blocks m c t
    rw [h, act_of_blocks, gates_block, ups_block]
  refine (read_11 c t r _ j).symm.trans (Eq.trans ?_ e)
  rw [Value.blocks11 m c t (flush0_11 t), Value.flushed11]
  generalize (outsAt0 m c t.val t.isLt).2.2.2.1 = X
  rfl

theorem read_12 (X : Buf (Elt Ideal) ((c : Thread nD τ).loc main_v18_4)) (j : Fin 2816) :
    ((cfg0.win 12).blk t).view.read (Elt Ideal) X (ix2 r j) = X (ix2 (token t r) j) :=
  congrArg X (place_rows t r _ j (index_12 t) rfl rfl)

theorem gate_out (j : Fin 2816) : (dats m 0 c).arrAt 12 cfg0.N (ix2 (token t r) j)
    = gateGrad (row (ds m c) (token t r)) (product (xs m c) (gs m c) (token t r) (gates m c))
      (product (xs m c) (gs m c) (token t r) (ups m c)) (table (downs m c)) j := by
  have e : (outsAt0 m c t.val t.isLt).2.2.2.2.1 (ix2 r j) = gateGrad (row (ds m c) (token t r)) (product (xs m c) (gs m c) (token t r) (gates m c))
      (product (xs m c) (gs m c) (token t r) (ups m c)) (table (downs m c)) j := by
    obtain ⟨s, h⟩ := point_blocks m c t
    rw [h, gate_of_blocks, cotangent_block, gates_block, ups_block, down_matrix]
  refine (read_12 c t r _ j).symm.trans (Eq.trans ?_ e)
  rw [Value.blocks12 m c t (flush0_12 t), Value.flushed12]
  generalize (outsAt0 m c t.val t.isLt).2.2.2.2.1 = X
  rfl

theorem read_13 (X : Buf (Elt Ideal) ((c : Thread nD τ).loc main_v18_5)) (j : Fin 2816) :
    ((cfg0.win 13).blk t).view.read (Elt Ideal) X (ix2 r j) = X (ix2 (token t r) j) :=
  congrArg X (place_rows t r _ j (index_13 t) rfl rfl)

theorem up_out (j : Fin 2816) : (dats m 0 c).arrAt 13 cfg0.N (ix2 (token t r) j)
    = upGrad (row (ds m c) (token t r)) (product (xs m c) (gs m c) (token t r) (gates m c)) (table (downs m c)) j := by
  have e : (outsAt0 m c t.val t.isLt).2.2.2.2.2 (ix2 r j) = upGrad (row (ds m c) (token t r)) (product (xs m c) (gs m c) (token t r) (gates m c)) (table (downs m c)) j := by
    obtain ⟨s, h⟩ := point_blocks m c t
    rw [h, up_of_blocks, cotangent_block, gates_block, down_matrix]
  refine (read_13 c t r _ j).symm.trans (Eq.trans ?_ e)
  rw [Value.blocks13 m c t (flush0_13 t), Value.flushed13]
  generalize (outsAt0 m c t.val t.isLt).2.2.2.2.2 = X
  rfl

/-- Every token is a row of some point's block. -/
theorem token_exists (i : Fin 16384) : ∃ (t : Fin cfg0.N) (r : Fin 256), token t r = i := by
  have h := i.isLt
  refine ⟨⟨i.val / 256, by have hN : cfg0.N = 64 := N_0; omega⟩, ⟨i.val % 256, Nat.mod_lt _ (by decide)⟩, Fin.ext ?_⟩
  show 256 * (i.val / 256) + i.val % 256 = i.val
  omega

/-! ### The gain's gradient, summed over the points -/

/-- The tokens' terms. -/
abbrev gainTerms (k : Fin 1024) : Fin 16384 → EReal := fun i => gainBack (row (xs m c) i) (normIn m c i) k

theorem gain_sum (s : Vec Ideal S1x1024 .f32) (k : Fin 1024) : (blocks (iblk m c 0 t) (iblk m c 1 t) (iblk m c 2 t)
    (iblk m c 3 t) (iblk m c 4 t) (iblk m c 5 t) (iblk m c 6 t) (iblk m c 7 t) s).2.1 (ix2 0 k)
      = s (ix2 0 k) + ∑ r : Fin 256, gainTerms m c k (token t r) := by
  refine (gain_of_blocks _ _ _ _ _ _ _ _ s k).trans (congrArg _ (Finset.sum_congr rfl fun r _ => ?_))
  rw [norm_block, row_block]

/-- The gain's gradient after each point. -/
theorem gain_after (k : Fin 1024) : ∀ (n : ℕ) (hn : n < cfg0.N),
    (outsAt0 m c n hn).2.1 (ix2 0 k) = Blocked.partialSum (gainTerms m c k) (256 * (n + 1)) := by
  have hN : cfg0.N = 64 := N_0
  intro n
  induction n with
  | zero =>
    intro hn
    rw [first_point m c ⟨0, hn⟩ rfl]
    refine (gain_sum m c ⟨0, hn⟩ _ k).trans ?_
    rw [reset_apply, zero_add]
    refine Eq.trans ?_ (Blocked.partialSum_first (gainTerms m c k) 256 (by omega)).symm
    exact Finset.sum_congr rfl fun q _ => congrArg _ (Fin.ext (by show 256 * 0 + q.val = q.val; omega))
  | succ n ih =>
    intro hn
    rw [next_point m c ⟨n + 1, hn⟩ (by show ¬(n + 1) % 64 = 0; omega)]
    refine (gain_sum m c ⟨n + 1, hn⟩ _ k).trans ?_
    have e := ih (Nat.lt_of_succ_lt hn)
    refine (congrArg (fun z : EReal => z + ∑ r : Fin 256, gainTerms m c k (token ⟨n + 1, hn⟩ r)) e).trans ?_
    exact (Blocked.partialSum_add (gainTerms m c k) (256 * (n + 1)) 256 (by omega)).symm

theorem read_9 (X : Buf (Elt Ideal) ((c : Thread nD τ).loc main_v18_1)) (k : Fin 1024) :
    ((cfg0.win 9).blk t).view.read (Elt Ideal) X (ix2 0 k) = X (ix2 0 k) :=
  congrArg X (place_whole _ 0 k (index_9 t) rfl rfl)

theorem gain_out (k : Fin 1024) : (dats m 0 c).arrAt 9 cfg0.N (ix2 0 k) = ∑ i, gainTerms m c k i := by
  have hN : cfg0.N = 64 := N_0
  have hlt : 63 < cfg0.N := by omega
  have hf : (cfg0.win 9).flush ⟨63, hlt⟩ = true := (flush0_9 _).2 rfl
  have hd : ∀ t t' : Fin cfg0.N, (cfg0.win 9).flush t = true → (cfg0.win 9).flush t' = true → t ≠ t' →
      Disjoint ((cfg0.win 9).blk t).view.set ((cfg0.win 9).blk t').view.set := by
    intro t t' h h' hne
    have e := (flush0_9 t).1 h
    have e' := (flush0_9 t').1 h'
    exact absurd (Fin.ext (by have := t.isLt; have := t'.isLt; omega)) hne
  have e := (gain_after m c k 63 hlt).trans (Blocked.partialSum_all (gainTerms m c k))
  refine (read_9 c ⟨63, hlt⟩ _ k).symm.trans (Eq.trans ?_ e)
  rw [(dats m 0 c).read_blk_arrAt_eq_flushed 9 hd cfg0.N ⟨63, hlt⟩ hlt hf, Value.flushed9]
  generalize (outsAt0 m c 63 hlt).2.1 = X
  rfl

end Arrays

end Backward
-- ==== Proof.FeedForward.lean ====
/-
  The feed-forward calls: each array a kernel's run leaves is the result of the plain mathematics on the same arguments.
-/
module

public import proofs.«01_k».proof.Defs
public import proofs.«01_k».proof.Proof.Assembly
public import proofs.«01_k».proof.Proof.Forward
public import proofs.«01_k».proof.Proof.GateGrad
public import proofs.«01_k».proof.Proof.DownGrad
public import proofs.«01_k».proof.Proof.BackArrays

@[expose] public section

set_option maxRecDepth 16384

noncomputable section

namespace FeedForward

open Idealize.ShloMosaic Idealize.ShloMosaic.TcCoe Idealize.SL.Sem

/-- Two tables that agree at every row and column are equal. -/
theorem table_ext {n p : ℕ} {x y : (⟨2, ![n, p]⟩ : Shape).Idx → EReal} (h : ∀ i k, x (ix2 i k) = y (ix2 i k)) : x = y :=
  funext fun z => by
    have hz : z = ix2 (z 0) (z 1) := funext fun a => match a with
      | ⟨0, _⟩ => rfl
      | ⟨1, _⟩ => rfl
    rw [hz]
    exact h _ _

/-! ### The forward pass -/

section Fwd
open Cert.Kernel3Ideal Cert.Kernel3Ideal.Gen Cert.Reference3Ideal.Read
variable (m : (ℓ : Loc nD τ sig) → Buf (Elt Ideal) ℓ) (c : Dev nD)

theorem forward_out : (dats m 0 c).arrAt 5 cfg0.N = val_main_v34 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) :=
  table_ext fun i k => (Forward.out_array m c i k).trans (Forward.reference_out _ _ _ _ _ i k).symm

theorem forward_gates : (dats m 0 c).arrAt 6 cfg0.N = val_main_v36 (F := Ideal) (m ((c : Thread nD τ).loc main_arg0))
    (m ((c : Thread nD τ).loc main_arg1)) (m ((c : Thread nD τ).loc main_arg2)) :=
  table_ext fun i j => (Forward.gates_array m c i j).trans (Forward.reference_gates _ _ _ i j).symm

theorem forward_ups : (dats m 0 c).arrAt 7 cfg0.N = val_main_v38 (F := Ideal) (m ((c : Thread nD τ).loc main_arg0))
    (m ((c : Thread nD τ).loc main_arg1)) (m ((c : Thread nD τ).loc main_arg3)) :=
  table_ext fun i j => (Forward.ups_array m c i j).trans (Forward.reference_ups _ _ _ i j).symm

end Fwd

/-! ### The weight gradients -/

section Gate
open Cert.Kernel4Ideal Cert.Kernel4Ideal.Gen
variable (m : (ℓ : Loc nD τ sig) → Buf (Elt Ideal) ℓ) (c : Dev nD)

theorem gate_gradient : Value.G2 m c = Cert.Reference4Ideal.Read.val_main_v5 (F := Ideal)
    (m ((c : Thread nD τ).loc main_arg0)) (m ((c : Thread nD τ).loc main_arg1)) :=
  table_ext fun i j => (GateGrad.array_at m c i j).trans (GateGrad.reference_at _ _ i j).symm

end Gate

section Down
open Cert.Kernel5Ideal Cert.Kernel5Ideal.Gen
variable (m : (ℓ : Loc nD τ sig) → Buf (Elt Ideal) ℓ) (c : Dev nD)

theorem down_gradient : Value.G2 m c = Cert.Reference5Ideal.Read.val_main_v8 (F := Ideal)
    (m ((c : Thread nD τ).loc main_arg0)) (m ((c : Thread nD τ).loc main_arg1)) :=
  table_ext fun j k => (DownGrad.array_at m c j k).trans (DownGrad.reference_at _ _ j k).symm

end Down

/-! ### The backward pass, of finite arguments -/

section Bwd
open Cert.Kernel2Ideal Cert.Kernel2Ideal.Gen Cert.Reference2Ideal.Read Backward

/-- The side conditions of the precondition's text. -/
theorem preFacts : Cert.Pre_finite2.Facts := ⟨by decide, by decide, by decide, by decide, by decide⟩

/-- What the precondition says of the six arguments. -/
theorem real_of_finite [Cert.Pre_finite2.Facts] {x d : FVec Ideal S16384x1024 .f32} {g : FVec Ideal S1x1024 .f32}
    {wg wu : FVec Ideal S1024x2816 .bf16} {wd : FVec Ideal S2816x1024 .bf16}
    (h : (Cert.Pre_finite2.fn (F := Ideal) x g d wg wu wd).1 = (fun _ => 1#1)
      ∧ (Cert.Pre_finite2.fn (F := Ideal) x g d wg wu wd).2.1 = (fun _ => 1#1)
      ∧ (Cert.Pre_finite2.fn (F := Ideal) x g d wg wu wd).2.2.1 = (fun _ => 1#1)
      ∧ (Cert.Pre_finite2.fn (F := Ideal) x g d wg wu wd).2.2.2.1 = (fun _ => 1#1)
      ∧ (Cert.Pre_finite2.fn (F := Ideal) x g d wg wu wd).2.2.2.2.1 = (fun _ => 1#1)
      ∧ (Cert.Pre_finite2.fn (F := Ideal) x g d wg wu wd).2.2.2.2.2 = (fun _ => 1#1)) :
    (∀ y, IsReal (x y)) ∧ (∀ y, IsReal (g y)) ∧ (∀ y, IsReal (d y)) ∧ (∀ y, IsReal (wg y)) ∧ (∀ y, IsReal (wu y))
      ∧ (∀ y, IsReal (wd y)) := by
  have ht : Ideal.ofBits FTy.f32 0x7F800000#32 = ⊤ := by simp [Ideal.ofBits, Ideal.ieee]
  refine ⟨fun y => ⟨_, Attn.finite_of_lt ?_⟩, fun y => ⟨_, Attn.finite_of_lt ?_⟩, fun y => ⟨_, Attn.finite_of_lt ?_⟩,
    fun y => ⟨_, Attn.finite_of_lt ?_⟩, fun y => ⟨_, Attn.finite_of_lt ?_⟩, fun y => ⟨_, Attn.finite_of_lt ?_⟩⟩ <;> rw [← ht]
  · exact congrFun h.1 y
  · exact congrFun h.2.1 y
  · exact congrFun h.2.2.1 y
  · exact congrFun h.2.2.2.1 y
  · exact congrFun h.2.2.2.2.1 y
  · exact congrFun h.2.2.2.2.2 y

variable {m : (ℓ : Loc nD τ sig) → Buf (Elt Ideal) ℓ} {c : Dev nD} (hx : ∀ y, IsReal (xs m c y)) (hg : ∀ y, IsReal (gs m c y))
  (hd : ∀ y, IsReal (ds m c y)) (hwg : ∀ y, IsReal (gates m c y)) (hwu : ∀ y, IsReal (ups m c y))
  (hwd : ∀ y, IsReal (downs m c y))

theorem backward_normed : (dats m 0 c).arrAt 10 cfg0.N = val_main_v83 (F := Ideal) (xs m c) (gs m c) :=
  table_ext fun i k => by
    obtain ⟨t, r, rfl⟩ := token_exists i
    exact (normed_out m c t r k).trans (BackReference.third_at _ _ _ k).symm

theorem backward_act : (dats m 0 c).arrAt 11 cfg0.N = val_main_v84 (F := Ideal) (xs m c) (gs m c) (gates m c) (ups m c) :=
  table_ext fun i j => by
    obtain ⟨t, r, rfl⟩ := token_exists i
    exact (act_out m c t r j).trans (BackReference.fourth_at _ _ _ _ _ j).symm

theorem backward_up : (dats m 0 c).arrAt 13 cfg0.N
    = val_main_v86 (F := Ideal) (xs m c) (gs m c) (ds m c) (gates m c) (downs m c) :=
  table_ext fun i j => by
    obtain ⟨t, r, rfl⟩ := token_exists i
    exact (up_out m c t r j).trans (BackReference.sixth_at _ _ _ _ _ _ j).symm

include hx hg hd hwg hwu hwd

theorem backward_row : (dats m 0 c).arrAt 8 cfg0.N
    = val_main_v55 (F := Ideal) (xs m c) (gs m c) (ds m c) (gates m c) (ups m c) (downs m c) :=
  table_ext fun i k => by
    obtain ⟨t, r, rfl⟩ := token_exists i
    exact (row_out m c t r k).trans (BackReference.first_eq hx hg hd hwg hwu hwd _ k).symm

theorem backward_gain : (dats m 0 c).arrAt 9 cfg0.N
    = val_main_v38 (F := Ideal) (xs m c) (gs m c) (ds m c) (gates m c) (ups m c) (downs m c) :=
  table_ext fun i k => by
    obtain rfl : i = 0 := Subsingleton.elim _ _
    exact (gain_out m c k).trans (BackReference.second_eq hx hg hd hwg hwu hwd k).symm

theorem backward_gate : (dats m 0 c).arrAt 12 cfg0.N
    = val_main_v85 (F := Ideal) (xs m c) (gs m c) (ds m c) (gates m c) (ups m c) (downs m c) :=
  table_ext fun i j => by
    obtain ⟨t, r, rfl⟩ := token_exists i
    exact (gate_out m c t r j).trans (BackReference.fifth_eq hx hg hd hwg hwu hwd _ j).symm

end Bwd

end FeedForward
-- ==== Proof.Tiles.lean ====
/-
  Blocks of 512 tokens: where an index of a block lies in its array.
-/
module

public import Idealize.ShloMosaic.Lib.Pointwise

@[expose] public section

noncomputable section

namespace Tiles

open Idealize.ShloMosaic

theorem zero_offsets : (![0, 0] : Fin 2 → Nat) = fun _ => 0 := funext fun a => by fin_cases a <;> rfl

/-- The token that is row `r` of block `t`. -/
def token (t : Fin 32) (r : Fin 512) : Fin 16384 := ⟨512 * t.val + r.val, by
  have := t.isLt
  have := r.isLt
  omega⟩

/-- Every token is a row of some block. -/
theorem token_exists (i : Fin 16384) : ∃ (t : Fin 32) (r : Fin 512), token t r = i := by
  have h := i.isLt
  refine ⟨⟨i.val / 512, by omega⟩, ⟨i.val % 512, Nat.mod_lt _ (by decide)⟩, Fin.ext ?_⟩
  show 512 * (i.val / 512) + i.val % 512 = i.val
  omega

/-- An index that lies `r` rows and `k` columns into block `t`. -/
theorem place_rows {p : ℕ} (y : (⟨2, ![16384, p]⟩ : Shape).Idx) (t : Fin 32) (r : Fin 512) (k : Fin p) {o q : ℕ}
    (h : o = t.val ∧ q = 0) (h0 : (y 0).val = o * 512 + 1 * r.val) (h1 : (y 1).val = q * p + 1 * k.val) : y = ix2 (token t r) k := by
  obtain ⟨rfl, rfl⟩ := h
  refine funext fun a => Fin.ext ?_
  match a with
  | ⟨0, _⟩ => show (y 0).val = 512 * t.val + r.val; omega
  | ⟨1, _⟩ => show (y 1).val = k.val; omega

/-- An index of an array that is one block. -/
theorem place_whole {n p : ℕ} (y : (⟨2, ![n, p]⟩ : Shape).Idx) (i : Fin n) (k : Fin p) {o q : ℕ} (h : o = 0 ∧ q = 0)
    (h0 : (y 0).val = o * n + 1 * i.val) (h1 : (y 1).val = q * p + 1 * k.val) : y = ix2 i k := by
  obtain ⟨rfl, rfl⟩ := h
  refine funext fun a => Fin.ext ?_
  match a with
  | ⟨0, _⟩ => show (y 0).val = i.val; omega
  | ⟨1, _⟩ => show (y 1).val = k.val; omega

end Tiles
-- ==== Proof.Adam.lean ====
/-
  The optimiser's update of the packed small weights: the gradient summed over the eight parts, the two moments and the
  step, entry by entry, in a grid point's 256 rows and in the reference.
-/
module

public import proofs.«01_k».proof.Proof.Gen.Kernel15Ideal.Value
public import proofs.«01_k».proof.Proof.Gen.Reference15Ideal.Read
public import proofs.«01_k».proof.Proof.FeedForward
public import proofs.«01_k».proof.Proof.Tiles
public import Idealize.ShloMosaic.Lib.Pointwise
public import Idealize.ShloMosaic.Lib.ValueIdx

@[expose] public section

set_option maxRecDepth 16384

noncomputable section

namespace Adam

open Idealize.ShloMosaic Idealize.ShloMosaic.TcCoe Idealize.SL.Sem Cert.Kernel15Ideal Cert.Kernel15Ideal.Gen FeedForward Tiles

/-! ### One entry: its parts `p`, weight `w` and moments `a` and `b` -/

def total (p : Fin 8 → EReal) : EReal := ∑ k, p k

def first (p : Fin 8 → EReal) (a : EReal) : EReal :=
  Ideal.ofBits FTy.f32 0x3F666666#32 * a + Ideal.ofBits FTy.f32 0x3DCCCCCD#32 * total p

def second (p : Fin 8 → EReal) (b : EReal) : EReal :=
  Ideal.ofBits FTy.f32 0x3F7FBE77#32 * b + Ideal.ofBits FTy.f32 0x3A83126F#32 * (total p * total p)

def change (p : Fin 8 → EReal) (w a b : EReal) : EReal :=
  Ideal.ofBits FTy.f32 0xBA83126F#32 * (Ideal.div (Ideal.div (first p a) (Ideal.ofBits FTy.f32 0x3F26BD02#32))
    (Ideal.sqrt (Ideal.div (second p b) (Ideal.ofBits FTy.f32 0x3C231ACC#32)) + Ideal.ofBits FTy.f32 0x322BCC77#32)
    + Ideal.ofBits FTy.f32 0x3C23D70A#32 * w)

/-- The parts of an entry of a stack of tables. -/
abbrev parts {n p : ℕ} (x : (⟨3, ![8, n, p]⟩ : Shape).Idx → EReal) (i : Fin n) (j : Fin p) : Fin 8 → EReal := fun k => x (ix3 k i j)

/-! ### A grid point's block -/

section Block
variable (x : Vec Ideal S8x256x128 .f32) (w a b : Vec Ideal S256x128 .f32) (r : Fin 256) (j : Fin 128)

theorem loaded (y : Vec Ideal S256x128 .f32) : View.ld y r0_8 = y := View.ld_unit_zero (S := S256x128) zero_offsets _ y

theorem total_at : k0_pay6 x w a b (ix2 r j) = total (parts x r j) := by
  unfold k0_pay6 k0_pay4
  pointwise
  unfold total
  rw [Fin.sum_univ_eight]

theorem first_at (s : FVec Ideal S256x128 .f32) (hs : s (ix2 r j) = total (parts x r j)) :
    k0_pay1 s (k0_pay5 a) (ix2 r j) = first (parts x r j) (a (ix2 r j)) := by
  unfold k0_pay1 k0_pay5
  pointwise
  rw [hs]
  rfl

theorem second_at (s : FVec Ideal S256x128 .f32) (hs : s (ix2 r j) = total (parts x r j)) :
    k0_pay2 s b (ix2 r j) = second (parts x r j) (b (ix2 r j)) := by
  unfold k0_pay2
  pointwise
  rw [hs]
  rfl

theorem change_at (s : FVec Ideal S256x128 .f32) (hs : s (ix2 r j) = total (parts x r j)) :
    k0_pay3 s w b (k0_pay5 a) (ix2 r j) = change (parts x r j) (w (ix2 r j)) (a (ix2 r j)) (b (ix2 r j)) := by
  unfold k0_pay3 k0_pay2 k0_pay1 k0_pay5
  pointwise
  rw [hs]
  rfl

theorem block_total : out0_4 x w a b (ix2 r j) = total (parts x r j) := by
  unfold out0_4
  exact (congrFun (View.canon_unit_zero zero_offsets _ _) _).trans (total_at x w a b r j)

theorem block_change : out0_5 x w a b (ix2 r j) = change (parts x r j) (w (ix2 r j)) (a (ix2 r j)) (b (ix2 r j)) := by
  unfold out0_5 k0_pay7
  rw [loaded, loaded, loaded]
  exact (congrFun (View.canon_unit_zero zero_offsets _ _) _).trans (change_at x w a b r j _ (total_at x w a b r j))

theorem block_first : out0_6 x w a b (ix2 r j) = first (parts x r j) (a (ix2 r j)) := by
  unfold out0_6 k0_pay7
  rw [loaded]
  exact (congrFun (View.canon_unit_zero zero_offsets _ _) _).trans (first_at x a r j _ (total_at x w a b r j))

theorem block_second : out0_7 x w a b (ix2 r j) = second (parts x r j) (b (ix2 r j)) := by
  unfold out0_7
  rw [loaded]
  exact (congrFun (View.canon_unit_zero zero_offsets _ _) _).trans (second_at x b r j _ (total_at x w a b r j))

end Block

/-! ### Blocks of 256 rows -/

/-- The row that is row `r` of block `t`. -/
def place (t : Fin 7) (r : Fin 256) : Fin 1792 := ⟨256 * t.val + r.val, by
  have := t.isLt
  have := r.isLt
  omega⟩

theorem place_exists (i : Fin 1792) : ∃ (t : Fin 7) (r : Fin 256), place t r = i := by
  have h := i.isLt
  refine ⟨⟨i.val / 256, by omega⟩, ⟨i.val % 256, Nat.mod_lt _ (by decide)⟩, Fin.ext ?_⟩
  show 256 * (i.val / 256) + i.val % 256 = i.val
  omega

theorem place_table (y : (⟨2, ![1792, 128]⟩ : Shape).Idx) (t : Fin 7) (r : Fin 256) (j : Fin 128) {o q : ℕ}
    (h : o = t.val ∧ q = 0) (h0 : (y 0).val = o * 256 + 1 * r.val) (h1 : (y 1).val = q * 128 + 1 * j.val) :
    y = ix2 (place t r) j := by
  obtain ⟨rfl, rfl⟩ := h
  refine funext fun a => Fin.ext ?_
  match a with
  | ⟨0, _⟩ => show (y 0).val = 256 * t.val + r.val; omega
  | ⟨1, _⟩ => show (y 1).val = j.val; omega

theorem place_stack (y : (⟨3, ![8, 1792, 128]⟩ : Shape).Idx) (t : Fin 7) (k : Fin 8) (r : Fin 256) (j : Fin 128) {n o q : ℕ}
    (h : n = 0 ∧ o = t.val ∧ q = 0) (h0 : (y 0).val = n * 8 + 1 * k.val) (h1 : (y 1).val = o * 256 + 1 * r.val)
    (h2 : (y 2).val = q * 128 + 1 * j.val) : y = ix3 k (place t r) j := by
  obtain ⟨rfl, rfl, rfl⟩ := h
  refine funext fun a => Fin.ext ?_
  match a with
  | ⟨0, _⟩ => show (y 0).val = k.val; omega
  | ⟨1, _⟩ => show (y 1).val = 256 * t.val + r.val; omega
  | ⟨2, _⟩ => show (y 2).val = j.val; omega

theorem index_0 : ∀ t : Fin grid0.N, win0_0.index t 0 = 0 ∧ win0_0.index t 1 = t.val ∧ win0_0.index t 2 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = t.val ∧ win0_7.index t 1 = 0 := by decide +kernel

section Arrays
variable (m : (ℓ : Loc nD τ sig) → Buf (Elt Ideal) ℓ) (c : Dev nD) (t : Fin cfg0.N) (r : Fin 256) (j : Fin 128)

/-- The arrays as launched. -/
abbrev ps : Vec Ideal S8x1792x128 .f32 := m ((c : Thread nD τ).loc main_arg0)
abbrev ws : Vec Ideal S1792x128 .f32 := m ((c : Thread nD τ).loc main_arg1)
abbrev ms : Vec Ideal S1792x128 .f32 := m ((c : Thread nD τ).loc main_arg2)
abbrev vs : Vec Ideal S1792x128 .f32 := m ((c : Thread nD τ).loc main_arg3)

theorem parts_block : parts (iblk m c 0 t) r j = parts (ps m c) (place t r) j := funext fun k =>
  (congrArg (V m c main_arg0) (place_stack _ t k r j (index_0 t) rfl rfl rfl)).trans (congrFun (V_main_arg0 m c) _)

theorem weight_block : iblk m c 1 t (ix2 r j) = ws m c (ix2 (place t r) j) :=
  (congrArg (V m c main_arg1) (place_table _ t r j (index_1 t) rfl rfl)).trans (congrFun (V_main_arg1 m c) _)

theorem first_block : iblk m c 2 t (ix2 r j) = ms m c (ix2 (place t r) j) :=
  (congrArg (V m c main_arg2) (place_table _ t r j (index_2 t) rfl rfl)).trans (congrFun (V_main_arg2 m c) _)

theorem second_block : iblk m c 3 t (ix2 r j) = vs m c (ix2 (place t r) j) :=
  (congrArg (V m c main_arg3) (place_table _ t r j (index_3 t) rfl rfl)).trans (congrFun (V_main_arg3 m c) _)

theorem read_4 (X : Buf (Elt Ideal) ((c : Thread nD τ).loc main_v0_0)) :
    ((cfg0.win 4).blk t).view.read (Elt Ideal) X (ix2 r j) = X (ix2 (place t r) j) :=
  congrArg X (place_table _ t r j (index_4 t) rfl rfl)

theorem read_5 (X : Buf (Elt Ideal) ((c : Thread nD τ).loc main_v0_1)) :
    ((cfg0.win 5).blk t).view.read (Elt Ideal) X (ix2 r j) = X (ix2 (place t r) j) :=
  congrArg X (place_table _ t r j (index_5 t) rfl rfl)

theorem read_6 (X : Buf (Elt Ideal) ((c : Thread nD τ).loc main_v0_2)) :
    ((cfg0.win 6).blk t).view.read (Elt Ideal) X (ix2 r j) = X (ix2 (place t r) j) :=
  congrArg X (place_table _ t r j (index_6 t) rfl rfl)

theorem read_7 (X : Buf (Elt Ideal) ((c : Thread nD τ).loc main_v0_3)) :
    ((cfg0.win 7).blk t).view.read (Elt Ideal) X (ix2 r j) = X (ix2 (place t r) j) :=
  congrArg X (place_table _ t r j (index_7 t) rfl rfl)

theorem total_out : (dats m 0 c).arrAt 4 cfg0.N (ix2 (place t r) j) = total (parts (ps m c) (place t r) j) := by
  have e := block_total (iblk m c 0 t) (iblk m c 1 t) (iblk m c 2 t) (iblk m c 3 t) r j
  rw [parts_block] at e
  refine (read_4 c t r j _).symm.trans (Eq.trans ?_ e)
  rw [Value.blocks4 m c t (flush0_4 t), Value.flushed4]
  generalize out0_4 (iblk m c 0 t) (iblk m c 1 t) (iblk m c 2 t) (iblk m c 3 t) = X
  rfl

theorem change_out : (dats m 0 c).arrAt 5 cfg0.N (ix2 (place t r) j) = change (parts (ps m c) (place t r) j)
    (ws m c (ix2 (place t r) j)) (ms m c (ix2 (place t r) j)) (vs m c (ix2 (place t r) j)) := by
  have e := block_change (iblk m c 0 t) (iblk m c 1 t) (iblk m c 2 t) (iblk m c 3 t) r j
  rw [parts_block, weight_block, first_block, second_block] at e
  refine (read_5 c t r j _).symm.trans (Eq.trans ?_ e)
  rw [Value.blocks5 m c t (flush0_5 t), Value.flushed5]
  generalize out0_5 (iblk m c 0 t) (iblk m c 1 t) (iblk m c 2 t) (iblk m c 3 t) = X
  rfl

theorem first_out : (dats m 0 c).arrAt 6 cfg0.N (ix2 (place t r) j)
    = first (parts (ps m c) (place t r) j) (ms m c (ix2 (place t r) j)) := by
  have e := block_first (iblk m c 0 t) (iblk m c 1 t) (iblk m c 2 t) (iblk m c 3 t) r j
  rw [parts_block, first_block] at e
  refine (read_6 c t r j _).symm.trans (Eq.trans ?_ e)
  rw [Value.blocks6 m c t (flush0_6 t), Value.flushed6]
  generalize out0_6 (iblk m c 0 t) (iblk m c 1 t) (iblk m c 2 t) (iblk m c 3 t) = X
  rfl

theorem second_out : (dats m 0 c).arrAt 7 cfg0.N (ix2 (place t r) j)
    = second (parts (ps m c) (place t r) j) (vs m c (ix2 (place t r) j)) := by
  have e := block_second (iblk m c 0 t) (iblk m c 1 t) (iblk m c 2 t) (iblk m c 3 t) r j
  rw [parts_block, second_block] at e
  refine (read_7 c t r j _).symm.trans (Eq.trans ?_ e)
  rw [Value.blocks7 m c t (flush0_7 t), Value.flushed7]
  generalize out0_7 (iblk m c 0 t) (iblk m c 1 t) (iblk m c 2 t) (iblk m c 3 t) = X
  rfl

end Arrays

/-! ### The reference -/

section Reference
open Cert.Reference15Ideal.Read
variable (x : Vec Ideal S8x1792x128 .f32) (w a b : Vec Ideal S1792x128 .f32) (i : Fin 1792) (j : Fin 128)

theorem reference_total : val_main_v0 (F := Ideal) x (ix2 i j) = total (parts x i j) := by
  unfold val_main_v0 val_main_cst
  pointwise
  rfl

theorem reference_first : val_main_v5 (F := Ideal) x a (ix2 i j) = first (parts x i j) (a (ix2 i j)) := by
  unfold val_main_v5 val_main_v4 val_main_v3 val_main_v2 val_main_v1 val_main_cst_0 val_main_cst_1
  pointwise
  rw [reference_total]
  rfl

theorem reference_second : val_main_v11 (F := Ideal) x b (ix2 i j) = second (parts x i j) (b (ix2 i j)) := by
  unfold val_main_v11 val_main_v10 val_main_v9 val_main_v8 val_main_v7 val_main_v6 val_main_cst_2 val_main_cst_3
  pointwise
  rw [reference_total]
  rfl

theorem reference_change : val_main_v24 (F := Ideal) x w a b (ix2 i j)
    = change (parts x i j) (w (ix2 i j)) (a (ix2 i j)) (b (ix2 i j)) := by
  unfold val_main_v24 val_main_v23 val_main_v22 val_main_v21 val_main_v20 val_main_v19 val_main_v18 val_main_v17 val_main_v16
    val_main_v15 val_main_v14 val_main_v13 val_main_v12 val_main_cst_4 val_main_cst_5 val_main_cst_6 val_main_cst_7 val_main_cst_8
  pointwise
  rw [reference_first, reference_second]
  rfl

end Reference

/-! ### The four results -/

section Results
open Cert.Reference15Ideal.Read
variable (m : (ℓ : Loc nD τ sig) → Buf (Elt Ideal) ℓ) (c : Dev nD)

theorem gradient : (dats m 0 c).arrAt 4 cfg0.N = val_main_v0 (F := Ideal) (ps m c) :=
  table_ext fun i j => by
    obtain ⟨t, r, rfl⟩ := place_exists i
    exact (total_out m c t r j).trans (reference_total _ _ j).symm

theorem step : (dats m 0 c).arrAt 5 cfg0.N = val_main_v24 (F := Ideal) (ps m c) (ws m c) (ms m c) (vs m c) :=
  table_ext fun i j => by
    obtain ⟨t, r, rfl⟩ := place_exists i
    exact (change_out m c t r j).trans (reference_change _ _ _ _ _ j).symm

theorem first_moment : (dats m 0 c).arrAt 6 cfg0.N = val_main_v5 (F := Ideal) (ps m c) (ms m c) :=
  table_ext fun i j => by
    obtain ⟨t, r, rfl⟩ := place_exists i
    exact (first_out m c t r j).trans (reference_first _ _ _ j).symm

theorem second_moment : (dats m 0 c).arrAt 7 cfg0.N = val_main_v11 (F := Ideal) (ps m c) (vs m c) :=
  table_ext fun i j => by
    obtain ⟨t, r, rfl⟩ := place_exists i
    exact (second_out m c t r j).trans (reference_second _ _ _ j).symm

end Results

end Adam
-- ==== Proof.RowBack.lean ====
/-
  The gradient of a row through its norm, without any condition on the numbers: what the kernel writes and what
  differentiating the plain norm gives agree on every row of extended reals.
-/
module

public import proofs.«01_k».proof.Proof.BackMath
public import proofs.«01_k».proof.Proof.Blocked

@[expose] public section

noncomputable section

namespace FeedForward

open Idealize.ShloMosaic

/-! ### A row with an infinity: its factor is zero -/

theorem square_nonneg (y : EReal) : 0 ≤ y * y :=
  EReal.mul_nonneg_iff.2 ((le_total 0 y).imp (fun h => ⟨h, h⟩) fun h => ⟨h, h⟩)

theorem square_infinite {y : EReal} (h : ¬IsReal y) : y * y = ⊤ := by
  induction y with
  | bot => exact EReal.bot_mul_bot
  | top => exact EReal.top_mul_top
  | coe r => exact absurd ⟨r, rfl⟩ h

theorem meanSquare_infinite {x : Fin 1024 → EReal} {q : Fin 1024} (h : ¬IsReal (x q)) : meanSquare x = ⊤ := by
  obtain ⟨ε, hε, e⟩ := small_word
  have hs : ∑ k, x k * x k = ⊤ := top_le_iff.1 ((square_infinite h).symm.le.trans
    (Finset.single_le_sum (f := fun k => x k * x k) (fun k _ => square_nonneg _) (Finset.mem_univ q)))
  unfold meanSquare
  rw [hs, width_word, e, Ideal.div_coe (by norm_num), EReal.top_mul_coe_of_pos (by norm_num)]
  exact EReal.top_add_coe ε

theorem rowBack_infinite {x : Fin 1024 → EReal} {q : Fin 1024} (h : ¬IsReal (x q)) (g d e : Fin 1024 → EReal) (k : Fin 1024) :
    plainRowBack x g d e k = rowBack x g d e k := by
  have hm := meanSquare_infinite h
  have hs : scale x = 0 := by
    show Ideal.rsqrt (meanSquare x) = 0
    rw [hm]
    rfl
  have hb : meanBack x g e = 0 := by
    unfold meanBack
    rw [hs, hm, Ideal.zero_div EReal.top_ne_zero, mul_zero, mul_zero, width_word, Ideal.div_coe (by norm_num), zero_mul]
  unfold plainRowBack rowBack
  rw [hb, hs, zero_mul, mul_zero, mul_zero, zero_mul, add_zero, add_zero]

/-! ### A real row: its factor is a positive real, over which sums of extended reals distribute -/

theorem twice (y : EReal) {c : ℝ} (hc : c < 0) : y * (c : EReal) + y * (c : EReal) = y * ((2 * c : ℝ) : EReal) := by
  induction y with
  | bot => rw [EReal.bot_mul_coe_of_neg hc, EReal.bot_mul_coe_of_neg (by linarith)]; rfl
  | top => rw [EReal.top_mul_coe_of_neg hc, EReal.top_mul_coe_of_neg (by linarith)]; rfl
  | coe r =>
    rw [← EReal.coe_mul, ← EReal.coe_mul, ← EReal.coe_add]
    congr 1
    ring

theorem rowBack_finite (X : Fin 1024 → ℝ) (g d e : Fin 1024 → EReal) (k : Fin 1024) :
    plainRowBack (fun q => X q) g d e k = rowBack (fun q => X q) g d e k := by
  obtain ⟨μ, hμ, h1, h2⟩ := scale_real X
  have hp : 0 < (√μ)⁻¹ := inv_pos.2 (Real.sqrt_pos.2 hμ)
  have hs : 1 / μ = (√μ)⁻¹ * (√μ)⁻¹ := by
    rw [← mul_inv, Real.mul_self_sqrt hμ.le, one_div]
  have hS : ∑ q, e q * g q * ((X q : EReal) * (((√μ)⁻¹ : ℝ) : EReal))
      = (∑ q, (X q : EReal) * (e q * g q)) * (((√μ)⁻¹ : ℝ) : EReal) := by
    rw [Blocked.sum_mul_of_pos _ _ _ hp]
    exact Finset.sum_congr rfl fun q _ => by rw [← mul_assoc, mul_comm (e q * g q)]
  unfold plainRowBack meanBack rowBack
  rw [h1, h2, minus_half_word, width_word, hS]
  simp only [Ideal.div_coe hμ.ne', Ideal.div_coe (show (1024 : ℝ) ≠ 0 by norm_num)]
  rw [hs]
  generalize (√μ)⁻¹ = s at hp ⊢
  generalize ∑ q, (X q : EReal) * (e q * g q) = S
  generalize (X k : EReal) = y
  generalize e k * g k = A
  have hc : -2⁻¹ * (s * (s * s)) * (1 / 1024) < 0 := by
    have : 0 < s * (s * s) := by positivity
    linarith
  have hM : S * (((-2⁻¹ : ℝ) : EReal) * ((s : EReal) * ((s * s : ℝ) : EReal))) * ((1 / 1024 : ℝ) : EReal)
      = S * ((-2⁻¹ * (s * (s * s)) * (1 / 1024) : ℝ) : EReal) := by
    rw [mul_assoc]
    simp only [EReal.coe_mul]
  have hK : (s : EReal) * (y * s * (S * s * ((1 / 1024 : ℝ) : EReal))) = y * S * ((s * (s * s) * (1 / 1024) : ℝ) : EReal) := by
    simp only [EReal.coe_mul]
    ac_rfl
  rw [hM, add_assoc (d k + _), mul_comm _ y, ← mul_assoc y, twice _ hc, sub_eq_add_neg,
    EReal.left_distrib_of_nonneg_of_ne_top (by exact_mod_cast hp.le) (EReal.coe_ne_top s), mul_neg, hK, ← mul_neg, ← EReal.coe_neg,
    add_assoc, mul_comm A]
  congr 4
  ring

/-- The two formulas agree on every row. -/
theorem rowBack_all (x g d e : Fin 1024 → EReal) (k : Fin 1024) : plainRowBack x g d e k = rowBack x g d e k := by
  by_cases h : ∀ q, IsReal (x q)
  · choose X hX using h
    obtain rfl : x = fun q => (X q : EReal) := funext hX
    exact rowBack_finite X g d e k
  · obtain ⟨q, hq⟩ := not_forall.1 h
    exact rowBack_infinite hq g d e k

end FeedForward
-- ==== Proof.LossHead.lean ====
/-
  The loss with the final norm: what a grid point leaves for its 512 tokens, the loss and the gain's gradient summed over
  the points, and the three results of the reference.
-/
module

public import proofs.«01_k».proof.Proof.Gen.Kernel14Ideal.Value
public import proofs.«01_k».proof.Proof.Gen.Reference14Ideal.Read
public import proofs.«01_k».proof.Proof.FeedForward
public import proofs.«01_k».proof.Proof.RowBack
public import proofs.«01_k».proof.Proof.Tiles
public import Idealize.ShloMosaic.Lib.Pointwise
public import Idealize.ShloMosaic.Lib.ValueIdx

@[expose] public section

set_option maxRecDepth 16384

noncomputable section

namespace LossHead

open Idealize.ShloMosaic Idealize.ShloMosaic.TcCoe Idealize.SL.Sem Cert.Kernel14Ideal Cert.Kernel14Ideal.Gen FeedForward Tiles

/-! ### One token: its row `x`, the gain `g`, its target `t` -/

/-- How far the normalised row misses the target. -/
def missed (x g t : Fin 1024 → EReal) (k : Fin 1024) : EReal := x k * scale x * g k - t k

/-- The loss's gradient there. -/
def missedBack (x g t : Fin 1024 → EReal) (k : Fin 1024) : EReal := missed x g t k * Ideal.ofBits FTy.f32 0x3A800000#32

/-- The mean of the squared misses, and half of it. -/
def missedMean (x g t : Fin 1024 → EReal) : EReal :=
  Ideal.div (∑ k, missed x g t k * missed x g t k) (Ideal.ofBits FTy.f32 0x44800000#32)
def tokenLoss (x g t : Fin 1024 → EReal) : EReal := missedMean x g t * Ideal.ofBits FTy.f32 0x3F000000#32

theorem half_sum {ι : Type} (s : Finset ι) (f : ι → EReal) :
    Ideal.ofBits FTy.f32 0x3F000000#32 * ∑ i ∈ s, f i = ∑ i ∈ s, f i * Ideal.ofBits FTy.f32 0x3F000000#32 := by
  rw [half_word, mul_comm]
  exact Blocked.sum_mul_of_pos s f _ (by norm_num)

theorem part_word : Ideal.ofBits FTy.f32 0x3A800000#32 = ((1 / 1024 : ℝ) : EReal) := by
  simp [Ideal.ofBits, Ideal.ieee]
  try rw [← EReal.coe_mul]
  try norm_num

theorem two_word : Ideal.ofBits FTy.f32 0x40000000#32 = ((2 : ℝ) : EReal) := by
  simp [Ideal.ofBits, Ideal.ieee]
  try rw [← EReal.coe_mul]
  try norm_num

theorem one_word : Ideal.ofBits FTy.f32 0x3F800000#32 = ((1 : ℝ) : EReal) := by
  simp [Ideal.ofBits, Ideal.ieee]
  try rw [← EReal.coe_mul]
  try norm_num

/-- Half the mean's share, times twice the miss, is the miss's share. -/
theorem share (y : EReal) : Ideal.div (Ideal.ofBits FTy.f32 0x3F000000#32 * Ideal.ofBits FTy.f32 0x3F800000#32)
    (Ideal.ofBits FTy.f32 0x44800000#32) * (Ideal.ofBits FTy.f32 0x40000000#32 * y) = y * Ideal.ofBits FTy.f32 0x3A800000#32 := by
  rw [half_word, one_word, two_word, width_word, part_word, Ideal.div_coe (by norm_num), ← mul_assoc, mul_comm y]
  simp only [← EReal.coe_mul]
  congr 2
  norm_num

/-! ### What the body computes -/

theorem loaded_rows (x : Vec Ideal S512x1024 .f32) (h) : View.ld x (Rect.unit ![0, 0] ![512, 1024] h) = x :=
  View.ld_unit_zero (S := S512x1024) zero_offsets h x

theorem loaded_gain (x : Vec Ideal S1x1024 .f32) (h) : View.ld x (Rect.unit ![0, 0] ![1, 1024] h) = x :=
  View.ld_unit_zero (S := S1x1024) zero_offsets h x

theorem loaded_lanes (x : Vec Ideal S1x128 .f32) (h) : View.ld x (Rect.unit ![0, 0] ![1, 128] h) = x :=
  View.ld_unit_zero (S := S1x128) zero_offsets h x

section Body
variable (x u : Vec Ideal S512x1024 .f32) (g s : Vec Ideal S1x1024 .f32) (l : Vec Ideal S1x128 .f32) (r : Fin 512)

/-- The rows' gradient, the gain's gradient over `s` and the loss over `l`. -/
abbrev rowPart : Vec Ideal S512x1024 .f32 := k0_pay1 (k0_pay9 x) (k0_pay10 x) (k0_pay11 x g u) (k0_pay12 x g u)
abbrev gainPart : Vec Ideal S1x1024 .f32 := k0_pay4 (k0_pay8 x g u) (k0_pay10 x) s
abbrev lossPart : Vec Ideal S1x128 .f32 := k0_pay5 (k0_pay7 x g u) l

theorem row_apply (k : Fin 1024) : rowPart x u g (ix2 r k)
    = rowBack (row x r) (row g 0) (fun _ => 0) (missedBack (row x r) (row g 0) (row u r)) k := by
  unfold rowPart k0_pay1 k0_pay12 k0_pay11 k0_pay10 k0_pay9 k0_pay8 k0_pay6
  pointwise
  exact (zero_add _).symm

theorem gain_apply (k : Fin 1024) : gainPart x u g s (ix2 0 k) = s (ix2 0 k)
    + ∑ r : Fin 512, gainBack (row x r) (missedBack (row x r) (row g 0) (row u r)) k := by
  unfold gainPart k0_pay4 k0_pay10 k0_pay9 k0_pay8 k0_pay6
  pointwise
  rfl

theorem loss_apply (k : Fin 128) : lossPart x u g l (ix2 0 k) = l (ix2 0 k)
    + ∑ r : Fin 512, tokenLoss (row x r) (row g 0) (row u r) := by
  refine Eq.trans ?_ (congrArg (l (ix2 0 k) + ·) (half_sum Finset.univ fun r : Fin 512 =>
    missedMean (row x r) (row g 0) (row u r)))
  unfold lossPart k0_pay5 k0_pay7 k0_pay6
  pointwise
  rfl

theorem zero_gain (k : Fin 1024) : k0_pay2 (F := Ideal) (ix2 0 k) = 0 := by
  unfold k0_pay2
  pointwise

theorem zero_loss (k : Fin 128) : k0_pay3 (F := Ideal) (ix2 0 k) = 0 := by
  unfold k0_pay3
  pointwise

end Body

/-! ### What a grid point leaves -/

section Points
variable (c : Dev nD) (i : grid0.Coords) (arg1 : Memref sig .tc .vmem S512x1024 .f32) (h1 : arg1.IsWhole)
  (arg2 : Memref sig .tc .vmem S1x1024 .f32) (h2 : arg2.IsWhole) (arg3 : Memref sig .tc .vmem S512x1024 .f32)
  (h3 : arg3.IsWhole) (arg4 : Memref sig .tc .vmem S1x128 .f32) (h4 : arg4.IsWhole)
  (arg5 : Memref sig .tc .vmem S512x1024 .f32) (h5 : arg5.IsWhole) (arg6 : Memref sig .tc .vmem S1x1024 .f32)
  (h6 : arg6.IsWhole) (x u : Vec Ideal S512x1024 .f32) (g s : Vec Ideal S1x1024 .f32) (l : Vec Ideal S1x128 .f32)

theorem first_loss (hc : cond0_0 i) :
    out0_A_3 c i arg1 h1 arg2 h2 arg3 h3 arg4 h4 arg5 h5 arg6 h6 hc x g u = lossPart x u g (k0_pay3 (F := Ideal)) := by
  unfold out0_A_3
  rw [View.read_writes_eq_canon _ _ _ (fun _ => cover0_A_3 ..)]
  unfold kernelRun0_A
  dsimp only
  sl_unfold_words
  rw [View.canon_cons_unit_zero (S := S1x128) zero_offsets, View.readCov_unit_zero (S := S1x128) _ zero_offsets]
  simp only [View.readAt_eq_ld, h1.read_unread, h2.read_unread, h3.read_unread, loaded_rows, loaded_gain]

theorem first_row (hc : cond0_0 i) :
    out0_A_4 c i arg1 h1 arg2 h2 arg3 h3 arg4 h4 arg5 h5 arg6 h6 hc x g u = rowPart x u g := by
  unfold out0_A_4
  rw [View.read_writes_eq_canon _ _ _ (fun _ => cover0_A_4 ..)]
  unfold kernelRun0_A
  dsimp only
  sl_unfold_words
  rw [View.canon_unit_zero zero_offsets]
  simp only [View.readAt_eq_ld, h1.read_unread, h2.read_unread, h3.read_unread, loaded_rows, loaded_gain]

theorem first_gain (hc : cond0_0 i) :
    out0_A_5 c i arg1 h1 arg2 h2 arg3 h3 arg4 h4 arg5 h5 arg6 h6 hc x g u = gainPart x u g (k0_pay2 (F := Ideal)) := by
  unfold out0_A_5
  rw [View.read_writes_eq_canon _ _ _ (fun _ => cover0_A_5 ..)]
  unfold kernelRun0_A
  dsimp only
  sl_unfold_words
  rw [View.canon_cons_unit_zero (S := S1x1024) zero_offsets, View.readCov_unit_zero (S := S1x1024) _ zero_offsets]
  simp only [View.readAt_eq_ld, h1.read_unread, h2.read_unread, h3.read_unread, loaded_rows, loaded_gain]

theorem next_loss (hc : ¬cond0_0 i) :
    out0_B_3 c i arg1 h1 arg2 h2 arg3 h3 arg4 h4 arg5 h5 arg6 h6 hc x g u l s = lossPart x u g l := by
  unfold out0_B_3
  rw [View.read_writes_eq_canon _ _ _ (fun _ => cover0_B_3 ..)]
  unfold kernelRun0_B
  dsimp only
  sl_unfold_words
  rw [View.canon_unit_zero zero_offsets]
  simp only [View.readAt_eq_ld, h1.read_unread, h2.read_unread, h3.read_unread, h4.read_unread, loaded_rows, loaded_gain,
    loaded_lanes]

theorem next_row (hc : ¬cond0_0 i) :
    out0_B_4 c i arg1 h1 arg2 h2 arg3 h3 arg4 h4 arg5 h5 arg6 h6 hc x g u l s = rowPart x u g := by
  unfold out0_B_4
  rw [View.read_writes_eq_canon _ _ _ (fun _ => cover0_B_4 ..)]
  unfold kernelRun0_B
  dsimp only
  sl_unfold_words
  rw [View.canon_unit_zero zero_offsets]
  simp only [View.readAt_eq_ld, h1.read_unread, h2.read_unread, h3.read_unread, loaded_rows, loaded_gain]

theorem next_gain (hc : ¬cond0_0 i) :
    out0_B_5 c i arg1 h1 arg2 h2 arg3 h3 arg4 h4 arg5 h5 arg6 h6 hc x g u l s = gainPart x u g s := by
  unfold out0_B_5
  rw [View.read_writes_eq_canon _ _ _ (fun _ => cover0_B_5 ..)]
  unfold kernelRun0_B
  dsimp only
  sl_unfold_words
  rw [View.canon_unit_zero zero_offsets]
  simp only [View.readAt_eq_ld, h1.read_unread, h2.read_unread, h3.read_unread, h6.read_unread, loaded_rows, loaded_gain]

end Points

/-! ### The blocks a grid point reads -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel

section Arrays
variable (m : (ℓ : Loc nD τ sig) → Buf (Elt Ideal) ℓ) (c : Dev nD) (t : Fin cfg0.N) (r : Fin 512)

/-- The arrays as launched. -/
abbrev xs : Vec Ideal S16384x1024 .f32 := m ((c : Thread nD τ).loc main_arg0)
abbrev gs : Vec Ideal S1x1024 .f32 := m ((c : Thread nD τ).loc main_arg1)
abbrev us : Vec Ideal S16384x1024 .f32 := m ((c : Thread nD τ).loc main_arg2)

theorem row_block : row (iblk m c 0 t) r = row (xs m c) (token t r) := funext fun k =>
  (congrArg (V m c main_arg0) (place_rows _ t r k (index_0 t) rfl rfl)).trans (congrFun (V_main_arg0 m c) _)

theorem gain_block : row (iblk m c 1 t) 0 = row (gs m c) 0 := funext fun k =>
  (congrArg (V m c main_arg1) (place_whole _ 0 k (index_1 t) rfl rfl)).trans (congrFun (V_main_arg1 m c) _)

theorem target_block : row (iblk m c 2 t) r = row (us m c) (token t r) := funext fun k =>
  (congrArg (V m c main_arg2) (place_rows _ t r k (index_2 t) rfl rfl)).trans (congrFun (V_main_arg2 m c) _)

/-! ### The rows' gradient -/

theorem row_after : (outsAt0 m c t.val t.isLt).2.1 = rowPart (iblk m c 0 t) (iblk m c 2 t) (iblk m c 1 t) := by
  by_cases h : t.val % 32 = 0
  · rw [outsAt0_A m c t h]
    dsimp only
    rw [first_row]
  · rw [outsAt0_B m c t h]
    dsimp only
    rw [next_row]

theorem read_4 (X : Buf (Elt Ideal) ((c : Thread nD τ).loc main_v0_1)) (k : Fin 1024) :
    ((cfg0.win 4).blk t).view.read (Elt Ideal) X (ix2 r k) = X (ix2 (token t r) k) :=
  congrArg X (place_rows _ t r k (index_4 t) rfl rfl)

theorem row_out (k : Fin 1024) : (dats m 0 c).arrAt 4 cfg0.N (ix2 (token t r) k) = rowBack (row (xs m c) (token t r))
    (row (gs m c) 0) (fun _ => 0) (missedBack (row (xs m c) (token t r)) (row (gs m c) 0) (row (us m c) (token t r))) k := by
  have e := row_apply (iblk m c 0 t) (iblk m c 2 t) (iblk m c 1 t) r k
  rw [← row_after, row_block, gain_block, target_block] at e
  refine (read_4 c t r _ k).symm.trans (Eq.trans ?_ e)
  rw [Value.blocks4 m c t (flush0_4 t), Value.flushed4]
  generalize (outsAt0 m c t.val t.isLt).2.1 = X
  rfl

/-! ### The loss and the gain's gradient -/

/-- The tokens' terms. -/
abbrev lossTerms : Fin 16384 → EReal := fun i => tokenLoss (row (xs m c) i) (row (gs m c) 0) (row (us m c) i)
abbrev gainTerms (k : Fin 1024) : Fin 16384 → EReal := fun i =>
  gainBack (row (xs m c) i) (missedBack (row (xs m c) i) (row (gs m c) 0) (row (us m c) i)) k

theorem loss_sum (l : Vec Ideal S1x128 .f32) (k : Fin 128) : lossPart (iblk m c 0 t) (iblk m c 2 t) (iblk m c 1 t) l (ix2 0 k)
    = l (ix2 0 k) + ∑ r : Fin 512, lossTerms m c (token t r) := by
  refine (loss_apply _ _ _ l k).trans (congrArg _ (Finset.sum_congr rfl fun r _ => ?_))
  rw [row_block, gain_block, target_block]

theorem gain_sum (s : Vec Ideal S1x1024 .f32) (k : Fin 1024) :
    gainPart (iblk m c 0 t) (iblk m c 2 t) (iblk m c 1 t) s (ix2 0 k)
      = s (ix2 0 k) + ∑ r : Fin 512, gainTerms m c k (token t r) := by
  refine (gain_apply _ _ _ s k).trans (congrArg _ (Finset.sum_congr rfl fun r _ => ?_))
  rw [row_block, gain_block, target_block]

/-- The loss after each point. -/
theorem loss_after (k : Fin 128) : ∀ (n : ℕ) (hn : n < cfg0.N),
    (outsAt0 m c n hn).1 (ix2 0 k) = Blocked.partialSum (lossTerms m c) (512 * (n + 1)) := by
  have hN : cfg0.N = 32 := N_0
  intro n
  induction n with
  | zero =>
    intro hn
    rw [outsAt0_A m c ⟨0, hn⟩ rfl]
    dsimp only
    rw [first_loss]
    refine (loss_sum m c ⟨0, hn⟩ _ k).trans ?_
    rw [zero_loss, zero_add]
    refine Eq.trans ?_ (Blocked.partialSum_first (lossTerms m c) 512 (by omega)).symm
    exact Finset.sum_congr rfl fun q _ => congrArg _ (Fin.ext (by show 512 * 0 + q.val = q.val; omega))
  | succ n ih =>
    intro hn
    rw [outsAt0_B m c ⟨n + 1, hn⟩ (by show ¬(n + 1) % 32 = 0; omega)]
    dsimp only
    rw [next_loss]
    refine (loss_sum m c ⟨n + 1, hn⟩ _ k).trans ?_
    have e := ih (Nat.lt_of_succ_lt hn)
    refine (congrArg (fun z : EReal => z + ∑ r : Fin 512, lossTerms m c (token ⟨n + 1, hn⟩ r)) e).trans ?_
    exact (Blocked.partialSum_add (lossTerms m c) (512 * (n + 1)) 512 (by omega)).symm

/-- The gain's gradient after each point. -/
theorem gain_after (k : Fin 1024) : ∀ (n : ℕ) (hn : n < cfg0.N),
    (outsAt0 m c n hn).2.2 (ix2 0 k) = Blocked.partialSum (gainTerms m c k) (512 * (n + 1)) := by
  have hN : cfg0.N = 32 := N_0
  intro n
  induction n with
  | zero =>
    intro hn
    rw [outsAt0_A m c ⟨0, hn⟩ rfl]
    dsimp only
    rw [first_gain]
    refine (gain_sum m c ⟨0, hn⟩ _ k).trans ?_
    rw [zero_gain, zero_add]
    refine Eq.trans ?_ (Blocked.partialSum_first (gainTerms m c k) 512 (by omega)).symm
    exact Finset.sum_congr rfl fun q _ => congrArg _ (Fin.ext (by show 512 * 0 + q.val = q.val; omega))
  | succ n ih =>
    intro hn
    rw [outsAt0_B m c ⟨n + 1, hn⟩ (by show ¬(n + 1) % 32 = 0; omega)]
    dsimp only
    rw [next_gain]
    refine (gain_sum m c ⟨n + 1, hn⟩ _ k).trans ?_
    have e := ih (Nat.lt_of_succ_lt hn)
    refine (congrArg (fun z : EReal => z + ∑ r : Fin 512, gainTerms m c k (token ⟨n + 1, hn⟩ r)) e).trans ?_
    exact (Blocked.partialSum_add (gainTerms m c k) (512 * (n + 1)) 512 (by omega)).symm

theorem read_3 (X : Buf (Elt Ideal) ((c : Thread nD τ).loc main_v0_0)) (k : Fin 128) :
    ((cfg0.win 3).blk t).view.read (Elt Ideal) X (ix2 0 k) = X (ix2 0 k) :=
  congrArg X (place_whole _ 0 k (index_3 t) rfl rfl)

theorem read_5 (X : Buf (Elt Ideal) ((c : Thread nD τ).loc main_v0_2)) (k : Fin 1024) :
    ((cfg0.win 5).blk t).view.read (Elt Ideal) X (ix2 0 k) = X (ix2 0 k) :=
  congrArg X (place_whole _ 0 k (index_5 t) rfl rfl)

theorem loss_out (k : Fin 128) : (dats m 0 c).arrAt 3 cfg0.N (ix2 0 k) = ∑ i, lossTerms m c i := by
  have hN : cfg0.N = 32 := N_0
  have hlt : 31 < cfg0.N := by omega
  have hf : (cfg0.win 3).flush ⟨31, hlt⟩ = true := (flush0_3 _).2 rfl
  have hd : ∀ t t' : Fin cfg0.N, (cfg0.win 3).flush t = true → (cfg0.win 3).flush t' = true → t ≠ t' →
      Disjoint ((cfg0.win 3).blk t).view.set ((cfg0.win 3).blk t').view.set := by
    intro t t' h h' hne
    have e := (flush0_3 t).1 h
    have e' := (flush0_3 t').1 h'
    exact absurd (Fin.ext (by have := t.isLt; have := t'.isLt; omega)) hne
  have e := (loss_after m c k 31 hlt).trans (Blocked.partialSum_all (lossTerms m c))
  refine (read_3 c ⟨31, hlt⟩ _ k).symm.trans (Eq.trans ?_ e)
  rw [(dats m 0 c).read_blk_arrAt_eq_flushed 3 hd cfg0.N ⟨31, hlt⟩ hlt hf, Value.flushed3]
  generalize (outsAt0 m c 31 hlt).1 = X
  rfl

theorem gain_out (k : Fin 1024) : (dats m 0 c).arrAt 5 cfg0.N (ix2 0 k) = ∑ i, gainTerms m c k i := by
  have hN : cfg0.N = 32 := N_0
  have hlt : 31 < cfg0.N := by omega
  have hf : (cfg0.win 5).flush ⟨31, hlt⟩ = true := (flush0_5 _).2 rfl
  have hd : ∀ t t' : Fin cfg0.N, (cfg0.win 5).flush t = true → (cfg0.win 5).flush t' = true → t ≠ t' →
      Disjoint ((cfg0.win 5).blk t).view.set ((cfg0.win 5).blk t').view.set := by
    intro t t' h h' hne
    have e := (flush0_5 t).1 h
    have e' := (flush0_5 t').1 h'
    exact absurd (Fin.ext (by have := t.isLt; have := t'.isLt; omega)) hne
  have e := (gain_after m c k 31 hlt).trans (Blocked.partialSum_all (gainTerms m c k))
  refine (read_5 c ⟨31, hlt⟩ _ k).symm.trans (Eq.trans ?_ e)
  rw [(dats m 0 c).read_blk_arrAt_eq_flushed 5 hd cfg0.N ⟨31, hlt⟩ hlt hf, Value.flushed5]
  generalize (outsAt0 m c 31 hlt).2.2 = X
  rfl

end Arrays

/-! ### The reference -/

section Reference
open Cert.Reference14Ideal.Read
variable (x u : Vec Ideal S16384x1024 .f32) (g : Vec Ideal S1x1024 .f32)

theorem missed_at (i : Fin 16384) (k : Fin 1024) :
    val_main_v15 (F := Ideal) x g u (ix2 i k) = missed (row x i) (row g 0) (row u i) k := by
  unfold val_main_v15 val_main_v14 val_main_v13 val_main_v12 val_main_v11 val_main_v7 val_main_v6 val_main_v5 val_main_v4
    val_main_v3 val_main_v2 val_main_v1 val_main_v0 val_main_cst val_main_cst_0 val_main_cst_1
  pointwise
  rfl

theorem back_at (i : Fin 16384) (k : Fin 1024) :
    val_main_v29 (F := Ideal) x g u (ix2 i k) = missedBack (row x i) (row g 0) (row u i) k := by
  refine Eq.trans ?_ ((share _).trans (congrArg (· * Ideal.ofBits FTy.f32 0x3A800000#32) (missed_at x u g i k)))
  unfold val_main_v29 val_main_v28 val_main_v27 val_main_v26 val_main_v25 val_main_v24 val_main_v18 val_main_v17
    val_main_cst_3 val_main_cst_8 val_main_cst_9 val_main_cst_10
  pointwise

theorem reference_loss (k : Fin 128) : val_main_v49 (F := Ideal) x g u (ix2 0 k)
    = ∑ i : Fin 16384, tokenLoss (row x i) (row g 0) (row u i) := by
  have h : val_main_v49 (F := Ideal) x g u (ix2 0 k) = Ideal.ofBits FTy.f32 0x3F000000#32 * ∑ i : Fin 16384,
      Ideal.div (∑ q : Fin 1024, val_main_v15 (F := Ideal) x g u (ix2 i q) * val_main_v15 (F := Ideal) x g u (ix2 i q))
        (Ideal.ofBits FTy.f32 0x44800000#32) := by
    unfold val_main_v49 val_main_v23 val_main_v22 val_main_v21 val_main_v20 val_main_v19 val_main_v16 val_main_cst_4
      val_main_cst_5 val_main_cst_6 val_main_cst_7
    pointwise
  rw [h, half_sum]
  exact Finset.sum_congr rfl fun i _ => by
    simp only [missed_at]
    rfl

theorem reference_gain (k : Fin 1024) : val_main_v32 (F := Ideal) x g u (ix2 0 k)
    = ∑ i : Fin 16384, gainBack (row x i) (missedBack (row x i) (row g 0) (row u i)) k := by
  have h : val_main_v32 (F := Ideal) x g u (ix2 0 k)
      = ∑ i : Fin 16384, x (ix2 i k) * scale (row x i) * val_main_v29 (F := Ideal) x g u (ix2 i k) := by
    unfold val_main_v32 val_main_v31 val_main_v30 val_main_v12 val_main_v11 val_main_v7 val_main_v6 val_main_v5 val_main_v4
      val_main_v3 val_main_v2 val_main_v1 val_main_v0 val_main_cst val_main_cst_0 val_main_cst_1 val_main_cst_11
    pointwise
    rfl
  rw [h]
  exact Finset.sum_congr rfl fun i _ => by
    rw [back_at]
    exact mul_comm _ _

theorem mean_at (i : Fin 16384) : val_main_v43 (F := Ideal) x g u (ix1 i)
    = meanBack (row x i) (row g 0) (missedBack (row x i) (row g 0) (row u i)) := by
  have h : val_main_v43 (F := Ideal) x g u (ix1 i)
      = meanBack (row x i) (row g 0) (fun q => val_main_v29 (F := Ideal) x g u (ix2 i q)) := by
    unfold val_main_v43 val_main_v42 val_main_v41 val_main_v40 val_main_v37 val_main_v36 val_main_v35 val_main_v34 val_main_v33
      val_main_v10 val_main_v9 val_main_v8 val_main_v7 val_main_v6 val_main_v5 val_main_v4 val_main_v3 val_main_v2 val_main_v1
      val_main_v0 val_main_cst val_main_cst_0 val_main_cst_1 val_main_cst_2 val_main_cst_12 val_main_cst_13 val_main_cst_14
    pointwise
    rw [Fin.sum_univ_one]
    rfl
  exact h.trans (congrArg (meanBack (row x i) (row g 0)) (funext fun q => back_at x u g i q))

theorem reference_row (i : Fin 16384) (k : Fin 1024) : val_main_v48 (F := Ideal) x g u (ix2 i k)
    = plainRowBack (row x i) (row g 0) (fun _ => 0) (missedBack (row x i) (row g 0) (row u i)) k := by
  have h : ∀ n : FVec Ideal Cert.Reference14Ideal.S16384 .f32, val_main_v43 (F := Ideal) x g u = n →
      val_main_v48 (F := Ideal) x g u (ix2 i k) = val_main_v29 (F := Ideal) x g u (ix2 i k) * g (ix2 0 k) * scale (row x i)
        + x (ix2 i k) * n (ix1 i) + n (ix1 i) * x (ix2 i k) := by
    intro n hn
    unfold val_main_v48 val_main_v47 val_main_v46 val_main_v45 val_main_v44 val_main_v39 val_main_v38 val_main_v34 val_main_v33
      val_main_v7 val_main_v6 val_main_v5 val_main_v4 val_main_v3 val_main_v2 val_main_v1 val_main_v0 val_main_cst
      val_main_cst_0 val_main_cst_1
    rw [hn]
    pointwise
    rfl
  rw [h _ rfl, mean_at, back_at]
  unfold plainRowBack
  rw [zero_add]

end Reference

/-! ### The three results -/

section Results
open Cert.Reference14Ideal.Read
variable (m : (ℓ : Loc nD τ sig) → Buf (Elt Ideal) ℓ) (c : Dev nD)

theorem loss : (dats m 0 c).arrAt 3 cfg0.N = val_main_v49 (F := Ideal) (xs m c) (gs m c) (us m c) :=
  table_ext fun i k => by
    obtain rfl : i = 0 := Subsingleton.elim _ _
    exact (loss_out m c k).trans (reference_loss _ _ _ k).symm

theorem row_gradient : (dats m 0 c).arrAt 4 cfg0.N = val_main_v48 (F := Ideal) (xs m c) (gs m c) (us m c) :=
  table_ext fun i k => by
    obtain ⟨t, r, rfl⟩ := token_exists i
    exact (row_out m c t r k).trans ((reference_row _ _ _ _ k).trans (rowBack_all _ _ _ _ k)).symm

theorem gain_gradient : (dats m 0 c).arrAt 5 cfg0.N = val_main_v32 (F := Ideal) (xs m c) (gs m c) (us m c) :=
  table_ext fun i k => by
    obtain rfl : i = 0 := Subsingleton.elim _ _
    exact (gain_out m c k).trans (reference_gain _ _ _ k).symm

end Results

end LossHead
-- ==== Proof.MixBack.lean ====
/-
  The mixer's norm backward: what a grid point leaves for its 512 tokens, the gain's gradient summed over the points, and
  the two results of the reference.
-/
module

public import proofs.«01_k».proof.Proof.Gen.Kernel6Ideal.Value
public import proofs.«01_k».proof.Proof.Gen.Reference6Ideal.Read
public import proofs.«01_k».proof.Proof.BackMath
public import proofs.«01_k».proof.Proof.Blocked
public import proofs.«01_k».proof.Proof.Tiles
public import Idealize.ShloMosaic.Lib.Pointwise
public import Idealize.ShloMosaic.Lib.ValueIdx

@[expose] public section

set_option maxRecDepth 16384

noncomputable section

namespace MixBack

open Idealize.ShloMosaic Idealize.ShloMosaic.TcCoe Idealize.SL.Sem Cert.Kernel6Ideal Cert.Kernel6Ideal.Gen FeedForward Tiles

theorem loaded_rows (x : Vec Ideal S512x1024 .f32) (h) : View.ld x (Rect.unit ![0, 0] ![512, 1024] h) = x :=
  View.ld_unit_zero (S := S512x1024) zero_offsets h x

theorem loaded_gain (x : Vec Ideal S1x1024 .f32) (h) : View.ld x (Rect.unit ![0, 0] ![1, 1024] h) = x :=
  View.ld_unit_zero (S := S1x1024) zero_offsets h x

/-! ### What the body computes: rows `x`, gain `g`, gradient of the normalised rows `e`, residual gradient `d` -/

section Body
variable (x e d : Vec Ideal S512x1024 .f32) (g s : Vec Ideal S1x1024 .f32) (r : Fin 512)

theorem row_apply (k : Fin 1024) : k0_pay3 x g e d (ix2 r k) = rowBack (row x r) (row g 0) (row d r) (row e r) k := by
  unfold k0_pay3 k0_pay2 k0_pay1
  pointwise
  rfl

theorem gain_apply (k : Fin 1024) : k0_pay5 x e s (ix2 0 k) = s (ix2 0 k) + ∑ r : Fin 512, gainBack (row x r) (row e r) k := by
  unfold k0_pay5 k0_pay2 k0_pay1
  pointwise
  rfl

theorem zero_apply (k : Fin 1024) : k0_pay4 (F := Ideal) (ix2 0 k) = 0 := by
  unfold k0_pay4
  pointwise

end Body

/-! ### What a grid point leaves -/

section Points
variable (c : Dev nD) (i : grid0.Coords) (arg1 : Memref sig .tc .vmem S512x1024 .f32) (h1 : arg1.IsWhole)
  (arg2 : Memref sig .tc .vmem S1x1024 .f32) (h2 : arg2.IsWhole) (arg3 : Memref sig .tc .vmem S512x1024 .f32)
  (h3 : arg3.IsWhole) (arg4 : Memref sig .tc .vmem S512x1024 .f32) (h4 : arg4.IsWhole)
  (arg5 : Memref sig .tc .vmem S512x1024 .f32) (h5 : arg5.IsWhole) (arg6 : Memref sig .tc .vmem S1x1024 .f32)
  (h6 : arg6.IsWhole) (x e d : Vec Ideal S512x1024 .f32) (g s : Vec Ideal S1x1024 .f32)

theorem first_row (hc : cond0_0 i) :
    out0_A_4 c i arg1 h1 arg2 h2 arg3 h3 arg4 h4 arg5 h5 arg6 h6 hc x g e d = k0_pay3 x g e d := by
  unfold out0_A_4
  rw [View.read_writes_eq_canon _ _ _ (fun _ => cover0_A_4 ..)]
  unfold kernelRun0_A
  dsimp only
  sl_unfold_words
  rw [View.canon_unit_zero zero_offsets]
  simp only [View.readAt_eq_ld, h1.read_unread, h2.read_unread, h3.read_unread, h4.read_unread, loaded_rows, loaded_gain]

theorem first_gain (hc : cond0_0 i) :
    out0_A_5 c i arg1 h1 arg2 h2 arg3 h3 arg4 h4 arg5 h5 arg6 h6 hc x g e d = k0_pay5 x e (k0_pay4 (F := Ideal)) := by
  unfold out0_A_5
  rw [View.read_writes_eq_canon _ _ _ (fun _ => cover0_A_5 ..)]
  unfold kernelRun0_A
  dsimp only
  sl_unfold_words
  rw [View.canon_cons_unit_zero (S := S1x1024) zero_offsets, View.readCov_unit_zero (S := S1x1024) _ zero_offsets]
  simp only [View.readAt_eq_ld, h1.read_unread, h2.read_unread, h3.read_unread, h4.read_unread, loaded_rows, loaded_gain]

theorem next_row (hc : ¬cond0_0 i) :
    out0_B_4 c i arg1 h1 arg2 h2 arg3 h3 arg4 h4 arg5 h5 arg6 h6 hc x g e d s = k0_pay3 x g e d := by
  unfold out0_B_4
  rw [View.read_writes_eq_canon _ _ _ (fun _ => cover0_B_4 ..)]
  unfold kernelRun0_B
  dsimp only
  sl_unfold_words
  rw [View.canon_unit_zero zero_offsets]
  simp only [View.readAt_eq_ld, h1.read_unread, h2.read_unread, h3.read_unread, h4.read_unread, loaded_rows, loaded_gain]

theorem next_gain (hc : ¬cond0_0 i) :
    out0_B_5 c i arg1 h1 arg2 h2 arg3 h3 arg4 h4 arg5 h5 arg6 h6 hc x g e d s = k0_pay5 x e s := by
  unfold out0_B_5
  rw [View.read_writes_eq_canon _ _ _ (fun _ => cover0_B_5 ..)]
  unfold kernelRun0_B
  dsimp only
  sl_unfold_words
  rw [View.canon_unit_zero zero_offsets]
  simp only [View.readAt_eq_ld, h1.read_unread, h2.read_unread, h3.read_unread, h4.read_unread, h6.read_unread, loaded_rows,
    loaded_gain]

end Points

/-! ### The blocks a grid point reads -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel

section Arrays
variable (m : (ℓ : Loc nD τ sig) → Buf (Elt Ideal) ℓ) (c : Dev nD) (t : Fin cfg0.N) (r : Fin 512)

/-- The arrays as launched. -/
abbrev xs : Vec Ideal S16384x1024 .f32 := m ((c : Thread nD τ).loc main_arg0)
abbrev gs : Vec Ideal S1x1024 .f32 := m ((c : Thread nD τ).loc main_arg1)
abbrev es : Vec Ideal S16384x1024 .f32 := m ((c : Thread nD τ).loc main_arg2)
abbrev ds : Vec Ideal S16384x1024 .f32 := m ((c : Thread nD τ).loc main_arg3)

theorem row_block : row (iblk m c 0 t) r = row (xs m c) (token t r) := funext fun k =>
  (congrArg (V m c main_arg0) (place_rows _ t r k (index_0 t) rfl rfl)).trans (congrFun (V_main_arg0 m c) _)

theorem gain_block : row (iblk m c 1 t) 0 = row (gs m c) 0 := funext fun k =>
  (congrArg (V m c main_arg1) (place_whole _ 0 k (index_1 t) rfl rfl)).trans (congrFun (V_main_arg1 m c) _)

theorem grad_block : row (iblk m c 2 t) r = row (es m c) (token t r) := funext fun k =>
  (congrArg (V m c main_arg2) (place_rows _ t r k (index_2 t) rfl rfl)).trans (congrFun (V_main_arg2 m c) _)

theorem residual_block : row (iblk m c 3 t) r = row (ds m c) (token t r) := funext fun k =>
  (congrArg (V m c main_arg3) (place_rows _ t r k (index_3 t) rfl rfl)).trans (congrFun (V_main_arg3 m c) _)

/-! ### The rows' gradient -/

theorem row_after : (outsAt0 m c t.val t.isLt).1 = k0_pay3 (iblk m c 0 t) (iblk m c 1 t) (iblk m c 2 t) (iblk m c 3 t) := by
  by_cases h : t.val % 32 = 0
  · rw [outsAt0_A m c t h]
    dsimp only
    rw [first_row]
  · rw [outsAt0_B m c t h]
    dsimp only
    rw [next_row]

theorem read_4 (X : Buf (Elt Ideal) ((c : Thread nD τ).loc main_v0_0)) (k : Fin 1024) :
    ((cfg0.win 4).blk t).view.read (Elt Ideal) X (ix2 r k) = X (ix2 (token t r) k) :=
  congrArg X (place_rows _ t r k (index_4 t) rfl rfl)

theorem row_out (k : Fin 1024) : (dats m 0 c).arrAt 4 cfg0.N (ix2 (token t r) k)
    = rowBack (row (xs m c) (token t r)) (row (gs m c) 0) (row (ds m c) (token t r)) (row (es m c) (token t r)) k := by
  have e := row_apply (iblk m c 0 t) (iblk m c 2 t) (iblk m c 3 t) (iblk m c 1 t) r k
  rw [← row_after, row_block, gain_block, grad_block, residual_block] at e
  refine (read_4 c t r _ k).symm.trans (Eq.trans ?_ e)
  rw [Value.blocks4 m c t (flush0_4 t), Value.flushed4]
  generalize (outsAt0 m c t.val t.isLt).1 = X
  rfl

/-! ### The gain's gradient -/

/-- The tokens' terms. -/
abbrev gainTerms (k : Fin 1024) : Fin 16384 → EReal := fun i => gainBack (row (xs m c) i) (row (es m c) i) k

theorem gain_sum (s : Vec Ideal S1x1024 .f32) (k : Fin 1024) : k0_pay5 (iblk m c 0 t) (iblk m c 2 t) s (ix2 0 k)
    = s (ix2 0 k) + ∑ r : Fin 512, gainTerms m c k (token t r) := by
  refine (gain_apply _ _ s k).trans (congrArg _ (Finset.sum_congr rfl fun r _ => ?_))
  rw [row_block, grad_block]

/-- The gain's gradient after each point. -/
theorem gain_after (k : Fin 1024) : ∀ (n : ℕ) (hn : n < cfg0.N),
    (outsAt0 m c n hn).2 (ix2 0 k) = Blocked.partialSum (gainTerms m c k) (512 * (n + 1)) := by
  have hN : cfg0.N = 32 := N_0
  intro n
  induction n with
  | zero =>
    intro hn
    rw [outsAt0_A m c ⟨0, hn⟩ rfl]
    dsimp only
    rw [first_gain]
    refine (gain_sum m c ⟨0, hn⟩ _ k).trans ?_
    rw [zero_apply, zero_add]
    refine Eq.trans ?_ (Blocked.partialSum_first (gainTerms m c k) 512 (by omega)).symm
    exact Finset.sum_congr rfl fun q _ => congrArg _ (Fin.ext (by show 512 * 0 + q.val = q.val; omega))
  | succ n ih =>
    intro hn
    rw [outsAt0_B m c ⟨n + 1, hn⟩ (by show ¬(n + 1) % 32 = 0; omega)]
    dsimp only
    rw [next_gain]
    refine (gain_sum m c ⟨n + 1, hn⟩ _ k).trans ?_
    have e := ih (Nat.lt_of_succ_lt hn)
    refine (congrArg (fun z : EReal => z + ∑ r : Fin 512, gainTerms m c k (token ⟨n + 1, hn⟩ r)) e).trans ?_
    exact (Blocked.partialSum_add (gainTerms m c k) (512 * (n + 1)) 512 (by omega)).symm

theorem read_5 (X : Buf (Elt Ideal) ((c : Thread nD τ).loc main_v0_1)) (k : Fin 1024) :
    ((cfg0.win 5).blk t).view.read (Elt Ideal) X (ix2 0 k) = X (ix2 0 k) :=
  congrArg X (place_whole _ 0 k (index_5 t) rfl rfl)

theorem gain_out (k : Fin 1024) : (dats m 0 c).arrAt 5 cfg0.N (ix2 0 k) = ∑ i, gainTerms m c k i := by
  have hN : cfg0.N = 32 := N_0
  have hlt : 31 < cfg0.N := by omega
  have hf : (cfg0.win 5).flush ⟨31, hlt⟩ = true := (flush0_5 _).2 rfl
  have hd : ∀ t t' : Fin cfg0.N, (cfg0.win 5).flush t = true → (cfg0.win 5).flush t' = true → t ≠ t' →
      Disjoint ((cfg0.win 5).blk t).view.set ((cfg0.win 5).blk t').view.set := by
    intro t t' h h' hne
    have e := (flush0_5 t).1 h
    have e' := (flush0_5 t').1 h'
    exact absurd (Fin.ext (by have := t.isLt; have := t'.isLt; omega)) hne
  have e := (gain_after m c k 31 hlt).trans (Blocked.partialSum_all (gainTerms m c k))
  refine (read_5 c ⟨31, hlt⟩ _ k).symm.trans (Eq.trans ?_ e)
  rw [(dats m 0 c).read_blk_arrAt_eq_flushed 5 hd cfg0.N ⟨31, hlt⟩ hlt hf, Value.flushed5]
  generalize (outsAt0 m c 31 hlt).2 = X
  rfl

end Arrays

/-! ### The reference -/

section Reference
open Cert.Reference6Ideal.Read
variable (x e d : Vec Ideal S16384x1024 .f32) (g : Vec Ideal S1x1024 .f32)

theorem mean_at (i : Fin 16384) : val_main_v28 (F := Ideal) x g e (ix1 i) = meanBack (row x i) (row g 0) (row e i) := by
  unfold val_main_v28 val_main_v27 val_main_v26 val_main_v25 val_main_v22 val_main_v21 val_main_v20 val_main_v19 val_main_v18
    val_main_v10 val_main_v9 val_main_v8 val_main_v7 val_main_v6 val_main_v5 val_main_v4 val_main_v3 val_main_v2 val_main_v1
    val_main_v0 val_main_cst val_main_cst_0 val_main_cst_1 val_main_cst_2 val_main_cst_4 val_main_cst_5 val_main_cst_6
  pointwise
  rw [Fin.sum_univ_one]
  rfl

theorem reference_row (i : Fin 16384) (k : Fin 1024) : val_main_v34 (F := Ideal) x g e d (ix2 i k)
    = plainRowBack (row x i) (row g 0) (row d i) (row e i) k := by
  have h : ∀ n : FVec Ideal Cert.Reference6Ideal.S16384 .f32, val_main_v28 (F := Ideal) x g e = n →
      val_main_v34 (F := Ideal) x g e d (ix2 i k) = d (ix2 i k) + (e (ix2 i k) * g (ix2 0 k) * scale (row x i)
        + x (ix2 i k) * n (ix1 i) + n (ix1 i) * x (ix2 i k)) := by
    intro n hn
    unfold val_main_v34 val_main_v33 val_main_v32 val_main_v31 val_main_v30 val_main_v29 val_main_v24 val_main_v23 val_main_v19
      val_main_v18 val_main_v7 val_main_v6 val_main_v5 val_main_v4 val_main_v3 val_main_v2 val_main_v1
      val_main_v0 val_main_cst val_main_cst_0 val_main_cst_1
    rw [hn]
    pointwise
    rfl
  rw [h _ rfl, mean_at]
  unfold plainRowBack
  rw [add_assoc (row d i k + _), add_assoc (row d i k), add_assoc]

theorem reference_gain (k : Fin 1024) : val_main_v17 (F := Ideal) x e (ix2 0 k)
    = ∑ i : Fin 16384, gainBack (row x i) (row e i) k := by
  unfold val_main_v17 val_main_v16 val_main_v15 val_main_v12 val_main_v11 val_main_v7 val_main_v6 val_main_v5 val_main_v4
    val_main_v3 val_main_v2 val_main_v1 val_main_v0 val_main_cst val_main_cst_0 val_main_cst_1 val_main_cst_3
  pointwise
  exact Finset.sum_congr rfl fun i _ => mul_comm _ _

end Reference

end MixBack
-- ==== Proof.MixNorm.lean ====
/-
  The mixer's norm: the normalised rows, 512 tokens to a grid point.
-/
module

public import proofs.«01_k».proof.Proof.Gen.Kernel11Ideal.Value
public import proofs.«01_k».proof.Proof.Gen.Reference11Ideal.Read
public import proofs.«01_k».proof.Proof.BackMath
public import proofs.«01_k».proof.Proof.Tiles
public import Idealize.ShloMosaic.Lib.Pointwise
public import Idealize.ShloMosaic.Lib.ValueIdx

@[expose] public section

set_option maxRecDepth 16384

noncomputable section

namespace MixNorm

open Idealize.ShloMosaic Idealize.ShloMosaic.TcCoe Idealize.SL.Sem Cert.Kernel11Ideal Cert.Kernel11Ideal.Gen FeedForward Tiles

theorem block_at (x : Vec Ideal S512x1024 .f32) (g : Vec Ideal S1x1024 .f32) (r : Fin 512) (k : Fin 1024) :
    out0_2 x g (ix2 r k) = normed (row x r) (row g 0) k := by
  have hx : View.ld x r0_0 = x := View.ld_unit_zero (S := S512x1024) zero_offsets _ x
  have hg : View.ld g r0_1 = g := View.ld_unit_zero (S := S1x1024) zero_offsets _ g
  unfold out0_2
  rw [hx, hg]
  refine (congrFun (View.canon_unit_zero zero_offsets _ _) _).trans ?_
  unfold k0_pay1
  pointwise
  rfl

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (m : (ℓ : Loc nD τ sig) → Buf (Elt Ideal) ℓ) (c : Dev nD) (t : Fin cfg0.N) (r : Fin 512)

/-- The arrays as launched. -/
abbrev xs : Vec Ideal S16384x1024 .f32 := m ((c : Thread nD τ).loc main_arg0)
abbrev gs : Vec Ideal S1x1024 .f32 := m ((c : Thread nD τ).loc main_arg1)

theorem row_block : row (iblk m c 0 t) r = row (xs m c) (token t r) := funext fun k =>
  (congrArg (V m c main_arg0) (place_rows _ t r k (index_0 t) rfl rfl)).trans (congrFun (V_main_arg0 m c) _)

theorem gain_block : row (iblk m c 1 t) 0 = row (gs m c) 0 := funext fun k =>
  (congrArg (V m c main_arg1) (place_whole _ 0 k (index_1 t) rfl rfl)).trans (congrFun (V_main_arg1 m c) _)

theorem read_2 (X : Buf (Elt Ideal) ((c : Thread nD τ).loc main_v0)) (k : Fin 1024) :
    ((cfg0.win 2).blk t).view.read (Elt Ideal) X (ix2 r k) = X (ix2 (token t r) k) :=
  congrArg X (place_rows _ t r k (index_2 t) rfl rfl)

theorem array_at (k : Fin 1024) :
    (dats m 0 c).arrAt 2 cfg0.N (ix2 (token t r) k) = normed (row (xs m c) (token t r)) (row (gs m c) 0) k := by
  have e := block_at (iblk m c 0 t) (iblk m c 1 t) r k
  rw [row_block, gain_block] at e
  refine (read_2 c t r _ k).symm.trans (Eq.trans ?_ e)
  rw [Value.blocks2 m c t (flush0_2 t), Value.flushed2]
  generalize out0_2 (iblk m c 0 t) (iblk m c 1 t) = X
  rfl

theorem reference_at (x : Vec Ideal S16384x1024 .f32) (g : Vec Ideal S1x1024 .f32) (i : Fin 16384) (k : Fin 1024) :
    Cert.Reference11Ideal.Read.val_main_v12 (F := Ideal) x g (ix2 i k) = normed (row x i) (row g 0) k := by
  unfold Cert.Reference11Ideal.Read.val_main_v12 Cert.Reference11Ideal.Read.val_main_v11 Cert.Reference11Ideal.Read.val_main_v10
    Cert.Reference11Ideal.Read.val_main_v9 Cert.Reference11Ideal.Read.val_main_v8 Cert.Reference11Ideal.Read.val_main_v7
    Cert.Reference11Ideal.Read.val_main_v6 Cert.Reference11Ideal.Read.val_main_v5 Cert.Reference11Ideal.Read.val_main_v4
    Cert.Reference11Ideal.Read.val_main_v3 Cert.Reference11Ideal.Read.val_main_v2 Cert.Reference11Ideal.Read.val_main_v1
    Cert.Reference11Ideal.Read.val_main_v0 Cert.Reference11Ideal.Read.val_main_cst Cert.Reference11Ideal.Read.val_main_cst_0
    Cert.Reference11Ideal.Read.val_main_cst_1
  pointwise
  rfl

end MixNorm
-- ==== Proof.OutGrad.lean ====
/-
  The gradient of the output projection's matrix: the product of the transposed mixer outputs with the gradient, summed
  over the tokens eight blocks of 2048 at a time in a scratch block that the last point stores.
-/
module

public import proofs.«01_k».proof.Proof.Gen.Kernel10Ideal.Value
public import proofs.«01_k».proof.Proof.Gen.Reference10Ideal.Read
public import proofs.«01_k».proof.Proof.Blocked
public import proofs.«01_k».proof.Proof.Tiles
public import Idealize.ShloMosaic.Lib.Pointwise
public import Idealize.ShloMosaic.Lib.ValueIdx

@[expose] public section

set_option maxRecDepth 16384

noncomputable section

namespace OutGrad

open Idealize.ShloMosaic Idealize.ShloMosaic.TcCoe Idealize.SL.Sem Cert.Kernel10Ideal Cert.Kernel10Ideal.Gen Tiles

theorem loaded_left (x : Vec Ideal S2048x1024 .bf16) (h) : View.ld x (Rect.unit ![0, 0] ![2048, 1024] h) = x :=
  View.ld_unit_zero (S := S2048x1024) zero_offsets h x

theorem loaded_right (x : Vec Ideal S2048x1024 .f32) (h) : View.ld x (Rect.unit ![0, 0] ![2048, 1024] h) = x :=
  View.ld_unit_zero (S := S2048x1024) zero_offsets h x

theorem loaded_sum (x : Vec Ideal S1024x1024 .f32) (h) : View.ld x (Rect.unit ![0, 0] ![1024, 1024] h) = x :=
  View.ld_unit_zero (S := S1024x1024) zero_offsets h x

/-! ### What the body computes -/

/-- A block's product. -/
theorem product_apply (x : Vec Ideal S2048x1024 .bf16) (y : Vec Ideal S2048x1024 .f32) (r l : Fin 1024) :
    k0_pay1 x y (ix2 r l) = ∑ q : Fin 2048, x (ix2 q r) * y (ix2 q l) := by
  unfold k0_pay1
  pointwise

/-- The first block's product. -/
theorem start_apply (x : Vec Ideal S2048x1024 .bf16) (y : Vec Ideal S2048x1024 .f32) (r l : Fin 1024) :
    k0_pay2 x y (ix2 r l) = k0_pay1 x y (ix2 r l) := by
  unfold k0_pay2
  rw [shapeCast_self]

/-- A later block's product, added to what the scratch holds. -/
theorem add_apply (x : Vec Ideal S2048x1024 .bf16) (y : Vec Ideal S2048x1024 .f32) (s : Vec Ideal S1024x1024 .f32)
    (r l : Fin 1024) :
    k0_pay3 x y s (ix2 r l) = s (ix2 r l) + k0_pay1 x y (ix2 r l) := by
  unfold k0_pay3
  rw [shapeCast_self]
  rfl

/-! ### What a grid point leaves -/

section Points
variable (c : Dev nD) (i : grid0.Coords) (arg3 : Memref sig .tc .vmem S2048x1024 .bf16) (h3 : arg3.IsWhole)
  (arg4 : Memref sig .tc .vmem S2048x1024 .f32) (h4 : arg4.IsWhole) (arg5 : Memref sig .tc .vmem S1024x1024 .f32)
  (h5 : arg5.IsWhole) (arg6 : Memref sig .tc .vmem S1024x1024 .f32) (h6 : arg6.IsWhole)
  (x : Vec Ideal S2048x1024 .bf16) (y : Vec Ideal S2048x1024 .f32) (s : Vec Ideal S1024x1024 .f32)

theorem first_scratch (c0 : cond0_0 i) (c1 : ¬cond0_1 i) (c2 : ¬cond0_2 i) :
    sout0_A_0 c i arg3 h3 arg4 h4 arg5 h5 arg6 h6 c0 c1 c2 x y = k0_pay2 x y := by
  unfold sout0_A_0
  rw [View.read_writes_eq_canon _ _ _ (scover0_A_0 c i arg3 h3 arg4 h4 arg5 h5 arg6 h6 c0 c1 c2 x y)]
  unfold kernelRun0_A
  dsimp only
  rw [View.canon_unit_zero zero_offsets]
  simp only [View.readAt_eq_ld, h3.read_unread, h4.read_unread, loaded_left, loaded_right]

theorem middle_scratch (c0 : ¬cond0_0 i) (c1 : cond0_1 i) (c2 : ¬cond0_2 i) :
    sout0_B_0 c i arg3 h3 arg4 h4 arg5 h5 arg6 h6 c0 c1 c2 x y s = k0_pay3 x y s := by
  unfold sout0_B_0
  rw [View.read_writes_eq_canon _ _ _ (scover0_B_0 c i arg3 h3 arg4 h4 arg5 h5 arg6 h6 c0 c1 c2 x y s)]
  unfold kernelRun0_B
  dsimp only
  rw [View.canon_unit_zero zero_offsets]
  simp only [View.readAt_eq_ld, h3.read_unread, h4.read_unread, h6.read_unread, loaded_left, loaded_right, loaded_sum]

theorem last_scratch (c0 : ¬cond0_0 i) (c1 : cond0_1 i) (c2 : cond0_2 i) :
    sout0_C_0 c i arg3 h3 arg4 h4 arg5 h5 arg6 h6 c0 c1 c2 x y s = k0_pay3 x y s := by
  unfold sout0_C_0
  rw [View.read_writes_eq_canon _ _ _ (scover0_C_0 c i arg3 h3 arg4 h4 arg5 h5 arg6 h6 c0 c1 c2 x y s)]
  unfold kernelRun0_C
  dsimp only
  sl_unfold_words
  rw [View.canon_unit_zero zero_offsets]
  simp only [View.readAt_eq_ld, h3.read_unread, h4.read_unread, h6.read_unread, loaded_left, loaded_right, loaded_sum]

theorem last_output (c0 : ¬cond0_0 i) (c1 : cond0_1 i) (c2 : cond0_2 i) :
    out0_C_2 c i arg3 h3 arg4 h4 arg5 h5 arg6 h6 c0 c1 c2 x y s = k0_pay3 x y s := by
  unfold out0_C_2
  rw [View.read_writes_eq_canon _ _ _ (cover0_C_2 c i arg3 h3 arg4 h4 arg5 h5 arg6 h6 c0 c1 c2 x y s)]
  unfold kernelRun0_C
  dsimp only
  sl_unfold_words
  rw [View.canon_unit_zero zero_offsets, View.readCov_unit_zero (S := S1024x1024) _ zero_offsets]
  simp only [View.readAt_eq_ld, h3.read_unread, h4.read_unread, h6.read_unread, loaded_left, loaded_right, loaded_sum, shapeCast_self]

end Points

/-! ### The blocks a grid point reads -/

theorem index_left : ∀ t : Fin grid0.N, win0_0.index t 0 = t.val % 8 ∧ win0_0.index t 1 = 0 := by decide +kernel
theorem index_right : ∀ t : Fin grid0.N, win0_1.index t 0 = t.val % 8 ∧ win0_1.index t 1 = 0 := by decide +kernel

variable (m : (ℓ : Loc nD τ sig) → Buf (Elt Ideal) ℓ) (c : Dev nD) (t : Fin cfg0.N)

theorem left_at (q : Fin 2048) (r : Fin 1024) (k : Fin 16384) (ρ : Fin 1024) (hk : k.val = 2048 * (t.val % 8) + q.val)
    (hρ : ρ.val = r.val) :
    iblk m c 0 t (ix2 q r) = m ((c : Thread nD τ).loc main_arg0) (ix2 k ρ) := by
  refine (congrArg (V m c main_arg0) ?_).trans (congrFun (V_main_arg0 m c) _)
  obtain ⟨e0, e1⟩ := index_left t
  funext a
  apply Fin.ext
  match a with
  | ⟨0, _⟩ => show win0_0.index t 0 * 2048 + 1 * q.val = k.val; omega
  | ⟨1, _⟩ => show win0_0.index t 1 * 1024 + 1 * r.val = ρ.val; omega

theorem right_at (q : Fin 2048) (l : Fin 1024) (k : Fin 16384) (γ : Fin 1024) (hk : k.val = 2048 * (t.val % 8) + q.val)
    (hγ : γ.val = l.val) :
    iblk m c 1 t (ix2 q l) = m ((c : Thread nD τ).loc main_arg1) (ix2 k γ) := by
  refine (congrArg (V m c main_arg1) ?_).trans (congrFun (V_main_arg1 m c) _)
  obtain ⟨e0, e1⟩ := index_right t
  funext a
  apply Fin.ext
  match a with
  | ⟨0, _⟩ => show win0_1.index t 0 * 2048 + 1 * q.val = k.val; omega
  | ⟨1, _⟩ => show win0_1.index t 1 * 1024 + 1 * l.val = γ.val; omega

/-! ### The sum over the tokens -/

/-- The terms of one entry of the gradient, token by token. -/
def terms (A : Vec Ideal S16384x1024 .bf16) (B : Vec Ideal S16384x1024 .f32) (ρ γ : Fin 1024) :
    Fin 16384 → EReal := fun k => A (ix2 k ρ) * B (ix2 k γ)

/-- The terms of the entry, of the arrays as launched. -/
abbrev launched (ρ γ : Fin 1024) : Fin 16384 → EReal :=
  terms (m ((c : Thread nD τ).loc main_arg0)) (m ((c : Thread nD τ).loc main_arg1)) ρ γ

variable {r l ρ γ : Fin 1024}

/-- One block's product is the block's part of the sum. -/
theorem block_sum (hρ : ρ.val = r.val) (hγ : γ.val = l.val) :
    k0_pay1 (iblk m c 0 t) (iblk m c 1 t) (ix2 r l)
      = ∑ q : Fin 2048, launched m c ρ γ ⟨2048 * (t.val % 8) + q.val, by omega⟩ :=
  (product_apply _ _ r l).trans <| Finset.sum_congr rfl fun q _ => congrArg₂ (fun u v : EReal => u * v)
    (left_at m c t q r ⟨2048 * (t.val % 8) + q.val, by omega⟩ ρ rfl hρ)
    (right_at m c t q l ⟨2048 * (t.val % 8) + q.val, by omega⟩ γ rfl hγ)

/-- At a run's first point. -/
theorem started (h : t.val % 8 = 0) (hρ : ρ.val = r.val) (hγ : γ.val = l.val) :
    (outsAt0 m c t.val t.isLt).2 (ix2 r l) = Blocked.partialSum (launched m c ρ γ) (2048 * (t.val % 8 + 1)) := by
  have hN : cfg0.N = 8 := N_0
  have ht := t.isLt
  rw [outsAt0_A m c t h (by omega) (by omega)]
  dsimp only
  rw [first_scratch, start_apply, block_sum m c t hρ hγ, show 2048 * (t.val % 8 + 1) = 2048 from by omega]
  refine Eq.trans ?_ (Blocked.partialSum_first (launched m c ρ γ) 2048 (by omega)).symm
  exact Finset.sum_congr rfl fun q _ => congrArg _ (Fin.ext (by show 2048 * (t.val % 8) + q.val = q.val; omega))

/-- At a later point, over what the point before left. -/
theorem continued (hρ : ρ.val = r.val) (hγ : γ.val = l.val)
    (s : Vec Ideal S1024x1024 .f32) (hs : s (ix2 r l) = Blocked.partialSum (launched m c ρ γ) (2048 * (t.val % 8))) :
    k0_pay3 (iblk m c 0 t) (iblk m c 1 t) s (ix2 r l) = Blocked.partialSum (launched m c ρ γ) (2048 * (t.val % 8 + 1)) := by
  rw [add_apply, hs, block_sum m c t hρ hγ]
  exact (Blocked.partialSum_add (launched m c ρ γ) (2048 * (t.val % 8)) 2048 (by omega)).symm

/-- What the scratch block holds after each point. -/
theorem scratch_at : ∀ (n : ℕ) (hn : n < cfg0.N), ρ.val = r.val → γ.val = l.val →
    (outsAt0 m c n hn).2 (ix2 r l) = Blocked.partialSum (launched m c ρ γ) (2048 * (n % 8 + 1)) := by
  intro n
  induction n with
  | zero => exact fun hn hρ hγ => started m c ⟨0, hn⟩ rfl hρ hγ
  | succ n ih =>
    intro hn hρ hγ
    by_cases h0 : (n + 1) % 8 = 0
    · exact started m c ⟨n + 1, hn⟩ h0 hρ hγ
    · have e := ih (Nat.lt_of_succ_lt hn) (by omega) (by omega)
      rw [show n % 8 + 1 = (n + 1) % 8 from by omega] at e
      by_cases h2 : (n + 1) % 8 = 7
      · rw [outsAt0_C m c ⟨n + 1, hn⟩ h0 (by show 1 ≤ n + 1; omega) h2]
        dsimp only
        rw [last_scratch]
        exact continued m c ⟨n + 1, hn⟩ hρ hγ _ e
      · rw [outsAt0_B m c ⟨n + 1, hn⟩ h0 (by show 1 ≤ n + 1; omega) h2]
        dsimp only
        rw [middle_scratch]
        exact continued m c ⟨n + 1, hn⟩ hρ hγ _ e

/-- What the last point of a run stores: the whole sum. -/
theorem stored (n : ℕ) (hn : n < cfg0.N) (h : n % 8 = 7) (hρ : ρ.val = r.val)
    (hγ : γ.val = l.val) :
    (outsAt0 m c n hn).1 (ix2 r l) = ∑ k, launched m c ρ γ k := by
  have e := scratch_at m c n hn hρ hγ
  rw [outsAt0_C m c ⟨n, hn⟩ (by show ¬n % 8 = 0; omega) (by show 1 ≤ n; omega) h] at e ⊢
  dsimp only at e ⊢
  rw [last_scratch] at e
  rw [last_output, e, h]
  exact Blocked.partialSum_all (launched m c ρ γ)

/-- The gradient's array after the run. -/
theorem array_at (ρ γ : Fin 1024) : Value.G2 m c (ix2 ρ γ) = ∑ k, launched m c ρ γ k := by
  have hN : cfg0.N = 8 := N_0
  have hρ := ρ.isLt
  have hγ := γ.isLt
  have hp : Value.pt2Of (ix2 ρ γ) = 7 := by
    show 8 * (1 * (ρ.val / 1024 - 0) + 1 * (γ.val / 1024 - 0)) + 7 = _
    omega
  have hl : Value.loc2Of (ix2 ρ γ) = ix2 ⟨ρ.val % 1024, Nat.mod_lt _ (by decide)⟩ ⟨γ.val % 1024, Nat.mod_lt _ (by decide)⟩ := by
    funext a
    match a with
    | ⟨0, _⟩ => rfl
    | ⟨1, _⟩ => rfl
  have hlt : Value.pt2Of (ix2 ρ γ) < cfg0.N := by rw [hp, hN]; omega
  unfold Value.G2
  rw [dif_pos hlt, ← Value.outsAt0_sweep m c _ hlt, hl]
  exact stored m c _ _ (by omega) (by show ρ.val = ρ.val % 1024; omega) (by show γ.val = γ.val % 1024; omega)

/-! ### The reference -/

/-- The reference's gradient. -/
theorem reference_at (A : Vec Ideal S16384x1024 .bf16) (B : Vec Ideal S16384x1024 .f32) (ρ γ : Fin 1024) :
    Cert.Reference10Ideal.Read.val_main_v4 A B (ix2 ρ γ) = ∑ k, terms A B ρ γ k := by
  rw [Cert.Reference10Ideal.Read.val_main_v4_apply, Cert.Reference10Ideal.Read.val_main_v3_apply]
  refine Finset.sum_congr rfl fun k _ => ?_
  rw [Cert.Reference10Ideal.Read.val_main_v1_apply, mul_comm]
  exact congrArg₂ (fun u v : EReal => u * v) (congrArg A (funext fun a => by fin_cases a <;> rfl))
    (congrArg B (funext fun a => by fin_cases a <;> rfl))

end OutGrad
-- ==== Proof.ProjGrad.lean ====
/-
  The gradient of the input projection's matrix: the product of the transposed normalised rows with the gradient, summed
  over the tokens eight blocks of 2048 at a time in a scratch block that the last point stores.
-/
module

public import proofs.«01_k».proof.Proof.Gen.Kernel9Ideal.Value
public import proofs.«01_k».proof.Proof.Gen.Reference9Ideal.Read
public import proofs.«01_k».proof.Proof.Blocked
public import proofs.«01_k».proof.Proof.Tiles
public import Idealize.ShloMosaic.Lib.Pointwise
public import Idealize.ShloMosaic.Lib.ValueIdx

@[expose] public section

set_option maxRecDepth 16384

noncomputable section

namespace ProjGrad

open Idealize.ShloMosaic Idealize.ShloMosaic.TcCoe Idealize.SL.Sem Cert.Kernel9Ideal Cert.Kernel9Ideal.Gen Tiles

theorem loaded_left (x : Vec Ideal S2048x512 .bf16) (h) : View.ld x (Rect.unit ![0, 0] ![2048, 512] h) = x :=
  View.ld_unit_zero (S := S2048x512) zero_offsets h x

theorem loaded_right (x : Vec Ideal S2048x2432 .bf16) (h) : View.ld x (Rect.unit ![0, 0] ![2048, 2432] h) = x :=
  View.ld_unit_zero (S := S2048x2432) zero_offsets h x

theorem loaded_sum (x : Vec Ideal S512x2432 .f32) (h) : View.ld x (Rect.unit ![0, 0] ![512, 2432] h) = x :=
  View.ld_unit_zero (S := S512x2432) zero_offsets h x

/-! ### What the body computes -/

/-- A block's product. -/
theorem product_apply (x : Vec Ideal S2048x512 .bf16) (y : Vec Ideal S2048x2432 .bf16) (r : Fin 512) (l : Fin 2432) :
    k0_pay1 x y (ix2 r l) = ∑ q : Fin 2048, x (ix2 q r) * y (ix2 q l) := by
  unfold k0_pay1
  pointwise

/-- The first block's product. -/
theorem start_apply (x : Vec Ideal S2048x512 .bf16) (y : Vec Ideal S2048x2432 .bf16) (r : Fin 512) (l : Fin 2432) :
    k0_pay2 x y (ix2 r l) = k0_pay1 x y (ix2 r l) := by
  unfold k0_pay2
  rw [shapeCast_self]

/-- A later block's product, added to what the scratch holds. -/
theorem add_apply (x : Vec Ideal S2048x512 .bf16) (y : Vec Ideal S2048x2432 .bf16) (s : Vec Ideal S512x2432 .f32)
    (r : Fin 512) (l : Fin 2432) :
    k0_pay3 x y s (ix2 r l) = s (ix2 r l) + k0_pay1 x y (ix2 r l) := by
  unfold k0_pay3
  rw [shapeCast_self]
  rfl

/-! ### What a grid point leaves -/

section Points
variable (c : Dev nD) (i : grid0.Coords) (arg3 : Memref sig .tc .vmem S2048x512 .bf16) (h3 : arg3.IsWhole)
  (arg4 : Memref sig .tc .vmem S2048x2432 .bf16) (h4 : arg4.IsWhole) (arg5 : Memref sig .tc .vmem S512x2432 .f32)
  (h5 : arg5.IsWhole) (arg6 : Memref sig .tc .vmem S512x2432 .f32) (h6 : arg6.IsWhole)
  (x : Vec Ideal S2048x512 .bf16) (y : Vec Ideal S2048x2432 .bf16) (s : Vec Ideal S512x2432 .f32)

theorem first_scratch (c0 : cond0_0 i) (c1 : ¬cond0_1 i) (c2 : ¬cond0_2 i) :
    sout0_A_0 c i arg3 h3 arg4 h4 arg5 h5 arg6 h6 c0 c1 c2 x y = k0_pay2 x y := by
  unfold sout0_A_0
  rw [View.read_writes_eq_canon _ _ _ (scover0_A_0 c i arg3 h3 arg4 h4 arg5 h5 arg6 h6 c0 c1 c2 x y)]
  unfold kernelRun0_A
  dsimp only
  rw [View.canon_unit_zero zero_offsets]
  simp only [View.readAt_eq_ld, h3.read_unread, h4.read_unread, loaded_left, loaded_right]

theorem middle_scratch (c0 : ¬cond0_0 i) (c1 : cond0_1 i) (c2 : ¬cond0_2 i) :
    sout0_B_0 c i arg3 h3 arg4 h4 arg5 h5 arg6 h6 c0 c1 c2 x y s = k0_pay3 x y s := by
  unfold sout0_B_0
  rw [View.read_writes_eq_canon _ _ _ (scover0_B_0 c i arg3 h3 arg4 h4 arg5 h5 arg6 h6 c0 c1 c2 x y s)]
  unfold kernelRun0_B
  dsimp only
  rw [View.canon_unit_zero zero_offsets]
  simp only [View.readAt_eq_ld, h3.read_unread, h4.read_unread, h6.read_unread, loaded_left, loaded_right, loaded_sum]

theorem last_scratch (c0 : ¬cond0_0 i) (c1 : cond0_1 i) (c2 : cond0_2 i) :
    sout0_C_0 c i arg3 h3 arg4 h4 arg5 h5 arg6 h6 c0 c1 c2 x y s = k0_pay3 x y s := by
  unfold sout0_C_0
  rw [View.read_writes_eq_canon _ _ _ (scover0_C_0 c i arg3 h3 arg4 h4 arg5 h5 arg6 h6 c0 c1 c2 x y s)]
  unfold kernelRun0_C
  dsimp only
  sl_unfold_words
  rw [View.canon_unit_zero zero_offsets]
  simp only [View.readAt_eq_ld, h3.read_unread, h4.read_unread, h6.read_unread, loaded_left, loaded_right, loaded_sum]

theorem last_output (c0 : ¬cond0_0 i) (c1 : cond0_1 i) (c2 : cond0_2 i) :
    out0_C_2 c i arg3 h3 arg4 h4 arg5 h5 arg6 h6 c0 c1 c2 x y s = k0_pay3 x y s := by
  unfold out0_C_2
  rw [View.read_writes_eq_canon _ _ _ (cover0_C_2 c i arg3 h3 arg4 h4 arg5 h5 arg6 h6 c0 c1 c2 x y s)]
  unfold kernelRun0_C
  dsimp only
  sl_unfold_words
  rw [View.canon_unit_zero zero_offsets, View.readCov_unit_zero (S := S512x2432) _ zero_offsets]
  simp only [View.readAt_eq_ld, h3.read_unread, h4.read_unread, h6.read_unread, loaded_left, loaded_right, loaded_sum, shapeCast_self]

end Points

/-! ### The blocks a grid point reads -/

theorem index_left : ∀ t : Fin grid0.N, win0_0.index t 0 = t.val % 8 ∧ win0_0.index t 1 = t.val / 8 := by decide +kernel
theorem index_right : ∀ t : Fin grid0.N, win0_1.index t 0 = t.val % 8 ∧ win0_1.index t 1 = 0 := by decide +kernel

variable (m : (ℓ : Loc nD τ sig) → Buf (Elt Ideal) ℓ) (c : Dev nD) (t : Fin cfg0.N)

theorem left_at (q : Fin 2048) (r : Fin 512) (k : Fin 16384) (ρ : Fin 1024) (hk : k.val = 2048 * (t.val % 8) + q.val)
    (hρ : ρ.val = 512 * (t.val / 8) + r.val) :
    iblk m c 0 t (ix2 q r) = m ((c : Thread nD τ).loc main_arg0) (ix2 k ρ) := by
  refine (congrArg (V m c main_arg0) ?_).trans (congrFun (V_main_arg0 m c) _)
  obtain ⟨e0, e1⟩ := index_left t
  funext a
  apply Fin.ext
  match a with
  | ⟨0, _⟩ => show win0_0.index t 0 * 2048 + 1 * q.val = k.val; omega
  | ⟨1, _⟩ => show win0_0.index t 1 * 512 + 1 * r.val = ρ.val; omega

theorem right_at (q : Fin 2048) (l : Fin 2432) (k : Fin 16384) (γ : Fin 2432) (hk : k.val = 2048 * (t.val % 8) + q.val)
    (hγ : γ.val = l.val) :
    iblk m c 1 t (ix2 q l) = m ((c : Thread nD τ).loc main_arg1) (ix2 k γ) := by
  refine (congrArg (V m c main_arg1) ?_).trans (congrFun (V_main_arg1 m c) _)
  obtain ⟨e0, e1⟩ := index_right t
  funext a
  apply Fin.ext
  match a with
  | ⟨0, _⟩ => show win0_1.index t 0 * 2048 + 1 * q.val = k.val; omega
  | ⟨1, _⟩ => show win0_1.index t 1 * 2432 + 1 * l.val = γ.val; omega

/-! ### The sum over the tokens -/

/-- The terms of one entry of the gradient, token by token. -/
def terms (A : Vec Ideal S16384x1024 .bf16) (B : Vec Ideal S16384x2432 .bf16) (ρ : Fin 1024) (γ : Fin 2432) :
    Fin 16384 → EReal := fun k => A (ix2 k ρ) * B (ix2 k γ)

/-- The terms of the entry, of the arrays as launched. -/
abbrev launched (ρ : Fin 1024) (γ : Fin 2432) : Fin 16384 → EReal :=
  terms (m ((c : Thread nD τ).loc main_arg0)) (m ((c : Thread nD τ).loc main_arg1)) ρ γ

variable {r : Fin 512} {l : Fin 2432} {ρ : Fin 1024} {γ : Fin 2432}

/-- One block's product is the block's part of the sum. -/
theorem block_sum (hρ : ρ.val = 512 * (t.val / 8) + r.val) (hγ : γ.val = l.val) :
    k0_pay1 (iblk m c 0 t) (iblk m c 1 t) (ix2 r l)
      = ∑ q : Fin 2048, launched m c ρ γ ⟨2048 * (t.val % 8) + q.val, by omega⟩ :=
  (product_apply _ _ r l).trans <| Finset.sum_congr rfl fun q _ => congrArg₂ (fun u v : EReal => u * v)
    (left_at m c t q r ⟨2048 * (t.val % 8) + q.val, by omega⟩ ρ rfl hρ)
    (right_at m c t q l ⟨2048 * (t.val % 8) + q.val, by omega⟩ γ rfl hγ)

/-- At a run's first point. -/
theorem started (h : t.val % 8 = 0) (hρ : ρ.val = 512 * (t.val / 8) + r.val) (hγ : γ.val = l.val) :
    (outsAt0 m c t.val t.isLt).2 (ix2 r l) = Blocked.partialSum (launched m c ρ γ) (2048 * (t.val % 8 + 1)) := by
  rw [outsAt0_A m c t h (by omega) (by omega)]
  dsimp only
  rw [first_scratch, start_apply, block_sum m c t hρ hγ, show 2048 * (t.val % 8 + 1) = 2048 from by omega]
  refine Eq.trans ?_ (Blocked.partialSum_first (launched m c ρ γ) 2048 (by omega)).symm
  exact Finset.sum_congr rfl fun q _ => congrArg _ (Fin.ext (by show 2048 * (t.val % 8) + q.val = q.val; omega))

/-- At a later point, over what the point before left. -/
theorem continued (hρ : ρ.val = 512 * (t.val / 8) + r.val) (hγ : γ.val = l.val)
    (s : Vec Ideal S512x2432 .f32) (hs : s (ix2 r l) = Blocked.partialSum (launched m c ρ γ) (2048 * (t.val % 8))) :
    k0_pay3 (iblk m c 0 t) (iblk m c 1 t) s (ix2 r l) = Blocked.partialSum (launched m c ρ γ) (2048 * (t.val % 8 + 1)) := by
  rw [add_apply, hs, block_sum m c t hρ hγ]
  exact (Blocked.partialSum_add (launched m c ρ γ) (2048 * (t.val % 8)) 2048 (by omega)).symm

/-- What the scratch block holds after each point. -/
theorem scratch_at : ∀ (n : ℕ) (hn : n < cfg0.N), ρ.val = 512 * (n / 8) + r.val → γ.val = l.val →
    (outsAt0 m c n hn).2 (ix2 r l) = Blocked.partialSum (launched m c ρ γ) (2048 * (n % 8 + 1)) := by
  intro n
  induction n with
  | zero => exact fun hn hρ hγ => started m c ⟨0, hn⟩ rfl hρ hγ
  | succ n ih =>
    intro hn hρ hγ
    by_cases h0 : (n + 1) % 8 = 0
    · exact started m c ⟨n + 1, hn⟩ h0 hρ hγ
    · have e := ih (Nat.lt_of_succ_lt hn) (by omega) (by omega)
      rw [show n % 8 + 1 = (n + 1) % 8 from by omega] at e
      by_cases h2 : (n + 1) % 8 = 7
      · rw [outsAt0_C m c ⟨n + 1, hn⟩ h0 (by show 1 ≤ (n + 1) % 8; omega) h2]
        dsimp only
        rw [last_scratch]
        exact continued m c ⟨n + 1, hn⟩ hρ hγ _ e
      · rw [outsAt0_B m c ⟨n + 1, hn⟩ h0 (by show 1 ≤ (n + 1) % 8; omega) h2]
        dsimp only
        rw [middle_scratch]
        exact continued m c ⟨n + 1, hn⟩ hρ hγ _ e

/-- What the last point of a run stores: the whole sum. -/
theorem stored (n : ℕ) (hn : n < cfg0.N) (h : n % 8 = 7) (hρ : ρ.val = 512 * (n / 8) + r.val)
    (hγ : γ.val = l.val) :
    (outsAt0 m c n hn).1 (ix2 r l) = ∑ k, launched m c ρ γ k := by
  have e := scratch_at m c n hn hρ hγ
  rw [outsAt0_C m c ⟨n, hn⟩ (by show ¬n % 8 = 0; omega) (by show 1 ≤ n % 8; omega) h] at e ⊢
  dsimp only at e ⊢
  rw [last_scratch] at e
  rw [last_output, e, h]
  exact Blocked.partialSum_all (launched m c ρ γ)

/-- The gradient's array after the run. -/
theorem array_at (ρ : Fin 1024) (γ : Fin 2432) : Value.G2 m c (ix2 ρ γ) = ∑ k, launched m c ρ γ k := by
  have hN : cfg0.N = 16 := N_0
  have hρ := ρ.isLt
  have hγ := γ.isLt
  have hp : Value.pt2Of (ix2 ρ γ) = 8 * (ρ.val / 512) + 7 := by
    show 8 * (1 * (ρ.val / 512 - 0) + 1 * (γ.val / 2432 - 0)) + 7 = _
    omega
  have hl : Value.loc2Of (ix2 ρ γ) = ix2 ⟨ρ.val % 512, Nat.mod_lt _ (by decide)⟩ ⟨γ.val % 2432, Nat.mod_lt _ (by decide)⟩ := by
    funext a
    match a with
    | ⟨0, _⟩ => rfl
    | ⟨1, _⟩ => rfl
  have hlt : Value.pt2Of (ix2 ρ γ) < cfg0.N := by rw [hp, hN]; omega
  unfold Value.G2
  rw [dif_pos hlt, ← Value.outsAt0_sweep m c _ hlt, hl]
  exact stored m c _ _ (by omega) (by rw [hp]; show ρ.val = _ + ρ.val % 512; omega) (by show γ.val = γ.val % 2432; omega)

/-! ### The reference -/

/-- The reference's gradient. -/
theorem reference_at (A : Vec Ideal S16384x1024 .bf16) (B : Vec Ideal S16384x2432 .bf16) (ρ : Fin 1024) (γ : Fin 2432) :
    Cert.Reference9Ideal.Read.val_main_v5 A B (ix2 ρ γ) = ∑ k, terms A B ρ γ k := by
  rw [Cert.Reference9Ideal.Read.val_main_v5_apply, Cert.Reference9Ideal.Read.val_main_v4_apply]
  refine Finset.sum_congr rfl fun k _ => ?_
  rw [Cert.Reference9Ideal.Read.val_main_v3_apply, Cert.Reference9Ideal.Read.val_main_v1_apply, mul_comm]
  exact congrArg₂ (fun u v : EReal => u * v) (congrArg A (funext fun a => by fin_cases a <;> rfl))
    (congrArg B (funext fun a => by fin_cases a <;> rfl))

end ProjGrad
-- ==== Proof.Projections.lean ====
/-
  The mixer's four products with a whole weight matrix, 512 tokens to a grid point: into and out of the mixer, and the two
  gradients that go back through them.
-/
module

public import proofs.«01_k».proof.Proof.Gen.Kernel7Ideal.Value
public import proofs.«01_k».proof.Proof.Gen.Kernel8Ideal.Value
public import proofs.«01_k».proof.Proof.Gen.Kernel12Ideal.Value
public import proofs.«01_k».proof.Proof.Gen.Kernel13Ideal.Value
public import proofs.«01_k».proof.Proof.Gen.Reference7Ideal.Read
public import proofs.«01_k».proof.Proof.Gen.Reference8Ideal.Read
public import proofs.«01_k».proof.Proof.Gen.Reference12Ideal.Read
public import proofs.«01_k».proof.Proof.Gen.Reference13Ideal.Read
public import proofs.«01_k».proof.Proof.Tiles
public import Idealize.ShloMosaic.Lib.Pointwise
public import Idealize.ShloMosaic.Lib.ValueIdx

@[expose] public section

set_option maxRecDepth 16384

noncomputable section

open Idealize.ShloMosaic Idealize.ShloMosaic.TcCoe Idealize.SL.Sem Tiles

/-! ### The gradient back through the input projection -/

namespace ProjBack

open Cert.Kernel7Ideal Cert.Kernel7Ideal.Gen

theorem block_at (d : Vec Ideal S512x2432 .bf16) (w : Vec Ideal S1024x2432 .bf16) (r : Fin 512) (k : Fin 1024) :
    out0_2 d w (ix2 r k) = ∑ j : Fin 2432, d (ix2 r j) * w (ix2 k j) := by
  have hd : View.ld d r0_0 = d := View.ld_unit_zero (S := S512x2432) zero_offsets _ d
  have hw : View.ld w r0_1 = w := View.ld_unit_zero (S := S1024x2432) zero_offsets _ w
  unfold out0_2
  rw [hd, hw]
  refine (congrFun (View.canon_unit_zero zero_offsets _ _) _).trans ?_
  unfold k0_pay1
  pointwise

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (m : (ℓ : Loc nD τ sig) → Buf (Elt Ideal) ℓ) (c : Dev nD) (t : Fin cfg0.N) (r : Fin 512)

theorem left_at (j : Fin 2432) : iblk m c 0 t (ix2 r j) = m ((c : Thread nD τ).loc main_arg0) (ix2 (token t r) j) :=
  (congrArg (V m c main_arg0) (place_rows _ t r j (index_0 t) rfl rfl)).trans (congrFun (V_main_arg0 m c) _)

theorem right_at (k : Fin 1024) (j : Fin 2432) : iblk m c 1 t (ix2 k j) = m ((c : Thread nD τ).loc main_arg1) (ix2 k j) :=
  (congrArg (V m c main_arg1) (place_whole _ k j (index_1 t) rfl rfl)).trans (congrFun (V_main_arg1 m c) _)

theorem read_2 (X : Buf (Elt Ideal) ((c : Thread nD τ).loc main_v0)) (k : Fin 1024) :
    ((cfg0.win 2).blk t).view.read (Elt Ideal) X (ix2 r k) = X (ix2 (token t r) k) :=
  congrArg X (place_rows _ t r k (index_2 t) rfl rfl)

/-- The arrays as launched. -/
abbrev ds : Vec Ideal S16384x2432 .bf16 := m ((c : Thread nD τ).loc main_arg0)
abbrev ws : Vec Ideal S1024x2432 .bf16 := m ((c : Thread nD τ).loc main_arg1)

theorem array_at (k : Fin 1024) :
    (dats m 0 c).arrAt 2 cfg0.N (ix2 (token t r) k) = ∑ j : Fin 2432, ds m c (ix2 (token t r) j) * ws m c (ix2 k j) := by
  have e := (block_at (iblk m c 0 t) (iblk m c 1 t) r k).trans <| Finset.sum_congr rfl fun j _ =>
    congrArg₂ (fun u v : EReal => u * v) (left_at m c t r j) (right_at m c t k j)
  refine (read_2 c t r _ k).symm.trans (Eq.trans ?_ e)
  rw [Value.blocks2 m c t (flush0_2 t), Value.flushed2]
  generalize out0_2 (iblk m c 0 t) (iblk m c 1 t) = X
  rfl

theorem reference_at (d : Vec Ideal S16384x2432 .bf16) (w : Vec Ideal S1024x2432 .bf16) (i : Fin 16384) (k : Fin 1024) :
    Cert.Reference7Ideal.Read.val_main_v4 d w (ix2 i k) = ∑ j : Fin 2432, d (ix2 i j) * w (ix2 k j) := by
  unfold Cert.Reference7Ideal.Read.val_main_v4 Cert.Reference7Ideal.Read.val_main_v3 Cert.Reference7Ideal.Read.val_main_v1
  pointwise

end ProjBack

/-! ### The gradient back through the output projection -/

namespace OutBack

open Cert.Kernel8Ideal Cert.Kernel8Ideal.Gen

theorem block_at (d : Vec Ideal S512x1024 .f32) (w : Vec Ideal S1024x1024 .bf16) (r : Fin 512) (k : Fin 1024) :
    out0_2 d w (ix2 r k) = ∑ j : Fin 1024, d (ix2 r j) * w (ix2 k j) := by
  have hd : View.ld d r0_0 = d := View.ld_unit_zero (S := S512x1024) zero_offsets _ d
  have hw : View.ld w r0_1 = w := View.ld_unit_zero (S := S1024x1024) zero_offsets _ w
  unfold out0_2
  rw [hd, hw]
  refine (congrFun (View.canon_unit_zero zero_offsets _ _) _).trans ?_
  unfold k0_pay1
  pointwise

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (m : (ℓ : Loc nD τ sig) → Buf (Elt Ideal) ℓ) (c : Dev nD) (t : Fin cfg0.N) (r : Fin 512)

theorem left_at (j : Fin 1024) : iblk m c 0 t (ix2 r j) = m ((c : Thread nD τ).loc main_arg0) (ix2 (token t r) j) :=
  (congrArg (V m c main_arg0) (place_rows _ t r j (index_0 t) rfl rfl)).trans (congrFun (V_main_arg0 m c) _)

theorem right_at (k j : Fin 1024) : iblk m c 1 t (ix2 k j) = m ((c : Thread nD τ).loc main_arg1) (ix2 k j) :=
  (congrArg (V m c main_arg1) (place_whole _ k j (index_1 t) rfl rfl)).trans (congrFun (V_main_arg1 m c) _)

theorem read_2 (X : Buf (Elt Ideal) ((c : Thread nD τ).loc main_v0)) (k : Fin 1024) :
    ((cfg0.win 2).blk t).view.read (Elt Ideal) X (ix2 r k) = X (ix2 (token t r) k) :=
  congrArg X (place_rows _ t r k (index_2 t) rfl rfl)

/-- The arrays as launched. -/
abbrev ds : Vec Ideal S16384x1024 .f32 := m ((c : Thread nD τ).loc main_arg0)
abbrev ws : Vec Ideal S1024x1024 .bf16 := m ((c : Thread nD τ).loc main_arg1)

theorem array_at (k : Fin 1024) :
    (dats m 0 c).arrAt 2 cfg0.N (ix2 (token t r) k) = ∑ j : Fin 1024, ds m c (ix2 (token t r) j) * ws m c (ix2 k j) := by
  have e := (block_at (iblk m c 0 t) (iblk m c 1 t) r k).trans <| Finset.sum_congr rfl fun j _ =>
    congrArg₂ (fun u v : EReal => u * v) (left_at m c t r j) (right_at m c t k j)
  refine (read_2 c t r _ k).symm.trans (Eq.trans ?_ e)
  rw [Value.blocks2 m c t (flush0_2 t), Value.flushed2]
  generalize out0_2 (iblk m c 0 t) (iblk m c 1 t) = X
  rfl

theorem reference_at (d : Vec Ideal S16384x1024 .f32) (w : Vec Ideal S1024x1024 .bf16) (i : Fin 16384) (k : Fin 1024) :
    Cert.Reference8Ideal.Read.val_main_v3 d w (ix2 i k) = ∑ j : Fin 1024, d (ix2 i j) * w (ix2 k j) := by
  unfold Cert.Reference8Ideal.Read.val_main_v3 Cert.Reference8Ideal.Read.val_main_v1
  pointwise

end OutBack

/-! ### The input projection -/

namespace ProjIn

open Cert.Kernel12Ideal Cert.Kernel12Ideal.Gen

theorem block_at (h : Vec Ideal S512x1024 .bf16) (w : Vec Ideal S1024x2432 .bf16) (r : Fin 512) (j : Fin 2432) :
    out0_2 h w (ix2 r j) = ∑ k : Fin 1024, h (ix2 r k) * w (ix2 k j) := by
  have hd : View.ld h r0_0 = h := View.ld_unit_zero (S := S512x1024) zero_offsets _ h
  have hw : View.ld w r0_1 = w := View.ld_unit_zero (S := S1024x2432) zero_offsets _ w
  unfold out0_2
  rw [hd, hw]
  refine (congrFun (View.canon_unit_zero zero_offsets _ _) _).trans ?_
  unfold k0_pay1
  pointwise

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (m : (ℓ : Loc nD τ sig) → Buf (Elt Ideal) ℓ) (c : Dev nD) (t : Fin cfg0.N) (r : Fin 512)

theorem left_at (k : Fin 1024) : iblk m c 0 t (ix2 r k) = m ((c : Thread nD τ).loc main_arg0) (ix2 (token t r) k) :=
  (congrArg (V m c main_arg0) (place_rows _ t r k (index_0 t) rfl rfl)).trans (congrFun (V_main_arg0 m c) _)

theorem right_at (k : Fin 1024) (j : Fin 2432) : iblk m c 1 t (ix2 k j) = m ((c : Thread nD τ).loc main_arg1) (ix2 k j) :=
  (congrArg (V m c main_arg1) (place_whole _ k j (index_1 t) rfl rfl)).trans (congrFun (V_main_arg1 m c) _)

theorem read_2 (X : Buf (Elt Ideal) ((c : Thread nD τ).loc main_v0)) (j : Fin 2432) :
    ((cfg0.win 2).blk t).view.read (Elt Ideal) X (ix2 r j) = X (ix2 (token t r) j) :=
  congrArg X (place_rows _ t r j (index_2 t) rfl rfl)

/-- The arrays as launched. -/
abbrev hs : Vec Ideal S16384x1024 .bf16 := m ((c : Thread nD τ).loc main_arg0)
abbrev ws : Vec Ideal S1024x2432 .bf16 := m ((c : Thread nD τ).loc main_arg1)

theorem array_at (j : Fin 2432) :
    (dats m 0 c).arrAt 2 cfg0.N (ix2 (token t r) j) = ∑ k : Fin 1024, hs m c (ix2 (token t r) k) * ws m c (ix2 k j) := by
  have e := (block_at (iblk m c 0 t) (iblk m c 1 t) r j).trans <| Finset.sum_congr rfl fun k _ =>
    congrArg₂ (fun u v : EReal => u * v) (left_at m c t r k) (right_at m c t k j)
  refine (read_2 c t r _ j).symm.trans (Eq.trans ?_ e)
  rw [Value.blocks2 m c t (flush0_2 t), Value.flushed2]
  generalize out0_2 (iblk m c 0 t) (iblk m c 1 t) = X
  rfl

theorem reference_at (h : Vec Ideal S16384x1024 .bf16) (w : Vec Ideal S1024x2432 .bf16) (i : Fin 16384) (j : Fin 2432) :
    Cert.Reference12Ideal.Read.val_main_v2 h w (ix2 i j) = ∑ k : Fin 1024, h (ix2 i k) * w (ix2 k j) := by
  unfold Cert.Reference12Ideal.Read.val_main_v2 Cert.Reference12Ideal.Read.val_main_v1 Cert.Reference12Ideal.Read.val_main_v0
  pointwise

end ProjIn

/-! ### The output projection, added to the residual -/

namespace ProjOut

open Cert.Kernel13Ideal Cert.Kernel13Ideal.Gen

theorem block_at (h : Vec Ideal S512x1024 .bf16) (w : Vec Ideal S1024x1024 .bf16) (x : Vec Ideal S512x1024 .f32)
    (r : Fin 512) (j : Fin 1024) : out0_3 h w x (ix2 r j) = x (ix2 r j) + ∑ k : Fin 1024, h (ix2 r k) * w (ix2 k j) := by
  have hd : View.ld h r0_0 = h := View.ld_unit_zero (S := S512x1024) zero_offsets _ h
  have hw : View.ld w r0_1 = w := View.ld_unit_zero (S := S1024x1024) zero_offsets _ w
  have hx : View.ld x r0_0 = x := View.ld_unit_zero (S := S512x1024) zero_offsets _ x
  unfold out0_3
  rw [hd, hw, hx]
  refine (congrFun (View.canon_unit_zero zero_offsets _ _) _).trans ?_
  unfold k0_pay1
  pointwise

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel

variable (m : (ℓ : Loc nD τ sig) → Buf (Elt Ideal) ℓ) (c : Dev nD) (t : Fin cfg0.N) (r : Fin 512)

theorem left_at (k : Fin 1024) : iblk m c 0 t (ix2 r k) = m ((c : Thread nD τ).loc main_arg0) (ix2 (token t r) k) :=
  (congrArg (V m c main_arg0) (place_rows _ t r k (index_0 t) rfl rfl)).trans (congrFun (V_main_arg0 m c) _)

theorem right_at (k j : Fin 1024) : iblk m c 1 t (ix2 k j) = m ((c : Thread nD τ).loc main_arg1) (ix2 k j) :=
  (congrArg (V m c main_arg1) (place_whole _ k j (index_1 t) rfl rfl)).trans (congrFun (V_main_arg1 m c) _)

theorem residual_at (j : Fin 1024) : iblk m c 2 t (ix2 r j) = m ((c : Thread nD τ).loc main_arg2) (ix2 (token t r) j) :=
  (congrArg (V m c main_arg2) (place_rows _ t r j (index_2 t) rfl rfl)).trans (congrFun (V_main_arg2 m c) _)

theorem read_3 (X : Buf (Elt Ideal) ((c : Thread nD τ).loc main_v0)) (j : Fin 1024) :
    ((cfg0.win 3).blk t).view.read (Elt Ideal) X (ix2 r j) = X (ix2 (token t r) j) :=
  congrArg X (place_rows _ t r j (index_3 t) rfl rfl)

/-- The arrays as launched. -/
abbrev hs : Vec Ideal S16384x1024 .bf16 := m ((c : Thread nD τ).loc main_arg0)
abbrev ws : Vec Ideal S1024x1024 .bf16 := m ((c : Thread nD τ).loc main_arg1)
abbrev xs : Vec Ideal S16384x1024 .f32 := m ((c : Thread nD τ).loc main_arg2)

theorem array_at (j : Fin 1024) : (dats m 0 c).arrAt 3 cfg0.N (ix2 (token t r) j)
    = xs m c (ix2 (token t r) j) + ∑ k : Fin 1024, hs m c (ix2 (token t r) k) * ws m c (ix2 k j) := by
  have e := (block_at (iblk m c 0 t) (iblk m c 1 t) (iblk m c 2 t) r j).trans <|
    congrArg₂ (fun u v : EReal => u + v) (residual_at m c t r j) <| Finset.sum_congr rfl fun k _ =>
      congrArg₂ (fun u v : EReal => u * v) (left_at m c t r k) (right_at m c t k j)
  refine (read_3 c t r _ j).symm.trans (Eq.trans ?_ e)
  rw [Value.blocks3 m c t (flush0_3 t), Value.flushed3]
  generalize out0_3 (iblk m c 0 t) (iblk m c 1 t) (iblk m c 2 t) = X
  rfl

theorem reference_at (h : Vec Ideal S16384x1024 .bf16) (w : Vec Ideal S1024x1024 .bf16) (x : Vec Ideal S16384x1024 .f32)
    (i : Fin 16384) (j : Fin 1024) :
    Cert.Reference13Ideal.Read.val_main_v3 h w x (ix2 i j) = x (ix2 i j) + ∑ k : Fin 1024, h (ix2 i k) * w (ix2 k j) := by
  unfold Cert.Reference13Ideal.Read.val_main_v3 Cert.Reference13Ideal.Read.val_main_v2 Cert.Reference13Ideal.Read.val_main_v1
    Cert.Reference13Ideal.Read.val_main_v0
  pointwise

end ProjOut

end
-- ==== Proof.Mixer.lean ====
/-
  The calls around the mixer (its norm, its input and output projections, and their gradients): each array a kernel's run
  leaves is the result of the plain mathematics on the same arguments.
-/
module

public import proofs.«01_k».proof.Proof.FeedForward
public import proofs.«01_k».proof.Proof.MixBack
public import proofs.«01_k».proof.Proof.MixNorm
public import proofs.«01_k».proof.Proof.OutGrad
public import proofs.«01_k».proof.Proof.ProjGrad
public import proofs.«01_k».proof.Proof.Projections
public import proofs.«01_k».proof.Proof.RowBack

@[expose] public section

set_option maxRecDepth 16384

noncomputable section

namespace Mixer

open Idealize.ShloMosaic Idealize.ShloMosaic.TcCoe Idealize.SL.Sem FeedForward Tiles

/-! ### The norm and its gradients -/

section NormBack
open Cert.Kernel6Ideal Cert.Kernel6Ideal.Gen Cert.Reference6Ideal.Read MixBack
variable (m : (ℓ : Loc nD τ sig) → Buf (Elt Ideal) ℓ) (c : Dev nD)

theorem norm_row : (dats m 0 c).arrAt 4 cfg0.N = val_main_v34 (F := Ideal) (xs m c) (gs m c) (es m c) (ds m c) :=
  table_ext fun i k => by
    obtain ⟨t, r, rfl⟩ := token_exists i
    exact (row_out m c t r k).trans ((reference_row _ _ _ _ _ k).trans (rowBack_all _ _ _ _ k)).symm

theorem norm_gain : (dats m 0 c).arrAt 5 cfg0.N = val_main_v17 (F := Ideal) (xs m c) (es m c) :=
  table_ext fun i k => by
    obtain rfl : i = 0 := Subsingleton.elim _ _
    exact (gain_out m c k).trans (reference_gain _ _ k).symm

end NormBack

section Norm
open Cert.Kernel11Ideal Cert.Kernel11Ideal.Gen MixNorm
variable (m : (ℓ : Loc nD τ sig) → Buf (Elt Ideal) ℓ) (c : Dev nD)

theorem norm_out : (dats m 0 c).arrAt 2 cfg0.N = Cert.Reference11Ideal.Read.val_main_v12 (F := Ideal) (xs m c) (gs m c) :=
  table_ext fun i k => by
    obtain ⟨t, r, rfl⟩ := token_exists i
    exact (array_at m c t r k).trans (reference_at _ _ _ k).symm

end Norm

/-! ### The projections -/

section In
open Cert.Kernel12Ideal Cert.Kernel12Ideal.Gen ProjIn
variable (m : (ℓ : Loc nD τ sig) → Buf (Elt Ideal) ℓ) (c : Dev nD)

theorem projected : (dats m 0 c).arrAt 2 cfg0.N = Cert.Reference12Ideal.Read.val_main_v2 (F := Ideal) (hs m c) (ws m c) :=
  table_ext fun i k => by
    obtain ⟨t, r, rfl⟩ := token_exists i
    exact (array_at m c t r k).trans (reference_at _ _ _ k).symm

end In

section Out
open Cert.Kernel13Ideal Cert.Kernel13Ideal.Gen ProjOut
variable (m : (ℓ : Loc nD τ sig) → Buf (Elt Ideal) ℓ) (c : Dev nD)

theorem mixed : (dats m 0 c).arrAt 3 cfg0.N
    = Cert.Reference13Ideal.Read.val_main_v3 (F := Ideal) (hs m c) (ws m c) (xs m c) :=
  table_ext fun i k => by
    obtain ⟨t, r, rfl⟩ := token_exists i
    exact (array_at m c t r k).trans (reference_at _ _ _ _ k).symm

end Out

/-! ### The projections' gradients -/

section InBack
open Cert.Kernel7Ideal Cert.Kernel7Ideal.Gen ProjBack
variable (m : (ℓ : Loc nD τ sig) → Buf (Elt Ideal) ℓ) (c : Dev nD)

theorem projected_back : (dats m 0 c).arrAt 2 cfg0.N
    = Cert.Reference7Ideal.Read.val_main_v4 (F := Ideal) (ds m c) (ws m c) :=
  table_ext fun i k => by
    obtain ⟨t, r, rfl⟩ := token_exists i
    exact (array_at m c t r k).trans (reference_at _ _ _ k).symm

end InBack

section OutBack
open Cert.Kernel8Ideal Cert.Kernel8Ideal.Gen _root_.OutBack
variable (m : (ℓ : Loc nD τ sig) → Buf (Elt Ideal) ℓ) (c : Dev nD)

theorem mixed_back : (dats m 0 c).arrAt 2 cfg0.N = Cert.Reference8Ideal.Read.val_main_v3 (F := Ideal) (ds m c) (ws m c) :=
  table_ext fun i k => by
    obtain ⟨t, r, rfl⟩ := token_exists i
    exact (array_at m c t r k).trans (reference_at _ _ _ k).symm

end OutBack

section InGrad
open Cert.Kernel9Ideal Cert.Kernel9Ideal.Gen
variable (m : (ℓ : Loc nD τ sig) → Buf (Elt Ideal) ℓ) (c : Dev nD)

theorem in_gradient : Value.G2 m c = Cert.Reference9Ideal.Read.val_main_v5 (F := Ideal)
    (m ((c : Thread nD τ).loc main_arg0)) (m ((c : Thread nD τ).loc main_arg1)) :=
  table_ext fun i j => (ProjGrad.array_at m c i j).trans (ProjGrad.reference_at _ _ i j).symm

end InGrad

section OutGradient
open Cert.Kernel10Ideal Cert.Kernel10Ideal.Gen
variable (m : (ℓ : Loc nD τ sig) → Buf (Elt Ideal) ℓ) (c : Dev nD)

theorem out_gradient : Value.G2 m c = Cert.Reference10Ideal.Read.val_main_v4 (F := Ideal)
    (m ((c : Thread nD τ).loc main_arg0)) (m ((c : Thread nD τ).loc main_arg1)) :=
  table_ext fun i j => (OutGrad.array_at m c i j).trans (OutGrad.reference_at _ _ i j).symm

end OutGradient

end Mixer
-- ==== Proof.lean ====
/-
  The proof of `Cert.Claim`: each of the thirteen kernels and its idealization frame their runs, and at the ideal values
  each kernel computes what the plain mathematics gives: the attention's gradients, the feed-forward branch, its gradients
  and those of its weights, the mixer's norm and projections, their gradients and those of their weights.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Adam
public import proofs.«01_k».proof.Proof.Assembly
public import proofs.«01_k».proof.Proof.FeedForward
public import proofs.«01_k».proof.Proof.LossHead
public import proofs.«01_k».proof.Proof.Mixer
public import Idealize.ShloMosaic.Adequacy
public import Idealize.ShloMosaic.Init

@[expose] public section

noncomputable section

namespace Cert.Proof

open Idealize.ShloMosaic Idealize.SL.Sem

/-! ### The plain mathematics frames its runs: it declares no semaphore -/

theorem plainFrame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem plainFrame2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem plainFrame3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem plainFrame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem plainFrame5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem plainFrame6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem plainFrame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem plainFrame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem plainFrame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem plainFrame10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem plainFrame11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem plainFrame12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem plainFrame13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem plainFrame14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem plainFrame15 : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-! ### Equal results -/

/-- From memories agreeing on finite arguments, the attention's gradient kernel and the plain mathematics end with equal
results. -/
theorem value [Cert.Pre_finite.Facts] : algebraic_KernelIdeal_ReferenceIdeal_pre_finite := by
  intro m g m' g' hpre hargs
  have ht (c : Dev Cert.KernelIdeal.nD) := Attn.tables_of_finite (hpre c)
  refine ⟨_, _, _, Cert.KernelIdeal.Value.run_blocks m g,
    (θ_run Cert.ReferenceIdeal.defs _ _).mono (fun _ h c => ?_) (Cert.ReferenceIdeal.Value.run m' g')⟩
  obtain ⟨h0, h1, h2, h3, h4⟩ := ht c
  obtain ⟨a0, a1, a2, a3, a4⟩ := hargs c
  obtain ⟨r0, r1, r2, kept⟩ := h c
  refine ⟨?_, ?_, ?_, kept⟩
  · rw [r0, Cert.ReferenceIdeal.Read.val_main_v77_eq, a0, a1, a2, a3, a4]
    exact (Attn.first_eq h0 h1 h2 h3 h4).symm
  · rw [r1, Cert.ReferenceIdeal.Read.val_main_v79_eq, a0, a1, a2, a3, a4]
    exact (Attn.second_eq h0 h1 h2 h3 h4).symm
  · rw [r2, Cert.ReferenceIdeal.Read.val_main_v81_eq, a0, a1, a3]
    exact (Attn.third_eq h0 h1 h2 h3 h4).symm

/-- The same of the feed-forward branch's gradient kernel. -/
theorem value2 [Cert.Pre_finite2.Facts] : algebraic_Kernel2Ideal_Reference2Ideal_pre_finite2 := by
  intro m g m' g' hpre hargs
  have hr (c : Dev Cert.Kernel2Ideal.nD) := FeedForward.real_of_finite (hpre c)
  refine ⟨_, _, _, _, _, _, Cert.Kernel2Ideal.Value.run_blocks m g,
    (θ_run Cert.Reference2Ideal.defs _ _).mono (fun _ h c => ?_) (Cert.Reference2Ideal.Value.run m' g')⟩
  obtain ⟨h0, h1, h2, h3, h4, h5⟩ := hr c
  obtain ⟨a0, a1, a2, a3, a4, a5⟩ := hargs c
  obtain ⟨r0, r1, r2, r3, r4, r5, kept⟩ := h c
  refine ⟨?_, ?_, ?_, ?_, ?_, ?_, kept⟩
  · rw [r0, Cert.Reference2Ideal.Read.val_main_v55_eq, a0, a1, a2, a3, a4, a5]
    exact (FeedForward.backward_row h0 h1 h2 h3 h4 h5).symm
  · rw [r1, Cert.Reference2Ideal.Read.val_main_v38_eq, a0, a1, a2, a3, a4, a5]
    exact (FeedForward.backward_gain h0 h1 h2 h3 h4 h5).symm
  · rw [r2, Cert.Reference2Ideal.Read.val_main_v83_eq, a0, a1]
    exact FeedForward.backward_normed.symm
  · rw [r3, Cert.Reference2Ideal.Read.val_main_v84_eq, a0, a1, a3, a4]
    exact FeedForward.backward_act.symm
  · rw [r4, Cert.Reference2Ideal.Read.val_main_v85_eq, a0, a1, a2, a3, a4, a5]
    exact (FeedForward.backward_gate h0 h1 h2 h3 h4 h5).symm
  · rw [r5, Cert.Reference2Ideal.Read.val_main_v86_eq, a0, a1, a2, a3, a5]
    exact FeedForward.backward_up.symm

/-- From memories agreeing on the arguments, the feed-forward kernel and the plain mathematics end with equal results. -/
theorem value3 : algebraic_Kernel3Ideal_Reference3Ideal := by
  intro m g m' g' _ hargs
  refine ⟨_, _, _, Cert.Kernel3Ideal.Value.run_blocks m g,
    (θ_run Cert.Reference3Ideal.defs _ _).mono (fun _ h c => ?_) (Cert.Reference3Ideal.Value.run m' g')⟩
  obtain ⟨a0, a1, a2, a3, a4⟩ := hargs c
  obtain ⟨r0, r1, r2, kept⟩ := h c
  refine ⟨?_, ?_, ?_, kept⟩
  · rw [r0, Cert.Reference3Ideal.Read.val_main_v34_eq, a0, a1, a2, a3, a4]
    exact (FeedForward.forward_out m c).symm
  · rw [r1, Cert.Reference3Ideal.Read.val_main_v36_eq, a0, a1, a2]
    exact (FeedForward.forward_gates m c).symm
  · rw [r2, Cert.Reference3Ideal.Read.val_main_v38_eq, a0, a1, a3]
    exact (FeedForward.forward_ups m c).symm

/-- The same of the kernel of the gate's and the up-projection's weight gradients. -/
theorem value4 : algebraic_Kernel4Ideal_Reference4Ideal := by
  intro m g m' g' _ hargs
  refine ⟨_, Cert.Kernel4Ideal.Value.run m g,
    (θ_run Cert.Reference4Ideal.defs _ _).mono (fun _ h c => ?_) (Cert.Reference4Ideal.Value.run m' g')⟩
  obtain ⟨a0, a1⟩ := hargs c
  obtain ⟨r0, kept⟩ := h c
  refine ⟨?_, kept⟩
  rw [r0, Cert.Reference4Ideal.Read.val_main_v5_eq, a0, a1]
  exact (FeedForward.gate_gradient m c).symm

/-- The same of the kernel of the down-projection's weight gradient. -/
theorem value5 : algebraic_Kernel5Ideal_Reference5Ideal := by
  intro m g m' g' _ hargs
  refine ⟨_, Cert.Kernel5Ideal.Value.run m g,
    (θ_run Cert.Reference5Ideal.defs _ _).mono (fun _ h c => ?_) (Cert.Reference5Ideal.Value.run m' g')⟩
  obtain ⟨a0, a1⟩ := hargs c
  obtain ⟨r0, kept⟩ := h c
  refine ⟨?_, kept⟩
  rw [r0, Cert.Reference5Ideal.Read.val_main_v8_eq, a0, a1]
  exact (FeedForward.down_gradient m c).symm

/-- The same of the kernel of the gradients of the mixer's norm. -/
theorem value6 : algebraic_Kernel6Ideal_Reference6Ideal := by
  intro m g m' g' _ hargs
  refine ⟨_, _, Cert.Kernel6Ideal.Value.run_blocks m g,
    (θ_run Cert.Reference6Ideal.defs _ _).mono (fun _ h c => ?_) (Cert.Reference6Ideal.Value.run m' g')⟩
  obtain ⟨a0, a1, a2, a3⟩ := hargs c
  obtain ⟨r0, r1, kept⟩ := h c
  refine ⟨?_, ?_, kept⟩
  · rw [r0, Cert.Reference6Ideal.Read.val_main_v34_eq, a0, a1, a2, a3]
    exact (Mixer.norm_row m c).symm
  · rw [r1, Cert.Reference6Ideal.Read.val_main_v17_eq, a0, a2]
    exact (Mixer.norm_gain m c).symm

/-- The same of the kernel of the gradient through the input projection. -/
theorem value7 : algebraic_Kernel7Ideal_Reference7Ideal := by
  intro m g m' g' _ hargs
  refine ⟨_, Cert.Kernel7Ideal.Value.run_blocks m g,
    (θ_run Cert.Reference7Ideal.defs _ _).mono (fun _ h c => ?_) (Cert.Reference7Ideal.Value.run m' g')⟩
  obtain ⟨a0, a1⟩ := hargs c
  obtain ⟨r0, kept⟩ := h c
  refine ⟨?_, kept⟩
  rw [r0, Cert.Reference7Ideal.Read.val_main_v4_eq, a0, a1]
  exact (Mixer.projected_back m c).symm

/-- The same of the kernel of the gradient through the output projection. -/
theorem value8 : algebraic_Kernel8Ideal_Reference8Ideal := by
  intro m g m' g' _ hargs
  refine ⟨_, Cert.Kernel8Ideal.Value.run_blocks m g,
    (θ_run Cert.Reference8Ideal.defs _ _).mono (fun _ h c => ?_) (Cert.Reference8Ideal.Value.run m' g')⟩
  obtain ⟨a0, a1⟩ := hargs c
  obtain ⟨r0, kept⟩ := h c
  refine ⟨?_, kept⟩
  rw [r0, Cert.Reference8Ideal.Read.val_main_v3_eq, a0, a1]
  exact (Mixer.mixed_back m c).symm

/-- The same of the kernel of the input projection's weight gradient. -/
theorem value9 : algebraic_Kernel9Ideal_Reference9Ideal := by
  intro m g m' g' _ hargs
  refine ⟨_, Cert.Kernel9Ideal.Value.run m g,
    (θ_run Cert.Reference9Ideal.defs _ _).mono (fun _ h c => ?_) (Cert.Reference9Ideal.Value.run m' g')⟩
  obtain ⟨a0, a1⟩ := hargs c
  obtain ⟨r0, kept⟩ := h c
  refine ⟨?_, kept⟩
  rw [r0, Cert.Reference9Ideal.Read.val_main_v5_eq, a0, a1]
  exact (Mixer.in_gradient m c).symm

/-- The same of the kernel of the output projection's weight gradient. -/
theorem value10 : algebraic_Kernel10Ideal_Reference10Ideal := by
  intro m g m' g' _ hargs
  refine ⟨_, Cert.Kernel10Ideal.Value.run m g,
    (θ_run Cert.Reference10Ideal.defs _ _).mono (fun _ h c => ?_) (Cert.Reference10Ideal.Value.run m' g')⟩
  obtain ⟨a0, a1⟩ := hargs c
  obtain ⟨r0, kept⟩ := h c
  refine ⟨?_, kept⟩
  rw [r0, Cert.Reference10Ideal.Read.val_main_v4_eq, a0, a1]
  exact (Mixer.out_gradient m c).symm

/-- The same of the kernel of the mixer's norm. -/
theorem value11 : algebraic_Kernel11Ideal_Reference11Ideal := by
  intro m g m' g' _ hargs
  refine ⟨_, Cert.Kernel11Ideal.Value.run_blocks m g,
    (θ_run Cert.Reference11Ideal.defs _ _).mono (fun _ h c => ?_) (Cert.Reference11Ideal.Value.run m' g')⟩
  obtain ⟨a0, a1⟩ := hargs c
  obtain ⟨r0, kept⟩ := h c
  refine ⟨?_, kept⟩
  rw [r0, Cert.Reference11Ideal.Read.val_main_v12_eq, a0, a1]
  exact (Mixer.norm_out m c).symm

/-- The same of the kernel of the input projection. -/
theorem value12 : algebraic_Kernel12Ideal_Reference12Ideal := by
  intro m g m' g' _ hargs
  refine ⟨_, Cert.Kernel12Ideal.Value.run_blocks m g,
    (θ_run Cert.Reference12Ideal.defs _ _).mono (fun _ h c => ?_) (Cert.Reference12Ideal.Value.run m' g')⟩
  obtain ⟨a0, a1⟩ := hargs c
  obtain ⟨r0, kept⟩ := h c
  refine ⟨?_, kept⟩
  rw [r0, Cert.Reference12Ideal.Read.val_main_v2_eq, a0, a1]
  exact (Mixer.projected m c).symm

/-- The same of the kernel of the output projection. -/
theorem value13 : algebraic_Kernel13Ideal_Reference13Ideal := by
  intro m g m' g' _ hargs
  refine ⟨_, Cert.Kernel13Ideal.Value.run_blocks m g,
    (θ_run Cert.Reference13Ideal.defs _ _).mono (fun _ h c => ?_) (Cert.Reference13Ideal.Value.run m' g')⟩
  obtain ⟨a0, a1, a2⟩ := hargs c
  obtain ⟨r0, kept⟩ := h c
  refine ⟨?_, kept⟩
  rw [r0, Cert.Reference13Ideal.Read.val_main_v3_eq, a0, a1, a2]
  exact (Mixer.mixed m c).symm

/-- The same of the kernel of the loss with the final norm. -/
theorem value14 : algebraic_Kernel14Ideal_Reference14Ideal := by
  intro m g m' g' _ hargs
  refine ⟨_, _, _, Cert.Kernel14Ideal.Value.run_blocks m g,
    (θ_run Cert.Reference14Ideal.defs _ _).mono (fun _ h c => ?_) (Cert.Reference14Ideal.Value.run m' g')⟩
  obtain ⟨a0, a1, a2⟩ := hargs c
  obtain ⟨r0, r1, r2, kept⟩ := h c
  refine ⟨?_, ?_, ?_, kept⟩
  · rw [r0, Cert.Reference14Ideal.Read.val_main_v49_eq, a0, a1, a2]
    exact (LossHead.loss m c).symm
  · rw [r1, Cert.Reference14Ideal.Read.val_main_v48_eq, a0, a1, a2]
    exact (LossHead.row_gradient m c).symm
  · rw [r2, Cert.Reference14Ideal.Read.val_main_v32_eq, a0, a1, a2]
    exact (LossHead.gain_gradient m c).symm

/-- The same of the kernel of the optimiser's update of the small weights. -/
theorem value15 : algebraic_Kernel15Ideal_Reference15Ideal := by
  intro m g m' g' _ hargs
  refine ⟨_, _, _, _, Cert.Kernel15Ideal.Value.run_blocks m g,
    (θ_run Cert.Reference15Ideal.defs _ _).mono (fun _ h c => ?_) (Cert.Reference15Ideal.Value.run m' g')⟩
  obtain ⟨a0, a1, a2, a3⟩ := hargs c
  obtain ⟨r0, r1, r2, r3, kept⟩ := h c
  refine ⟨?_, ?_, ?_, ?_, kept⟩
  · rw [r0, Cert.Reference15Ideal.Read.val_main_v0_eq, a0]
    exact (Adam.gradient m c).symm
  · rw [r1, Cert.Reference15Ideal.Read.val_main_v24_eq, a0, a1, a2, a3]
    exact (Adam.step m c).symm
  · rw [r2, Cert.Reference15Ideal.Read.val_main_v5_eq, a0, a2]
    exact (Adam.first_moment m c).symm
  · rw [r3, Cert.Reference15Ideal.Read.val_main_v11_eq, a0, a3]
    exact (Adam.second_moment m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Attn.preFacts, FeedForward.preFacts,
    fun m ρ _ => Cert.Kernel.Gen.frame m ρ, fun m ρ _ => Cert.KernelIdeal.Gen.frame m ρ,
    fun m ρ _ => Cert.KernelIdeal.Gen.frame m ρ, plainFrame, fun m ρ _ => plainFrame m ρ trivial,
    fun m ρ _ => Cert.Kernel2.Gen.frame m ρ, fun m ρ _ => Cert.Kernel2Ideal.Gen.frame m ρ,
    fun m ρ _ => Cert.Kernel2Ideal.Gen.frame m ρ, plainFrame2, fun m ρ _ => plainFrame2 m ρ trivial,
    fun m ρ _ => Cert.Kernel3.Gen.frame m ρ, fun m ρ _ => Cert.Kernel3Ideal.Gen.frame m ρ, plainFrame3,
    fun m ρ _ => Cert.Kernel4.Gen.frame m ρ, fun m ρ _ => Cert.Kernel4Ideal.Gen.frame m ρ, plainFrame4,
    fun m ρ _ => Cert.Kernel5.Gen.frame m ρ, fun m ρ _ => Cert.Kernel5Ideal.Gen.frame m ρ, plainFrame5,
    fun m ρ _ => Cert.Kernel6.Gen.frame m ρ, fun m ρ _ => Cert.Kernel6Ideal.Gen.frame m ρ, plainFrame6,
    fun m ρ _ => Cert.Kernel7.Gen.frame m ρ, fun m ρ _ => Cert.Kernel7Ideal.Gen.frame m ρ, plainFrame7,
    fun m ρ _ => Cert.Kernel8.Gen.frame m ρ, fun m ρ _ => Cert.Kernel8Ideal.Gen.frame m ρ, plainFrame8,
    fun m ρ _ => Cert.Kernel9.Gen.frame m ρ, fun m ρ _ => Cert.Kernel9Ideal.Gen.frame m ρ, plainFrame9,
    fun m ρ _ => Cert.Kernel10.Gen.frame m ρ, fun m ρ _ => Cert.Kernel10Ideal.Gen.frame m ρ, plainFrame10,
    fun m ρ _ => Cert.Kernel11.Gen.frame m ρ, fun m ρ _ => Cert.Kernel11Ideal.Gen.frame m ρ, plainFrame11,
    fun m ρ _ => Cert.Kernel12.Gen.frame m ρ, fun m ρ _ => Cert.Kernel12Ideal.Gen.frame m ρ, plainFrame12,
    fun m ρ _ => Cert.Kernel13.Gen.frame m ρ, fun m ρ _ => Cert.Kernel13Ideal.Gen.frame m ρ, plainFrame13,
    fun m ρ _ => Cert.Kernel14.Gen.frame m ρ, fun m ρ _ => Cert.Kernel14Ideal.Gen.frame m ρ, plainFrame14,
    fun m ρ _ => Cert.Kernel15.Gen.frame m ρ, fun m ρ _ => Cert.Kernel15Ideal.Gen.frame m ρ, plainFrame15,
    trivial, (letI := Attn.preFacts; value), trivial, (letI := FeedForward.preFacts; value2), trivial, value3, trivial, value4,
    trivial, value5, trivial, value6, trivial, value7, trivial, value8, trivial, value9, trivial, value10, trivial, value11,
    trivial, value12, trivial, value13, trivial, value14, trivial, value15⟩

end Cert.Proof

end
